-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rope_inputs_KernelIdeal [hPre_rope_inputs_KernelIdeal : Cert.Pre_rope_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_rope_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_rope_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_rope_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_rope_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_rope_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_rope_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rope_inputs_ReferenceIdeal [hPre_rope_inputs_ReferenceIdeal : Cert.Pre_rope_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rope_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_rope_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_rope_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_rope_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_rope_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_rope_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_rope_inputs_KernelIdeal [hKernelIdeal : Cert.KernelIdeal.Facts] [hPre_rope_inputs_KernelIdeal : Cert.Pre_rope_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rope_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_rope_inputs_ReferenceIdeal [hReferenceIdeal : Cert.ReferenceIdeal.Facts] [hPre_rope_inputs_ReferenceIdeal : Cert.Pre_rope_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rope_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_rope_inputs_KernelIdeal [hKernelIdeal : Cert.KernelIdeal.Facts] [hReferenceIdeal : Cert.ReferenceIdeal.Facts] [hPre_rope_inputs_KernelIdeal : Cert.Pre_rope_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rope_inputs_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 1024, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 1024, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v70) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_rope_inputs_KernelIdeal : Cert.Pre_rope_inputs_KernelIdeal.Facts) (hPre_rope_inputs_ReferenceIdeal : Cert.Pre_rope_inputs_ReferenceIdeal.Facts),
    quiescent_Kernel (hKernel := hKernel)
    ∧ quiescent_KernelIdeal (hKernelIdeal := hKernelIdeal)
    ∧ quiescent_KernelIdeal_pre_rope_inputs_KernelIdeal (hKernelIdeal := hKernelIdeal) (hPre_rope_inputs_KernelIdeal := hPre_rope_inputs_KernelIdeal)
    ∧ quiescent_ReferenceIdeal (hReferenceIdeal := hReferenceIdeal)
    ∧ quiescent_ReferenceIdeal_pre_rope_inputs_ReferenceIdeal (hReferenceIdeal := hReferenceIdeal) (hPre_rope_inputs_ReferenceIdeal := hPre_rope_inputs_ReferenceIdeal)
    ∧ preserves_Kernel_KernelIdeal
    ∧ algebraic_KernelIdeal_ReferenceIdeal_pre_rope_inputs_KernelIdeal (hKernelIdeal := hKernelIdeal) (hReferenceIdeal := hReferenceIdeal) (hPre_rope_inputs_KernelIdeal := hPre_rope_inputs_KernelIdeal)
-- ==== Pre_rope_inputs_KernelIdeal.lean ====
abbrev S2x128x512 : Shape := ⟨3, ![2, 128, 512]⟩
abbrev S512x256 : Shape := ⟨2, ![512, 256]⟩
abbrev S256x512 : Shape := ⟨2, ![256, 512]⟩
abbrev S1024x256 : Shape := ⟨2, ![1024, 256]⟩
abbrev S256x256 : Shape := ⟨2, ![256, 256]⟩
abbrev S_ : Shape := ⟨0, ![]⟩

class Facts : Prop where
  bcast_S_S256x256 : S_.BroadcastsInDim S256x256 (![] : Fin 0 → Fin S256x256.rank)
  bitsLt_bf16_f32 : FTy.bits .bf16 < FTy.bits .f32
  bcast_S_S2x128x512 : S_.BroadcastsInDim S2x128x512 (![] : Fin 0 → Fin S2x128x512.rank)
  bcast_S_S512x256 : S_.BroadcastsInDim S512x256 (![] : Fin 0 → Fin S512x256.rank)
  bcast_S_S1024x256 : S_.BroadcastsInDim S1024x256 (![] : Fin 0 → Fin S1024x256.rank)

variable [Facts]

def fn_where {F : FTy → Type} [FloatOps F] (arg0 : IVec S256x256 1) (arg1 : FVec F S_ .f32) (arg2 : FVec F S_ .f32) : FVec F S256x256 .f32 :=
  let v0 : FVec F S256x256 .f32 := broadcastInDim S256x256 ![] bcast_S_S256x256 arg1
  let v1 : FVec F S256x256 .f32 := broadcastInDim S256x256 ![] bcast_S_S256x256 arg2
  let v2 : FVec F S256x256 .f32 := select arg0 v0 v1
  v2

def fn_where_0 {F : FTy → Type} [FloatOps F] (arg0 : IVec S256x256 1) (arg1 : FVec F S_ .f32) (arg2 : FVec F S256x256 .f32) : FVec F S256x256 .f32 :=
  let v0 : FVec F S256x256 .f32 := broadcastInDim S256x256 ![] bcast_S_S256x256 arg1
  let v1 : FVec F S256x256 .f32 := select arg0 v0 arg2
  v1

def fn_part2 {F : FTy → Type} [FloatOps F] (main_arg6 : FVec F S1024x256 .f32) (main_arg7 : FVec F S256x256 .f32) (main_v19 : FVec F S256x256 .f32) (main_v23 : IVec S2x128x512 1) (main_v27 : IVec S512x256 1) (main_v31 : IVec S512x256 1) (main_v34 : IVec S1024x256 1) : IVec S2x128x512 1 × IVec S512x256 1 × IVec S512x256 1 × IVec S1024x256 1 × IVec S1024x256 1 × IVec S256x256 1 :=
  let main_v35 : FVec F S1024x256 .f32 := Host.absf main_arg6
  let main_cst_11 : FVec F S_ .f32 := constant S_ .f32 0x7F800000#32
  let main_v36 : FVec F S1024x256 .f32 := broadcastInDim S1024x256 ![] bcast_S_S1024x256 main_cst_11
  let main_v37 : IVec S1024x256 1 := cmpf .olt main_v35 main_v36
  let main_v38 : IVec S256x256 1 := cmpf .oeq main_arg7 main_v19
  (main_v23, main_v27, main_v31, main_v34, main_v37, main_v38)

def fn_part1 {F : FTy → Type} [FloatOps F] (main_arg0 : FVec F S2x128x512 .bf16) (main_arg1 : FVec F S512x256 .bf16) (main_arg2 : FVec F S512x256 .bf16) (main_arg5 : FVec F S1024x256 .f32) (main_arg6 : FVec F S1024x256 .f32) (main_arg7 : FVec F S256x256 .f32) (main_v9 : IVec S256x256 1) (main_v17 : IVec S256x256 1) : IVec S2x128x512 1 × IVec S512x256 1 × IVec S512x256 1 × IVec S1024x256 1 × IVec S1024x256 1 × IVec S256x256 1 :=
  let main_cst : FVec F S_ .f32 := constant S_ .f32 0x3F800000#32
  let main_cst_5 : FVec F S_ .f32 := constant S_ .f32 0x00000000#32
  let main_v18 : FVec F S256x256 .f32 := fn_where (F := F) main_v17 main_cst main_cst_5
  let main_cst_6 : FVec F S_ .f32 := constant S_ .f32 0xBF800000#32
  let main_v19 : FVec F S256x256 .f32 := fn_where_0 (F := F) main_v9 main_cst_6 main_v18
  let main_v20 : FVec F S2x128x512 .f32 := (extf .f32 · bitsLt_bf16_f32) main_arg0
  let main_v21 : FVec F S2x128x512 .f32 := Host.absf main_v20
  let main_cst_7 : FVec F S_ .f32 := constant S_ .f32 0x7F800000#32
  let main_v22 : FVec F S2x128x512 .f32 := broadcastInDim S2x128x512 ![] bcast_S_S2x128x512 main_cst_7
  let main_v23 : IVec S2x128x512 1 := cmpf .olt main_v21 main_v22
  let main_v24 : FVec F S512x256 .f32 := (extf .f32 · bitsLt_bf16_f32) main_arg1
  let main_v25 : FVec F S512x256 .f32 := Host.absf main_v24
  let main_cst_8 : FVec F S_ .f32 := constant S_ .f32 0x7F800000#32
  let main_v26 : FVec F S512x256 .f32 := broadcastInDim S512x256 ![] bcast_S_S512x256 main_cst_8
  let main_v27 : IVec S512x256 1 := cmpf .olt main_v25 main_v26
  let main_v28 : FVec F S512x256 .f32 := (extf .f32 · bitsLt_bf16_f32) main_arg2
  let main_v29 : FVec F S512x256 .f32 := Host.absf main_v28
  let main_cst_9 : FVec F S_ .f32 := constant S_ .f32 0x7F800000#32
  let main_v30 : FVec F S512x256 .f32 := broadcastInDim S512x256 ![] bcast_S_S512x256 main_cst_9
  let main_v31 : IVec S512x256 1 := cmpf .olt main_v29 main_v30
  let main_v32 : FVec F S1024x256 .f32 := Host.absf main_arg5
  let main_cst_10 : FVec F S_ .f32 := constant S_ .f32 0x7F800000#32
  let main_v33 : FVec F S1024x256 .f32 := broadcastInDim S1024x256 ![] bcast_S_S1024x256 main_cst_10
  let main_v34 : IVec S1024x256 1 := cmpf .olt main_v32 main_v33
  fn_part2 (F := F) main_arg6 main_arg7 main_v19 main_v23 main_v27 main_v31 main_v34

def fn {F : FTy → Type} [FloatOps F] (main_arg0 : FVec F S2x128x512 .bf16) (main_arg1 : FVec F S512x256 .bf16) (main_arg2 : FVec F S512x256 .bf16) (main_arg3 : FVec F S512x256 .bf16) (main_arg4 : FVec F S256x512 .bf16) (main_arg5 : FVec F S1024x256 .f32) (main_arg6 : FVec F S1024x256 .f32) (main_arg7 : FVec F S256x256 .f32) : IVec S2x128x512 1 × IVec S512x256 1 × IVec S512x256 1 × IVec S1024x256 1 × IVec S1024x256 1 × IVec S256x256 1 :=
  let main_v0 : IVec S256x256 32 := iotaInDim S256x256 32 0
  let main_v1 : IVec S256x256 32 := iotaInDim S256x256 32 1
  let main_c : IVec S_ 32 := constantI S_ 32 1#32
  let main_v2 : IVec S256x256 32 := broadcastInDim S256x256 ![] bcast_S_S256x256 main_c
  let main_v3 : IVec S256x256 32 := addi main_v1 main_v2
  let main_v4 : IVec S256x256 1 := cmpi .eq main_v0 main_v3
  let main_c_0 : IVec S_ 32 := constantI S_ 32 1#32
  let main_v5 : IVec S256x256 32 := broadcastInDim S256x256 ![] bcast_S_S256x256 main_c_0
  let main_v6 : IVec S256x256 32 := andi main_v1 main_v5
  let main_c_1 : IVec S_ 32 := constantI S_ 32 0#32
  let main_v7 : IVec S256x256 32 := broadcastInDim S256x256 ![] bcast_S_S256x256 main_c_1
  let main_v8 : IVec S256x256 1 := cmpi .eq main_v6 main_v7
  let main_v9 : IVec S256x256 1 := andi main_v4 main_v8
  let main_c_2 : IVec S_ 32 := constantI S_ 32 1#32
  let main_v10 : IVec S256x256 32 := broadcastInDim S256x256 ![] bcast_S_S256x256 main_c_2
  let main_v11 : IVec S256x256 32 := addi main_v0 main_v10
  let main_v12 : IVec S256x256 1 := cmpi .eq main_v1 main_v11
  let main_c_3 : IVec S_ 32 := constantI S_ 32 1#32
  let main_v13 : IVec S256x256 32 := broadcastInDim S256x256 ![] bcast_S_S256x256 main_c_3
  let main_v14 : IVec S256x256 32 := andi main_v0 main_v13
  let main_c_4 : IVec S_ 32 := constantI S_ 32 0#32
  let main_v15 : IVec S256x256 32 := broadcastInDim S256x256 ![] bcast_S_S256x256 main_c_4
  let main_v16 : IVec S256x256 1 := cmpi .eq main_v14 main_v15
  let main_v17 : IVec S256x256 1 := andi main_v12 main_v16
  fn_part1 (F := F) main_arg0 main_arg1 main_arg2 main_arg5 main_arg6 main_arg7 main_v9 main_v17
-- ==== Pre_rope_inputs_ReferenceIdeal.lean ====
abbrev S2x1024x512 : Shape := ⟨3, ![2, 1024, 512]⟩
abbrev S512x2048 : Shape := ⟨2, ![512, 2048]⟩
abbrev S2048x512 : Shape := ⟨2, ![2048, 512]⟩
abbrev S1024x256 : Shape := ⟨2, ![1024, 256]⟩
abbrev S256x256 : Shape := ⟨2, ![256, 256]⟩
abbrev S_ : Shape := ⟨0, ![]⟩

class Facts : Prop where
  bcast_S_S256x256 : S_.BroadcastsInDim S256x256 (![] : Fin 0 → Fin S256x256.rank)
  bitsLt_bf16_f32 : FTy.bits .bf16 < FTy.bits .f32
  bcast_S_S2x1024x512 : S_.BroadcastsInDim S2x1024x512 (![] : Fin 0 → Fin S2x1024x512.rank)
  bcast_S_S512x2048 : S_.BroadcastsInDim S512x2048 (![] : Fin 0 → Fin S512x2048.rank)
  bcast_S_S1024x256 : S_.BroadcastsInDim S1024x256 (![] : Fin 0 → Fin S1024x256.rank)

variable [Facts]

def fn_where {F : FTy → Type} [FloatOps F] (arg0 : IVec S256x256 1) (arg1 : FVec F S_ .f32) (arg2 : FVec F S_ .f32) : FVec F S256x256 .f32 :=
  let v0 : FVec F S256x256 .f32 := broadcastInDim S256x256 ![] bcast_S_S256x256 arg1
  let v1 : FVec F S256x256 .f32 := broadcastInDim S256x256 ![] bcast_S_S256x256 arg2
  let v2 : FVec F S256x256 .f32 := select arg0 v0 v1
  v2

def fn_where_0 {F : FTy → Type} [FloatOps F] (arg0 : IVec S256x256 1) (arg1 : FVec F S_ .f32) (arg2 : FVec F S256x256 .f32) : FVec F S256x256 .f32 :=
  let v0 : FVec F S256x256 .f32 := broadcastInDim S256x256 ![] bcast_S_S256x256 arg1
  let v1 : FVec F S256x256 .f32 := select arg0 v0 arg2
  v1

def fn_part2 {F : FTy → Type} [FloatOps F] (main_arg6 : FVec F S1024x256 .f32) (main_arg7 : FVec F S256x256 .f32) (main_v19 : FVec F S256x256 .f32) (main_v23 : IVec S2x1024x512 1) (main_v27 : IVec S512x2048 1) (main_v31 : IVec S512x2048 1) (main_v34 : IVec S1024x256 1) : IVec S2x1024x512 1 × IVec S512x2048 1 × IVec S512x2048 1 × IVec S1024x256 1 × IVec S1024x256 1 × IVec S256x256 1 :=
  let main_v35 : FVec F S1024x256 .f32 := Host.absf main_arg6
  let main_cst_11 : FVec F S_ .f32 := constant S_ .f32 0x7F800000#32
  let main_v36 : FVec F S1024x256 .f32 := broadcastInDim S1024x256 ![] bcast_S_S1024x256 main_cst_11
  let main_v37 : IVec S1024x256 1 := cmpf .olt main_v35 main_v36
  let main_v38 : IVec S256x256 1 := cmpf .oeq main_arg7 main_v19
  (main_v23, main_v27, main_v31, main_v34, main_v37, main_v38)

def fn_part1 {F : FTy → Type} [FloatOps F] (main_arg0 : FVec F S2x1024x512 .bf16) (main_arg1 : FVec F S512x2048 .bf16) (main_arg2 : FVec F S512x2048 .bf16) (main_arg5 : FVec F S1024x256 .f32) (main_arg6 : FVec F S1024x256 .f32) (main_arg7 : FVec F S256x256 .f32) (main_v9 : IVec S256x256 1) (main_v17 : IVec S256x256 1) : IVec S2x1024x512 1 × IVec S512x2048 1 × IVec S512x2048 1 × IVec S1024x256 1 × IVec S1024x256 1 × IVec S256x256 1 :=
  let main_cst : FVec F S_ .f32 := constant S_ .f32 0x3F800000#32
  let main_cst_5 : FVec F S_ .f32 := constant S_ .f32 0x00000000#32
  let main_v18 : FVec F S256x256 .f32 := fn_where (F := F) main_v17 main_cst main_cst_5
  let main_cst_6 : FVec F S_ .f32 := constant S_ .f32 0xBF800000#32
  let main_v19 : FVec F S256x256 .f32 := fn_where_0 (F := F) main_v9 main_cst_6 main_v18
  let main_v20 : FVec F S2x1024x512 .f32 := (extf .f32 · bitsLt_bf16_f32) main_arg0
  let main_v21 : FVec F S2x1024x512 .f32 := Host.absf main_v20
  let main_cst_7 : FVec F S_ .f32 := constant S_ .f32 0x7F800000#32
  let main_v22 : FVec F S2x1024x512 .f32 := broadcastInDim S2x1024x512 ![] bcast_S_S2x1024x512 main_cst_7
  let main_v23 : IVec S2x1024x512 1 := cmpf .olt main_v21 main_v22
  let main_v24 : FVec F S512x2048 .f32 := (extf .f32 · bitsLt_bf16_f32) main_arg1
  let main_v25 : FVec F S512x2048 .f32 := Host.absf main_v24
  let main_cst_8 : FVec F S_ .f32 := constant S_ .f32 0x7F800000#32
  let main_v26 : FVec F S512x2048 .f32 := broadcastInDim S512x2048 ![] bcast_S_S512x2048 main_cst_8
  let main_v27 : IVec S512x2048 1 := cmpf .olt main_v25 main_v26
  let main_v28 : FVec F S512x2048 .f32 := (extf .f32 · bitsLt_bf16_f32) main_arg2
  let main_v29 : FVec F S512x2048 .f32 := Host.absf main_v28
  let main_cst_9 : FVec F S_ .f32 := constant S_ .f32 0x7F800000#32
  let main_v30 : FVec F S512x2048 .f32 := broadcastInDim S512x2048 ![] bcast_S_S512x2048 main_cst_9
  let main_v31 : IVec S512x2048 1 := cmpf .olt main_v29 main_v30
  let main_v32 : FVec F S1024x256 .f32 := Host.absf main_arg5
  let main_cst_10 : FVec F S_ .f32 := constant S_ .f32 0x7F800000#32
  let main_v33 : FVec F S1024x256 .f32 := broadcastInDim S1024x256 ![] bcast_S_S1024x256 main_cst_10
  let main_v34 : IVec S1024x256 1 := cmpf .olt main_v32 main_v33
  fn_part2 (F := F) main_arg6 main_arg7 main_v19 main_v23 main_v27 main_v31 main_v34

def fn {F : FTy → Type} [FloatOps F] (main_arg0 : FVec F S2x1024x512 .bf16) (main_arg1 : FVec F S512x2048 .bf16) (main_arg2 : FVec F S512x2048 .bf16) (main_arg3 : FVec F S512x2048 .bf16) (main_arg4 : FVec F S2048x512 .bf16) (main_arg5 : FVec F S1024x256 .f32) (main_arg6 : FVec F S1024x256 .f32) (main_arg7 : FVec F S256x256 .f32) : IVec S2x1024x512 1 × IVec S512x2048 1 × IVec S512x2048 1 × IVec S1024x256 1 × IVec S1024x256 1 × IVec S256x256 1 :=
  let main_v0 : IVec S256x256 32 := iotaInDim S256x256 32 0
  let main_v1 : IVec S256x256 32 := iotaInDim S256x256 32 1
  let main_c : IVec S_ 32 := constantI S_ 32 1#32
  let main_v2 : IVec S256x256 32 := broadcastInDim S256x256 ![] bcast_S_S256x256 main_c
  let main_v3 : IVec S256x256 32 := addi main_v1 main_v2
  let main_v4 : IVec S256x256 1 := cmpi .eq main_v0 main_v3
  let main_c_0 : IVec S_ 32 := constantI S_ 32 1#32
  let main_v5 : IVec S256x256 32 := broadcastInDim S256x256 ![] bcast_S_S256x256 main_c_0
  let main_v6 : IVec S256x256 32 := andi main_v1 main_v5
  let main_c_1 : IVec S_ 32 := constantI S_ 32 0#32
  let main_v7 : IVec S256x256 32 := broadcastInDim S256x256 ![] bcast_S_S256x256 main_c_1
  let main_v8 : IVec S256x256 1 := cmpi .eq main_v6 main_v7
  let main_v9 : IVec S256x256 1 := andi main_v4 main_v8
  let main_c_2 : IVec S_ 32 := constantI S_ 32 1#32
  let main_v10 : IVec S256x256 32 := broadcastInDim S256x256 ![] bcast_S_S256x256 main_c_2
  let main_v11 : IVec S256x256 32 := addi main_v0 main_v10
  let main_v12 : IVec S256x256 1 := cmpi .eq main_v1 main_v11
  let main_c_3 : IVec S_ 32 := constantI S_ 32 1#32
  let main_v13 : IVec S256x256 32 := broadcastInDim S256x256 ![] bcast_S_S256x256 main_c_3
  let main_v14 : IVec S256x256 32 := andi main_v0 main_v13
  let main_c_4 : IVec S_ 32 := constantI S_ 32 0#32
  let main_v15 : IVec S256x256 32 := broadcastInDim S256x256 ![] bcast_S_S256x256 main_c_4
  let main_v16 : IVec S256x256 1 := cmpi .eq main_v14 main_v15
  let main_v17 : IVec S256x256 1 := andi main_v12 main_v16
  fn_part1 (F := F) main_arg0 main_arg1 main_arg2 main_arg5 main_arg6 main_arg7 main_v9 main_v17
-- ==== Kernel.lean ====
abbrev S2x128x512 : Shape := ⟨3, ![2, 128, 512]⟩
abbrev S512x256 : Shape := ⟨2, ![512, 256]⟩
abbrev S256x512 : Shape := ⟨2, ![256, 512]⟩
abbrev S1024x256 : Shape := ⟨2, ![1024, 256]⟩
abbrev S256x256 : Shape := ⟨2, ![256, 256]⟩
abbrev S8x2x128x512 : Shape := ⟨4, ![8, 2, 128, 512]⟩
abbrev S2x4x1024x64 : Shape := ⟨4, ![2, 4, 1024, 64]⟩
abbrev S2x4x1024x128 : Shape := ⟨4, ![2, 4, 1024, 128]⟩
abbrev S7x2x128x512 : Shape := ⟨4, ![7, 2, 128, 512]⟩
abbrev S8 : Shape := ⟨1, ![8]⟩
abbrev S6 : Shape := ⟨1, ![6]⟩
abbrev S7 : Shape := ⟨1, ![7]⟩
abbrev S_ : Shape := ⟨0, ![]⟩
abbrev S1x2x128x512 : Shape := ⟨4, ![1, 2, 128, 512]⟩
abbrev S1 : Shape := ⟨1, ![1]⟩
abbrev S1x1x128x512 : Shape := ⟨4, ![1, 1, 128, 512]⟩
abbrev S128x512 : Shape := ⟨2, ![128, 512]⟩
abbrev S128x256 : Shape := ⟨2, ![128, 256]⟩
abbrev S128x64 : Shape := ⟨2, ![128, 64]⟩
abbrev S1x1x128x64 : Shape := ⟨4, ![1, 1, 128, 64]⟩
abbrev S128x128 : Shape := ⟨2, ![128, 128]⟩
abbrev S1x1x128x128 : Shape := ⟨4, ![1, 1, 128, 128]⟩
abbrev S1x1x256x64 : Shape := ⟨4, ![1, 1, 256, 64]⟩
abbrev S256x64 : Shape := ⟨2, ![256, 64]⟩
abbrev S1x1x256x128 : Shape := ⟨4, ![1, 1, 256, 128]⟩
abbrev S256x128 : Shape := ⟨2, ![256, 128]⟩
abbrev S1x1x384x64 : Shape := ⟨4, ![1, 1, 384, 64]⟩
abbrev S384x64 : Shape := ⟨2, ![384, 64]⟩
abbrev S128x384 : Shape := ⟨2, ![128, 384]⟩
abbrev S1x1x384x128 : Shape := ⟨4, ![1, 1, 384, 128]⟩
abbrev S384x128 : Shape := ⟨2, ![384, 128]⟩
abbrev S1x1x512x64 : Shape := ⟨4, ![1, 1, 512, 64]⟩
abbrev S512x64 : Shape := ⟨2, ![512, 64]⟩
abbrev S1x1x512x128 : Shape := ⟨4, ![1, 1, 512, 128]⟩
abbrev S512x128 : Shape := ⟨2, ![512, 128]⟩
abbrev S128x1 : Shape := ⟨2, ![128, 1]⟩
abbrev S64x512 : Shape := ⟨2, ![64, 512]⟩
abbrev S1x128x512 : Shape := ⟨3, ![1, 128, 512]⟩

abbrev nBuf : Space → Nat
  | .hbm => 9
  | .vmem => 16
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S512x256, .bf16⟩
  | .hbm, ⟨3, _⟩ => ⟨S512x256, .bf16⟩
  | .hbm, ⟨4, _⟩ => ⟨S256x512, .bf16⟩
  | .hbm, ⟨5, _⟩ => ⟨S1024x256, .f32⟩
  | .hbm, ⟨6, _⟩ => ⟨S1024x256, .f32⟩
  | .hbm, ⟨7, _⟩ => ⟨S256x256, .f32⟩
  | .hbm, ⟨8, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S256x512, .bf16⟩
  | .local _ .vmem, ⟨5, _⟩ => ⟨S1024x256, .f32⟩
  | .local _ .vmem, ⟨6, _⟩ => ⟨S1024x256, .f32⟩
  | .local _ .vmem, ⟨7, _⟩ => ⟨S256x256, .f32⟩
  | .local _ .vmem, ⟨8, _⟩ => ⟨S2x128x512, .f32⟩
  | .local _ .vmem, ⟨9, _⟩ => ⟨S8x2x128x512, .bf16⟩
  | .local _ .vmem, ⟨10, _⟩ => ⟨S2x4x1024x64, .bf16⟩
  | .local _ .vmem, ⟨11, _⟩ => ⟨S2x4x1024x64, .bf16⟩
  | .local _ .vmem, ⟨12, _⟩ => ⟨S2x4x1024x128, .bf16⟩
  | .local _ .vmem, ⟨13, _⟩ => ⟨S2x4x1024x128, .f32⟩
  | .local _ .vmem, ⟨14, _⟩ => ⟨S7x2x128x512, .bf16⟩
  | .local _ .vmem, ⟨15, _⟩ => ⟨S7x2x128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v46 : Index := Scalar.indexCast v2
  let c0_32 : Index := 0#32
  let c0_33 : Index := 0#32
  let c0_34 : Index := 0#32
  ![v46.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_36 : BitVec 32 := 0#32
  let c0_i32_41 : BitVec 32 := 0#32
  let c0_i32_42 : BitVec 32 := 0#32
  ![v2.toNat, 0, 0, 0]
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_39 : BitVec 32 := 1#32
  let v50 : BitVec 32 := Scalar.muli v25 c1_i32_39
  let v51 : BitVec 32 := Scalar.addi c0_i32_40 v50
  v51.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_49 : BitVec 32 := 1#32
  let v60 : BitVec 32 := Scalar.muli v14 c1_i32_49
  let v61 : BitVec 32 := Scalar.addi c0_i32_50 v60
  v61.toNat
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_56 : BitVec 32 := 1#32
  let c0_i32_61 : BitVec 32 := 0#32
  let c0_i32_62 : BitVec 32 := 0#32
  ![v2.toNat, 1, 0, 0]
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_59 : BitVec 32 := 1#32
  let v70 : BitVec 32 := Scalar.muli v25 c1_i32_59
  let v71 : BitVec 32 := Scalar.addi c0_i32_60 v70
  v71.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_69 : BitVec 32 := 1#32
  let v80 : BitVec 32 := Scalar.muli v14 c1_i32_69
  let v81 : BitVec 32 := Scalar.addi c0_i32_70 v80
  v81.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v90 : BitVec 32 := Scalar.muli v2 c128_i32
  let v91 : Index := Scalar.indexCast v90
  let c0_75 : Index := 0#32
  ![v91.toNat, 0]
def k0_off5 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v97 : Index := Scalar.indexCast v2
  let c0_77 : Index := 0#32
  let c0_78 : Index := 0#32
  let c0_79 : Index := 0#32
  ![v97.toNat, 0, 0, 0]
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v182 : Index := Scalar.indexCast v2
  let c1_146 : Index := 1#32
  let c0_147 : Index := 0#32
  let c0_148 : Index := 0#32
  ![v182.toNat, 1, 0, 0]
def k0_off7 (d0 : Dev nD) (c0_i32_365 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_363 : BitVec 32 := 8#32
  let v371 : BitVec 32 := Scalar.addi v2 c8_i32_363
  let c1_i32_364 : BitVec 32 := 1#32
  let v372 : BitVec 32 := Scalar.subi v371 c1_i32_364
  let v373 : BitVec 32 := Scalar.subi v372 c0_i32_365
  let c8_i32_366 : BitVec 32 := 8#32
  let c0_i32_367 : BitVec 32 := 0#32
  let v374 : BitVec 1 := Scalar.cmpi .eq c8_i32_366 c0_i32_367
  let c1_i32_368 : BitVec 32 := 1#32
  let v375 : BitVec 32 := Scalar.select v374 c1_i32_368 c8_i32_366
  let v376 : BitVec 32 := Scalar.remsi v373 v375
  let c0_i32_370 : BitVec 32 := 0#32
  let v378 : BitVec 1 := Scalar.cmpi .slt v376 c0_i32_370
  let c0_i32_371 : BitVec 32 := 0#32
  let v379 : BitVec 1 := Scalar.cmpi .slt v375 c0_i32_371
  let v380 : BitVec 1 := Scalar.xori v378 v379
  let c0_i32_369 : BitVec 32 := 0#32
  let v377 : BitVec 1 := Scalar.cmpi .ne v376 c0_i32_369
  let v381 : BitVec 1 := Scalar.andi v380 v377
  let v382 : BitVec 32 := Scalar.addi v376 v375
  let v383 : BitVec 32 := Scalar.select v381 v382 v376
  let c0_i32_381 : BitVec 32 := 0#32
  let c0_i32_386 : BitVec 32 := 0#32
  let c0_i32_387 : BitVec 32 := 0#32
  ![v383.toNat, 0, 0, 0]
def k0_dev7 (d0 : Dev nD) : Nat :=
  let c0_i32_395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_394 : BitVec 32 := 1#32
  let v404 : BitVec 32 := Scalar.muli v25 c1_i32_394
  let v405 : BitVec 32 := Scalar.addi c0_i32_395 v404
  v405.toNat
def k0_off8 (d0 : Dev nD) (c0_i32_373 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_372 : BitVec 32 := 1#32
  let v384 : BitVec 32 := Scalar.addi v2 c1_i32_372
  let v385 : BitVec 32 := Scalar.addi v384 c0_i32_373
  let c8_i32_374 : BitVec 32 := 8#32
  let c0_i32_375 : BitVec 32 := 0#32
  let v386 : BitVec 1 := Scalar.cmpi .eq c8_i32_374 c0_i32_375
  let c1_i32_376 : BitVec 32 := 1#32
  let v387 : BitVec 32 := Scalar.select v386 c1_i32_376 c8_i32_374
  let v388 : BitVec 32 := Scalar.remsi v385 v387
  let c0_i32_378 : BitVec 32 := 0#32
  let v390 : BitVec 1 := Scalar.cmpi .slt v388 c0_i32_378
  let c0_i32_379 : BitVec 32 := 0#32
  let v391 : BitVec 1 := Scalar.cmpi .slt v387 c0_i32_379
  let v392 : BitVec 1 := Scalar.xori v390 v391
  let c0_i32_377 : BitVec 32 := 0#32
  let v389 : BitVec 1 := Scalar.cmpi .ne v388 c0_i32_377
  let v393 : BitVec 1 := Scalar.andi v392 v389
  let v394 : BitVec 32 := Scalar.addi v388 v387
  let v395 : BitVec 32 := Scalar.select v393 v394 v388
  let c0_i32_401 : BitVec 32 := 0#32
  let c0_i32_406 : BitVec 32 := 0#32
  let c0_i32_407 : BitVec 32 := 0#32
  ![v395.toNat, 0, 0, 0]
def k0_dev8 (d0 : Dev nD) : Nat :=
  let c0_i32_415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_414 : BitVec 32 := 1#32
  let v422 : BitVec 32 := Scalar.muli v14 c1_i32_414
  let v423 : BitVec 32 := Scalar.addi c0_i32_415 v422
  v423.toNat
def k0_off9 (d0 : Dev nD) (c0_i32_365 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_363 : BitVec 32 := 8#32
  let v371 : BitVec 32 := Scalar.addi v2 c8_i32_363
  let c1_i32_364 : BitVec 32 := 1#32
  let v372 : BitVec 32 := Scalar.subi v371 c1_i32_364
  let v373 : BitVec 32 := Scalar.subi v372 c0_i32_365
  let c8_i32_366 : BitVec 32 := 8#32
  let c0_i32_367 : BitVec 32 := 0#32
  let v374 : BitVec 1 := Scalar.cmpi .eq c8_i32_366 c0_i32_367
  let c1_i32_368 : BitVec 32 := 1#32
  let v375 : BitVec 32 := Scalar.select v374 c1_i32_368 c8_i32_366
  let v376 : BitVec 32 := Scalar.remsi v373 v375
  let c0_i32_370 : BitVec 32 := 0#32
  let v378 : BitVec 1 := Scalar.cmpi .slt v376 c0_i32_370
  let c0_i32_371 : BitVec 32 := 0#32
  let v379 : BitVec 1 := Scalar.cmpi .slt v375 c0_i32_371
  let v380 : BitVec 1 := Scalar.xori v378 v379
  let c0_i32_369 : BitVec 32 := 0#32
  let v377 : BitVec 1 := Scalar.cmpi .ne v376 c0_i32_369
  let v381 : BitVec 1 := Scalar.andi v380 v377
  let v382 : BitVec 32 := Scalar.addi v376 v375
  let v383 : BitVec 32 := Scalar.select v381 v382 v376
  let c1_i32_421 : BitVec 32 := 1#32
  let c0_i32_426 : BitVec 32 := 0#32
  let c0_i32_427 : BitVec 32 := 0#32
  ![v383.toNat, 1, 0, 0]
def k0_dev9 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_433 : BitVec 32 := 1#32
  let v440 : BitVec 32 := Scalar.muli v25 c1_i32_433
  let v441 : BitVec 32 := Scalar.addi c0_i32_434 v440
  v441.toNat
def k0_off10 (d0 : Dev nD) (c0_i32_373 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_372 : BitVec 32 := 1#32
  let v384 : BitVec 32 := Scalar.addi v2 c1_i32_372
  let v385 : BitVec 32 := Scalar.addi v384 c0_i32_373
  let c8_i32_374 : BitVec 32 := 8#32
  let c0_i32_375 : BitVec 32 := 0#32
  let v386 : BitVec 1 := Scalar.cmpi .eq c8_i32_374 c0_i32_375
  let c1_i32_376 : BitVec 32 := 1#32
  let v387 : BitVec 32 := Scalar.select v386 c1_i32_376 c8_i32_374
  let v388 : BitVec 32 := Scalar.remsi v385 v387
  let c0_i32_378 : BitVec 32 := 0#32
  let v390 : BitVec 1 := Scalar.cmpi .slt v388 c0_i32_378
  let c0_i32_379 : BitVec 32 := 0#32
  let v391 : BitVec 1 := Scalar.cmpi .slt v387 c0_i32_379
  let v392 : BitVec 1 := Scalar.xori v390 v391
  let c0_i32_377 : BitVec 32 := 0#32
  let v389 : BitVec 1 := Scalar.cmpi .ne v388 c0_i32_377
  let v393 : BitVec 1 := Scalar.andi v392 v389
  let v394 : BitVec 32 := Scalar.addi v388 v387
  let v395 : BitVec 32 := Scalar.select v393 v394 v388
  let c1_i32_440 : BitVec 32 := 1#32
  let c0_i32_445 : BitVec 32 := 0#32
  let c0_i32_446 : BitVec 32 := 0#32
  ![v395.toNat, 1, 0, 0]
def k0_dev10 (d0 : Dev nD) : Nat :=
  let c0_i32_454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_453 : BitVec 32 := 1#32
  let v458 : BitVec 32 := Scalar.muli v14 c1_i32_453
  let v459 : BitVec 32 := Scalar.addi c0_i32_454 v458
  v459.toNat
def k0_off11 (d0 : Dev nD) (c0_i32_365 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_363 : BitVec 32 := 8#32
  let v371 : BitVec 32 := Scalar.addi v2 c8_i32_363
  let c1_i32_364 : BitVec 32 := 1#32
  let v372 : BitVec 32 := Scalar.subi v371 c1_i32_364
  let v373 : BitVec 32 := Scalar.subi v372 c0_i32_365
  let c8_i32_366 : BitVec 32 := 8#32
  let c0_i32_367 : BitVec 32 := 0#32
  let v374 : BitVec 1 := Scalar.cmpi .eq c8_i32_366 c0_i32_367
  let c1_i32_368 : BitVec 32 := 1#32
  let v375 : BitVec 32 := Scalar.select v374 c1_i32_368 c8_i32_366
  let v376 : BitVec 32 := Scalar.remsi v373 v375
  let c0_i32_370 : BitVec 32 := 0#32
  let v378 : BitVec 1 := Scalar.cmpi .slt v376 c0_i32_370
  let c0_i32_371 : BitVec 32 := 0#32
  let v379 : BitVec 1 := Scalar.cmpi .slt v375 c0_i32_371
  let v380 : BitVec 1 := Scalar.xori v378 v379
  let c0_i32_369 : BitVec 32 := 0#32
  let v377 : BitVec 1 := Scalar.cmpi .ne v376 c0_i32_369
  let v381 : BitVec 1 := Scalar.andi v380 v377
  let v382 : BitVec 32 := Scalar.addi v376 v375
  let v383 : BitVec 32 := Scalar.select v381 v382 v376
  let c128_i32_459 : BitVec 32 := 128#32
  let v468 : BitVec 32 := Scalar.muli v383 c128_i32_459
  let v469 : Index := Scalar.indexCast v468
  let c0_460 : Index := 0#32
  ![v469.toNat, 0]
def k0_off12 (d0 : Dev nD) (c0_i32_365 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_363 : BitVec 32 := 8#32
  let v371 : BitVec 32 := Scalar.addi v2 c8_i32_363
  let c1_i32_364 : BitVec 32 := 1#32
  let v372 : BitVec 32 := Scalar.subi v371 c1_i32_364
  let v373 : BitVec 32 := Scalar.subi v372 c0_i32_365
  let c8_i32_366 : BitVec 32 := 8#32
  let c0_i32_367 : BitVec 32 := 0#32
  let v374 : BitVec 1 := Scalar.cmpi .eq c8_i32_366 c0_i32_367
  let c1_i32_368 : BitVec 32 := 1#32
  let v375 : BitVec 32 := Scalar.select v374 c1_i32_368 c8_i32_366
  let v376 : BitVec 32 := Scalar.remsi v373 v375
  let c0_i32_370 : BitVec 32 := 0#32
  let v378 : BitVec 1 := Scalar.cmpi .slt v376 c0_i32_370
  let c0_i32_371 : BitVec 32 := 0#32
  let v379 : BitVec 1 := Scalar.cmpi .slt v375 c0_i32_371
  let v380 : BitVec 1 := Scalar.xori v378 v379
  let c0_i32_369 : BitVec 32 := 0#32
  let v377 : BitVec 1 := Scalar.cmpi .ne v376 c0_i32_369
  let v381 : BitVec 1 := Scalar.andi v380 v377
  let v382 : BitVec 32 := Scalar.addi v376 v375
  let v383 : BitVec 32 := Scalar.select v381 v382 v376
  let v475 : Index := Scalar.indexCast v383
  let c0_462 : Index := 0#32
  let c0_463 : Index := 0#32
  let c0_464 : Index := 0#32
  ![v475.toNat, 0, 0, 0]
def k0_off13 (d0 : Dev nD) (c0_i32_365 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_363 : BitVec 32 := 8#32
  let v371 : BitVec 32 := Scalar.addi v2 c8_i32_363
  let c1_i32_364 : BitVec 32 := 1#32
  let v372 : BitVec 32 := Scalar.subi v371 c1_i32_364
  let v373 : BitVec 32 := Scalar.subi v372 c0_i32_365
  let c8_i32_366 : BitVec 32 := 8#32
  let c0_i32_367 : BitVec 32 := 0#32
  let v374 : BitVec 1 := Scalar.cmpi .eq c8_i32_366 c0_i32_367
  let c1_i32_368 : BitVec 32 := 1#32
  let v375 : BitVec 32 := Scalar.select v374 c1_i32_368 c8_i32_366
  let v376 : BitVec 32 := Scalar.remsi v373 v375
  let c0_i32_370 : BitVec 32 := 0#32
  let v378 : BitVec 1 := Scalar.cmpi .slt v376 c0_i32_370
  let c0_i32_371 : BitVec 32 := 0#32
  let v379 : BitVec 1 := Scalar.cmpi .slt v375 c0_i32_371
  let v380 : BitVec 1 := Scalar.xori v378 v379
  let c0_i32_369 : BitVec 32 := 0#32
  let v377 : BitVec 1 := Scalar.cmpi .ne v376 c0_i32_369
  let v381 : BitVec 1 := Scalar.andi v380 v377
  let v382 : BitVec 32 := Scalar.addi v376 v375
  let v383 : BitVec 32 := Scalar.select v381 v382 v376
  let v560 : Index := Scalar.indexCast v383
  let c1_534 : Index := 1#32
  let c0_535 : Index := 0#32
  let c0_536 : Index := 0#32
  ![v560.toNat, 1, 0, 0]
def k0_off14 (d0 : Dev nD) (c0_i32_373 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_372 : BitVec 32 := 1#32
  let v384 : BitVec 32 := Scalar.addi v2 c1_i32_372
  let v385 : BitVec 32 := Scalar.addi v384 c0_i32_373
  let c8_i32_374 : BitVec 32 := 8#32
  let c0_i32_375 : BitVec 32 := 0#32
  let v386 : BitVec 1 := Scalar.cmpi .eq c8_i32_374 c0_i32_375
  let c1_i32_376 : BitVec 32 := 1#32
  let v387 : BitVec 32 := Scalar.select v386 c1_i32_376 c8_i32_374
  let v388 : BitVec 32 := Scalar.remsi v385 v387
  let c0_i32_378 : BitVec 32 := 0#32
  let v390 : BitVec 1 := Scalar.cmpi .slt v388 c0_i32_378
  let c0_i32_379 : BitVec 32 := 0#32
  let v391 : BitVec 1 := Scalar.cmpi .slt v387 c0_i32_379
  let v392 : BitVec 1 := Scalar.xori v390 v391
  let c0_i32_377 : BitVec 32 := 0#32
  let v389 : BitVec 1 := Scalar.cmpi .ne v388 c0_i32_377
  let v393 : BitVec 1 := Scalar.andi v392 v389
  let v394 : BitVec 32 := Scalar.addi v388 v387
  let v395 : BitVec 32 := Scalar.select v393 v394 v388
  let c128_i32_607 : BitVec 32 := 128#32
  let v645 : BitVec 32 := Scalar.muli v395 c128_i32_607
  let v646 : Index := Scalar.indexCast v645
  let c0_608 : Index := 0#32
  ![v646.toNat, 0]
def k0_off15 (d0 : Dev nD) (c0_i32_373 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_372 : BitVec 32 := 1#32
  let v384 : BitVec 32 := Scalar.addi v2 c1_i32_372
  let v385 : BitVec 32 := Scalar.addi v384 c0_i32_373
  let c8_i32_374 : BitVec 32 := 8#32
  let c0_i32_375 : BitVec 32 := 0#32
  let v386 : BitVec 1 := Scalar.cmpi .eq c8_i32_374 c0_i32_375
  let c1_i32_376 : BitVec 32 := 1#32
  let v387 : BitVec 32 := Scalar.select v386 c1_i32_376 c8_i32_374
  let v388 : BitVec 32 := Scalar.remsi v385 v387
  let c0_i32_378 : BitVec 32 := 0#32
  let v390 : BitVec 1 := Scalar.cmpi .slt v388 c0_i32_378
  let c0_i32_379 : BitVec 32 := 0#32
  let v391 : BitVec 1 := Scalar.cmpi .slt v387 c0_i32_379
  let v392 : BitVec 1 := Scalar.xori v390 v391
  let c0_i32_377 : BitVec 32 := 0#32
  let v389 : BitVec 1 := Scalar.cmpi .ne v388 c0_i32_377
  let v393 : BitVec 1 := Scalar.andi v392 v389
  let v394 : BitVec 32 := Scalar.addi v388 v387
  let v395 : BitVec 32 := Scalar.select v393 v394 v388
  let v652 : Index := Scalar.indexCast v395
  let c0_610 : Index := 0#32
  let c0_611 : Index := 0#32
  let c0_612 : Index := 0#32
  ![v652.toNat, 0, 0, 0]
def k0_off16 (d0 : Dev nD) (c0_i32_373 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_372 : BitVec 32 := 1#32
  let v384 : BitVec 32 := Scalar.addi v2 c1_i32_372
  let v385 : BitVec 32 := Scalar.addi v384 c0_i32_373
  let c8_i32_374 : BitVec 32 := 8#32
  let c0_i32_375 : BitVec 32 := 0#32
  let v386 : BitVec 1 := Scalar.cmpi .eq c8_i32_374 c0_i32_375
  let c1_i32_376 : BitVec 32 := 1#32
  let v387 : BitVec 32 := Scalar.select v386 c1_i32_376 c8_i32_374
  let v388 : BitVec 32 := Scalar.remsi v385 v387
  let c0_i32_378 : BitVec 32 := 0#32
  let v390 : BitVec 1 := Scalar.cmpi .slt v388 c0_i32_378
  let c0_i32_379 : BitVec 32 := 0#32
  let v391 : BitVec 1 := Scalar.cmpi .slt v387 c0_i32_379
  let v392 : BitVec 1 := Scalar.xori v390 v391
  let c0_i32_377 : BitVec 32 := 0#32
  let v389 : BitVec 1 := Scalar.cmpi .ne v388 c0_i32_377
  let v393 : BitVec 1 := Scalar.andi v392 v389
  let v394 : BitVec 32 := Scalar.addi v388 v387
  let v395 : BitVec 32 := Scalar.select v393 v394 v388
  let v737 : Index := Scalar.indexCast v395
  let c1_682 : Index := 1#32
  let c0_683 : Index := 0#32
  let c0_684 : Index := 0#32
  ![v737.toNat, 1, 0, 0]
def k0_dev11 (d0 : Dev nD) : Nat :=
  let c0_i32_1426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1425 : BitVec 32 := 1#32
  let v1319 : BitVec 32 := Scalar.muli v25 c1_i32_1425
  let v1320 : BitVec 32 := Scalar.addi c0_i32_1426 v1319
  v1320.toNat
def k0_dev12 (d0 : Dev nD) : Nat :=
  let c0_i32_1446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1445 : BitVec 32 := 1#32
  let v1337 : BitVec 32 := Scalar.muli v14 c1_i32_1445
  let v1338 : BitVec 32 := Scalar.addi c0_i32_1446 v1337
  v1338.toNat
def k0_dev13 (d0 : Dev nD) : Nat :=
  let c0_i32_1465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1464 : BitVec 32 := 1#32
  let v1355 : BitVec 32 := Scalar.muli v25 c1_i32_1464
  let v1356 : BitVec 32 := Scalar.addi c0_i32_1465 v1355
  v1356.toNat
def k0_dev14 (d0 : Dev nD) : Nat :=
  let c0_i32_1485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1484 : BitVec 32 := 1#32
  let v1373 : BitVec 32 := Scalar.muli v14 c1_i32_1484
  let v1374 : BitVec 32 := Scalar.addi c0_i32_1485 v1373
  v1374.toNat
def k0_dev15 (d0 : Dev nD) : Nat :=
  let c0_i32_2281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2280 : BitVec 32 := 1#32
  let v2106 : BitVec 32 := Scalar.muli v25 c1_i32_2280
  let v2107 : BitVec 32 := Scalar.addi c0_i32_2281 v2106
  v2107.toNat
def k0_dev16 (d0 : Dev nD) : Nat :=
  let c0_i32_2310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2309 : BitVec 32 := 1#32
  let v2132 : BitVec 32 := Scalar.muli v25 c1_i32_2309
  let v2133 : BitVec 32 := Scalar.addi c0_i32_2310 v2132
  v2133.toNat
def k0_dev17 (d0 : Dev nD) : Nat :=
  let c0_i32_3410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3230 : BitVec 32 := 1#32
  let v3022 : BitVec 32 := Scalar.addi v2 c1_i32_3230
  let c8_i32_3231 : BitVec 32 := 8#32
  let c0_i32_3232 : BitVec 32 := 0#32
  let v3023 : BitVec 1 := Scalar.cmpi .eq c8_i32_3231 c0_i32_3232
  let c1_i32_3233 : BitVec 32 := 1#32
  let v3024 : BitVec 32 := Scalar.select v3023 c1_i32_3233 c8_i32_3231
  let v3025 : BitVec 32 := Scalar.remsi v3022 v3024
  let c0_i32_3235 : BitVec 32 := 0#32
  let v3027 : BitVec 1 := Scalar.cmpi .slt v3025 c0_i32_3235
  let c0_i32_3236 : BitVec 32 := 0#32
  let v3028 : BitVec 1 := Scalar.cmpi .slt v3024 c0_i32_3236
  let v3029 : BitVec 1 := Scalar.xori v3027 v3028
  let c0_i32_3234 : BitVec 32 := 0#32
  let v3026 : BitVec 1 := Scalar.cmpi .ne v3025 c0_i32_3234
  let v3030 : BitVec 1 := Scalar.andi v3029 v3026
  let v3031 : BitVec 32 := Scalar.addi v3025 v3024
  let v3032 : BitVec 32 := Scalar.select v3030 v3031 v3025
  let c1_i32_3409 : BitVec 32 := 1#32
  let v3223 : BitVec 32 := Scalar.muli v3032 c1_i32_3409
  let v3224 : BitVec 32 := Scalar.addi c0_i32_3410 v3223
  v3224.toNat
def k0_dev18 (d0 : Dev nD) : Nat :=
  let c0_i32_3597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_3417 : BitVec 32 := 2#32
  let v3233 : BitVec 32 := Scalar.addi v2 c2_i32_3417
  let c8_i32_3418 : BitVec 32 := 8#32
  let c0_i32_3419 : BitVec 32 := 0#32
  let v3234 : BitVec 1 := Scalar.cmpi .eq c8_i32_3418 c0_i32_3419
  let c1_i32_3420 : BitVec 32 := 1#32
  let v3235 : BitVec 32 := Scalar.select v3234 c1_i32_3420 c8_i32_3418
  let v3236 : BitVec 32 := Scalar.remsi v3233 v3235
  let c0_i32_3422 : BitVec 32 := 0#32
  let v3238 : BitVec 1 := Scalar.cmpi .slt v3236 c0_i32_3422
  let c0_i32_3423 : BitVec 32 := 0#32
  let v3239 : BitVec 1 := Scalar.cmpi .slt v3235 c0_i32_3423
  let v3240 : BitVec 1 := Scalar.xori v3238 v3239
  let c0_i32_3421 : BitVec 32 := 0#32
  let v3237 : BitVec 1 := Scalar.cmpi .ne v3236 c0_i32_3421
  let v3241 : BitVec 1 := Scalar.andi v3240 v3237
  let v3242 : BitVec 32 := Scalar.addi v3236 v3235
  let v3243 : BitVec 32 := Scalar.select v3241 v3242 v3236
  let c1_i32_3596 : BitVec 32 := 1#32
  let v3434 : BitVec 32 := Scalar.muli v3243 c1_i32_3596
  let v3435 : BitVec 32 := Scalar.addi c0_i32_3597 v3434
  v3435.toNat
def k0_dev19 (d0 : Dev nD) : Nat :=
  let c0_i32_3784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3604 : BitVec 32 := 3#32
  let v3444 : BitVec 32 := Scalar.addi v2 c3_i32_3604
  let c8_i32_3605 : BitVec 32 := 8#32
  let c0_i32_3606 : BitVec 32 := 0#32
  let v3445 : BitVec 1 := Scalar.cmpi .eq c8_i32_3605 c0_i32_3606
  let c1_i32_3607 : BitVec 32 := 1#32
  let v3446 : BitVec 32 := Scalar.select v3445 c1_i32_3607 c8_i32_3605
  let v3447 : BitVec 32 := Scalar.remsi v3444 v3446
  let c0_i32_3609 : BitVec 32 := 0#32
  let v3449 : BitVec 1 := Scalar.cmpi .slt v3447 c0_i32_3609
  let c0_i32_3610 : BitVec 32 := 0#32
  let v3450 : BitVec 1 := Scalar.cmpi .slt v3446 c0_i32_3610
  let v3451 : BitVec 1 := Scalar.xori v3449 v3450
  let c0_i32_3608 : BitVec 32 := 0#32
  let v3448 : BitVec 1 := Scalar.cmpi .ne v3447 c0_i32_3608
  let v3452 : BitVec 1 := Scalar.andi v3451 v3448
  let v3453 : BitVec 32 := Scalar.addi v3447 v3446
  let v3454 : BitVec 32 := Scalar.select v3452 v3453 v3447
  let c1_i32_3783 : BitVec 32 := 1#32
  let v3645 : BitVec 32 := Scalar.muli v3454 c1_i32_3783
  let v3646 : BitVec 32 := Scalar.addi c0_i32_3784 v3645
  v3646.toNat
def k0_dev20 (d0 : Dev nD) : Nat :=
  let c0_i32_3970 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m1_i32 : BitVec 32 := 4294967295#32
  let v3655 : BitVec 32 := Scalar.addi v2 c_m1_i32
  let c8_i32_3791 : BitVec 32 := 8#32
  let c0_i32_3792 : BitVec 32 := 0#32
  let v3656 : BitVec 1 := Scalar.cmpi .eq c8_i32_3791 c0_i32_3792
  let c1_i32_3793 : BitVec 32 := 1#32
  let v3657 : BitVec 32 := Scalar.select v3656 c1_i32_3793 c8_i32_3791
  let v3658 : BitVec 32 := Scalar.remsi v3655 v3657
  let c0_i32_3795 : BitVec 32 := 0#32
  let v3660 : BitVec 1 := Scalar.cmpi .slt v3658 c0_i32_3795
  let c0_i32_3796 : BitVec 32 := 0#32
  let v3661 : BitVec 1 := Scalar.cmpi .slt v3657 c0_i32_3796
  let v3662 : BitVec 1 := Scalar.xori v3660 v3661
  let c0_i32_3794 : BitVec 32 := 0#32
  let v3659 : BitVec 1 := Scalar.cmpi .ne v3658 c0_i32_3794
  let v3663 : BitVec 1 := Scalar.andi v3662 v3659
  let v3664 : BitVec 32 := Scalar.addi v3658 v3657
  let v3665 : BitVec 32 := Scalar.select v3663 v3664 v3658
  let c1_i32_3969 : BitVec 32 := 1#32
  let v3856 : BitVec 32 := Scalar.muli v3665 c1_i32_3969
  let v3857 : BitVec 32 := Scalar.addi c0_i32_3970 v3856
  v3857.toNat
def k0_dev21 (d0 : Dev nD) : Nat :=
  let c0_i32_4155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m2_i32 : BitVec 32 := 4294967294#32
  let v3866 : BitVec 32 := Scalar.addi v2 c_m2_i32
  let c8_i32_3977 : BitVec 32 := 8#32
  let c0_i32_3978 : BitVec 32 := 0#32
  let v3867 : BitVec 1 := Scalar.cmpi .eq c8_i32_3977 c0_i32_3978
  let c1_i32_3979 : BitVec 32 := 1#32
  let v3868 : BitVec 32 := Scalar.select v3867 c1_i32_3979 c8_i32_3977
  let v3869 : BitVec 32 := Scalar.remsi v3866 v3868
  let c0_i32_3981 : BitVec 32 := 0#32
  let v3871 : BitVec 1 := Scalar.cmpi .slt v3869 c0_i32_3981
  let c0_i32_3982 : BitVec 32 := 0#32
  let v3872 : BitVec 1 := Scalar.cmpi .slt v3868 c0_i32_3982
  let v3873 : BitVec 1 := Scalar.xori v3871 v3872
  let c0_i32_3980 : BitVec 32 := 0#32
  let v3870 : BitVec 1 := Scalar.cmpi .ne v3869 c0_i32_3980
  let v3874 : BitVec 1 := Scalar.andi v3873 v3870
  let v3875 : BitVec 32 := Scalar.addi v3869 v3868
  let v3876 : BitVec 32 := Scalar.select v3874 v3875 v3869
  let c1_i32_4154 : BitVec 32 := 1#32
  let v4067 : BitVec 32 := Scalar.muli v3876 c1_i32_4154
  let v4068 : BitVec 32 := Scalar.addi c0_i32_4155 v4067
  v4068.toNat
def k0_dev22 (d0 : Dev nD) : Nat :=
  let c0_i32_4340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m3_i32 : BitVec 32 := 4294967293#32
  let v4077 : BitVec 32 := Scalar.addi v2 c_m3_i32
  let c8_i32_4162 : BitVec 32 := 8#32
  let c0_i32_4163 : BitVec 32 := 0#32
  let v4078 : BitVec 1 := Scalar.cmpi .eq c8_i32_4162 c0_i32_4163
  let c1_i32_4164 : BitVec 32 := 1#32
  let v4079 : BitVec 32 := Scalar.select v4078 c1_i32_4164 c8_i32_4162
  let v4080 : BitVec 32 := Scalar.remsi v4077 v4079
  let c0_i32_4166 : BitVec 32 := 0#32
  let v4082 : BitVec 1 := Scalar.cmpi .slt v4080 c0_i32_4166
  let c0_i32_4167 : BitVec 32 := 0#32
  let v4083 : BitVec 1 := Scalar.cmpi .slt v4079 c0_i32_4167
  let v4084 : BitVec 1 := Scalar.xori v4082 v4083
  let c0_i32_4165 : BitVec 32 := 0#32
  let v4081 : BitVec 1 := Scalar.cmpi .ne v4080 c0_i32_4165
  let v4085 : BitVec 1 := Scalar.andi v4084 v4081
  let v4086 : BitVec 32 := Scalar.addi v4080 v4079
  let v4087 : BitVec 32 := Scalar.select v4085 v4086 v4080
  let c1_i32_4339 : BitVec 32 := 1#32
  let v4278 : BitVec 32 := Scalar.muli v4087 c1_i32_4339
  let v4279 : BitVec 32 := Scalar.addi c0_i32_4340 v4278
  v4279.toNat
def k0_dev23 (d0 : Dev nD) : Nat :=
  let c0_i32_4525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m4_i32 : BitVec 32 := 4294967292#32
  let v4288 : BitVec 32 := Scalar.addi v2 c_m4_i32
  let c8_i32_4347 : BitVec 32 := 8#32
  let c0_i32_4348 : BitVec 32 := 0#32
  let v4289 : BitVec 1 := Scalar.cmpi .eq c8_i32_4347 c0_i32_4348
  let c1_i32_4349 : BitVec 32 := 1#32
  let v4290 : BitVec 32 := Scalar.select v4289 c1_i32_4349 c8_i32_4347
  let v4291 : BitVec 32 := Scalar.remsi v4288 v4290
  let c0_i32_4351 : BitVec 32 := 0#32
  let v4293 : BitVec 1 := Scalar.cmpi .slt v4291 c0_i32_4351
  let c0_i32_4352 : BitVec 32 := 0#32
  let v4294 : BitVec 1 := Scalar.cmpi .slt v4290 c0_i32_4352
  let v4295 : BitVec 1 := Scalar.xori v4293 v4294
  let c0_i32_4350 : BitVec 32 := 0#32
  let v4292 : BitVec 1 := Scalar.cmpi .ne v4291 c0_i32_4350
  let v4296 : BitVec 1 := Scalar.andi v4295 v4292
  let v4297 : BitVec 32 := Scalar.addi v4291 v4290
  let v4298 : BitVec 32 := Scalar.select v4296 v4297 v4291
  let c1_i32_4524 : BitVec 32 := 1#32
  let v4489 : BitVec 32 := Scalar.muli v4298 c1_i32_4524
  let v4490 : BitVec 32 := Scalar.addi c0_i32_4525 v4489
  v4490.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2x1024x512 : Shape := ⟨3, ![2, 1024, 512]⟩
abbrev S512x2048 : Shape := ⟨2, ![512, 2048]⟩
abbrev S2048x512 : Shape := ⟨2, ![2048, 512]⟩
abbrev S1024x256 : Shape := ⟨2, ![1024, 256]⟩
abbrev S256x256 : Shape := ⟨2, ![256, 256]⟩
abbrev S1x1024x1x256 : Shape := ⟨4, ![1, 1024, 1, 256]⟩
abbrev S1x1024x8x256 : Shape := ⟨4, ![1, 1024, 8, 256]⟩
abbrev S1024x2048 : Shape := ⟨2, ![1024, 2048]⟩
abbrev S1024x32x64 : Shape := ⟨3, ![1024, 32, 64]⟩
abbrev S2x1024x2048 : Shape := ⟨3, ![2, 1024, 2048]⟩
abbrev S2x1024x32x64 : Shape := ⟨4, ![2, 1024, 32, 64]⟩
abbrev S2x1024x32x32x2 : Shape := ⟨5, ![2, 1024, 32, 32, 2]⟩
abbrev S2x1024x32x32x1 : Shape := ⟨5, ![2, 1024, 32, 32, 1]⟩
abbrev S2x1024x32x32 : Shape := ⟨4, ![2, 1024, 32, 32]⟩
abbrev S1x1024x32x64 : Shape := ⟨4, ![1, 1024, 32, 64]⟩
abbrev S2x32x1024x1024 : Shape := ⟨4, ![2, 32, 1024, 1024]⟩
abbrev S_ : Shape := ⟨0, ![]⟩
abbrev S2x32x1024 : Shape := ⟨3, ![2, 32, 1024]⟩
abbrev S2x32x1024x1 : Shape := ⟨4, ![2, 32, 1024, 1]⟩
abbrev S2x32x64x1024 : Shape := ⟨4, ![2, 32, 64, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2x1024x512, .bf16⟩
  | .hbm, ⟨1, _⟩ => ⟨S512x2048, .bf16⟩
  | .hbm, ⟨2, _⟩ => ⟨S512x2048, .bf16⟩
  | .hbm, ⟨3, _⟩ => ⟨S512x2048, .bf16⟩
  | .hbm, ⟨4, _⟩ => ⟨S2048x512, .bf16⟩
  | .hbm, ⟨5, _⟩ => ⟨S1024x256, .f32⟩
  | .hbm, ⟨6, _⟩ => ⟨S1024x256, .f32⟩
  | .hbm, ⟨7, _⟩ => ⟨S256x256, .f32⟩
  | .hbm, ⟨8, _⟩ => ⟨S1x1024x1x256, .f32⟩
  | .hbm, ⟨9, _⟩ => ⟨S1x1024x8x256, .f32⟩
  | .hbm, ⟨10, _⟩ => ⟨S1024x2048, .f32⟩
  | .hbm, ⟨11, _⟩ => ⟨S1024x32x64, .f32⟩
  | .hbm, ⟨12, _⟩ => ⟨S1x1024x1x256, .f32⟩
  | .hbm, ⟨13, _⟩ => ⟨S1x1024x8x256, .f32⟩
  | .hbm, ⟨14, _⟩ => ⟨S1024x2048, .f32⟩
  | .hbm, ⟨15, _⟩ => ⟨S1024x32x64, .f32⟩
  | .hbm, ⟨16, _⟩ => ⟨S2x1024x2048, .f32⟩
  | .hbm, ⟨17, _⟩ => ⟨S2x1024x2048, .bf16⟩
  | .hbm, ⟨18, _⟩ => ⟨S2x1024x32x64, .bf16⟩
  | .hbm, ⟨19, _⟩ => ⟨S2x1024x32x64, .f32⟩
  | .hbm, ⟨20, _⟩ => ⟨S2x1024x32x32x2, .f32⟩
  | .hbm, ⟨21, _⟩ => ⟨S2x1024x32x32x1, .f32⟩
  | .hbm, ⟨22, _⟩ => ⟨S2x1024x32x32, .f32⟩
  | .hbm, ⟨23, _⟩ => ⟨S2x1024x32x32, .f32⟩
  | .hbm, ⟨24, _⟩ => ⟨S2x1024x32x32x1, .f32⟩
  | .hbm, ⟨25, _⟩ => ⟨S2x1024x32x32, .f32⟩
  | .hbm, ⟨26, _⟩ => ⟨S2x1024x32x32x1, .f32⟩
  | .hbm, ⟨27, _⟩ => ⟨S2x1024x32x32x1, .f32⟩
  | .hbm, ⟨28, _⟩ => ⟨S2x1024x32x32x2, .f32⟩
  | .hbm, ⟨29, _⟩ => ⟨S2x1024x32x64, .f32⟩
  | .hbm, ⟨30, _⟩ => ⟨S1x1024x32x64, .f32⟩
  | .hbm, ⟨31, _⟩ => ⟨S2x1024x32x64, .f32⟩
  | .hbm, ⟨32, _⟩ => ⟨S2x1024x32x64, .f32⟩
  | .hbm, ⟨33, _⟩ => ⟨S1x1024x32x64, .f32⟩
  | .hbm, ⟨34, _⟩ => ⟨S2x1024x32x64, .f32⟩
  | .hbm, ⟨35, _⟩ => ⟨S2x1024x32x64, .f32⟩
  | .hbm, ⟨36, _⟩ => ⟨S2x1024x32x64, .f32⟩
  | .hbm, ⟨37, _⟩ => ⟨S2x1024x2048, .f32⟩
  | .hbm, ⟨38, _⟩ => ⟨S2x1024x2048, .bf16⟩
  | .hbm, ⟨39, _⟩ => ⟨S2x1024x32x64, .bf16⟩
  | .hbm, ⟨40, _⟩ => ⟨S2x1024x32x64, .f32⟩
  | .hbm, ⟨41, _⟩ => ⟨S2x1024x32x32x2, .f32⟩
  | .hbm, ⟨42, _⟩ => ⟨S2x1024x32x32x1, .f32⟩
  | .hbm, ⟨43, _⟩ => ⟨S2x1024x32x32, .f32⟩
  | .hbm, ⟨44, _⟩ => ⟨S2x1024x32x32, .f32⟩
  | .hbm, ⟨45, _⟩ => ⟨S2x1024x32x32x1, .f32⟩
  | .hbm, ⟨46, _⟩ => ⟨S2x1024x32x32, .f32⟩
  | .hbm, ⟨47, _⟩ => ⟨S2x1024x32x32x1, .f32⟩
  | .hbm, ⟨48, _⟩ => ⟨S2x1024x32x32x1, .f32⟩
  | .hbm, ⟨49, _⟩ => ⟨S2x1024x32x32x2, .f32⟩
  | .hbm, ⟨50, _⟩ => ⟨S2x1024x32x64, .f32⟩
  | .hbm, ⟨51, _⟩ => ⟨S1x1024x32x64, .f32⟩
  | .hbm, ⟨52, _⟩ => ⟨S2x1024x32x64, .f32⟩
  | .hbm, ⟨53, _⟩ => ⟨S2x1024x32x64, .f32⟩
  | .hbm, ⟨54, _⟩ => ⟨S1x1024x32x64, .f32⟩
  | .hbm, ⟨55, _⟩ => ⟨S2x1024x32x64, .f32⟩
  | .hbm, ⟨56, _⟩ => ⟨S2x1024x32x64, .f32⟩
  | .hbm, ⟨57, _⟩ => ⟨S2x1024x32x64, .f32⟩
  | .hbm, ⟨58, _⟩ => ⟨S2x1024x2048, .f32⟩
  | .hbm, ⟨59, _⟩ => ⟨S2x1024x2048, .bf16⟩
  | .hbm, ⟨60, _⟩ => ⟨S2x1024x32x64, .bf16⟩
  | .hbm, ⟨61, _⟩ => ⟨S2x1024x32x64, .f32⟩
  | .hbm, ⟨62, _⟩ => ⟨S2x32x1024x1024, .f32⟩
  | .hbm, ⟨63, _⟩ => ⟨S_, .f32⟩
  | .hbm, ⟨64, _⟩ => ⟨S2x32x1024x1024, .f32⟩
  | .hbm, ⟨65, _⟩ => ⟨S2x32x1024x1024, .f32⟩
  | .hbm, ⟨66, _⟩ => ⟨S_, .f32⟩
  | .hbm, ⟨67, _⟩ => ⟨S2x32x1024, .f32⟩
  | .hbm, ⟨68, _⟩ => ⟨S2x32x1024x1, .f32⟩
  | .hbm, ⟨69, _⟩ => ⟨S2x32x1024x1024, .f32⟩
  | .hbm, ⟨70, _⟩ => ⟨S2x32x1024x1024, .f32⟩
  | .hbm, ⟨71, _⟩ => ⟨S2x32x1024x1024, .f32⟩
  | .hbm, ⟨72, _⟩ => ⟨S_, .f32⟩
  | .hbm, ⟨73, _⟩ => ⟨S2x32x1024, .f32⟩
  | .hbm, ⟨74, _⟩ => ⟨S2x32x1024x1, .f32⟩
  | .hbm, ⟨75, _⟩ => ⟨S2x32x1024x1024, .f32⟩
  | .hbm, ⟨76, _⟩ => ⟨S2x32x1024x1024, .f32⟩
  | .hbm, ⟨77, _⟩ => ⟨S2x32x64x1024, .f32⟩
  | .hbm, ⟨78, _⟩ => ⟨S2x1024x32x64, .f32⟩
  | .hbm, ⟨79, _⟩ => ⟨S2x1024x2048, .f32⟩
  | .hbm, ⟨80, _⟩ => ⟨S2048x512, .f32⟩
  | .hbm, ⟨81, _⟩ => ⟨S2x1024x512, .f32⟩
  | _, _ => ⟨S2x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst : Ref sig .tc := ⟨.hbm, 63, rfl⟩
abbrev main_v55 : Ref sig .tc := ⟨.hbm, 64, rfl⟩
abbrev main_v56 : Ref sig .tc := ⟨.hbm, 65, rfl⟩
abbrev main_cst_0 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_1 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩

abbrev nD : Nat := 1
abbrev τ : Topo := Topo.v7x

variable {F : FTy → Type} [FloatOps F]
-- ==== Proof.Base.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds
public import Idealize.ShloMosaic.Lib.Tactic

/-! Buffers whose contents are known on a part, and the rules for a load and a store of such a buffer. -/

@[expose] public section

noncomputable section

namespace Cert.Rope

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

/-- The resources of a run over the float values `F`. -/
abbrev MM (F : FTy → Type) := MT nD τ sig Unit (Elt F) ℕ UU ℕ

abbrev 𝒱₀ : Variants := Variants.none

/-- What a program of a device's core establishes. -/
abbrev WP (c : Dev nD) {α : Type} (p : Prog (TpuEff nD τ sig (Elt F) Λ₀ .tc) α) (Q : α → sProp (MM F)) : sProp (MM F) :=
  wp frame (wpE (defs₀ (F := F)) 𝒱₀ (c : Thread nD τ) none) Set.univ p Q

/-- Device `c` owns the whole buffer `b`, which agrees with `G` wherever `P` holds. -/
def Held (c : Dev nD) (b : Ref sig .tc) (P : b.ty.Idx → Prop) (G : b.ty.Contents (Elt F)) : sProp (MM F) :=
  iprop(∃ f : Buf (Elt F) ((c : Thread nD τ).loc b), ⌜∀ i, P i → f i = G i⌝ ∗ (((c : Thread nD τ).loc b) ↦{fullShare} f))

theorem Held.mono {c : Dev nD} {b : Ref sig .tc} {P P' : b.ty.Idx → Prop} {G G' : b.ty.Contents (Elt F)}
    (h : ∀ i, P' i → P i ∧ G i = G' i) : Held (F := F) c b P G ⊢ Held c b P' G' := by
  unfold Held
  iintro ⟨%f, %hf, H⟩
  iexists f
  isplitr
  · ipureintro; intro i hi; rw [hf i (h i hi).1, (h i hi).2]
  · iexact H

/-- Of a whole buffer's index, what a load at a rectangle reads. -/
theorem read_whole_at {b : Ref sig .tc} (r : LoadRect b.ty.shape) (f : b.ty.Contents (Elt F)) (x : r.shape.Idx) :
    (Memref.whole b : Memref sig .tc _ _ _).view.readAt (Elt F) r f x = f (r.idx x) := rfl

/-- A buffer in one of the core's own memories. -/
abbrev rf {cs : CoreSpace} (i : Fin (sig.nNear .tc cs)) (hκ : sig.names .tc cs i = true) : Ref sig .tc := ⟨cs, i, hκ⟩

variable {c : Dev nD} {cs : CoreSpace} {i₀ : Fin (sig.nNear .tc cs)} {hκ : sig.names .tc cs i₀ = true} {P : (rf i₀ hκ).ty.Idx → Prop} {G : (rf i₀ hκ).ty.Contents (Elt F)} {α : Type} {Q : α → sProp (MM F)} {R : sProp (MM F)}

theorem wp_lift_bind {β : Type} (e : TpuEff nD τ sig (Elt F) Λ₀ .tc β) (k : β → Prog (TpuEff nD τ sig (Elt F) Λ₀ .tc) α) :
    WP c (Prog.lift e >>= k) Q = WP c (.op e k) Q := rfl

/-- A load of a whole buffer held at contents `f`. -/
theorem raw_load {r : LoadRect (rf i₀ hκ).ty.shape} {hl} {k : (r.shape.Idx → Elt F (rf i₀ hκ).ty.elt) → Prog (TpuEff nD τ sig (Elt F) Λ₀ .tc) α}
    {f : Buf (Elt F) ((c : Thread nD τ).loc (rf i₀ hκ))} {v : r.shape.Idx → Elt F (rf i₀ hκ).ty.elt} (hv : ∀ x, f (r.idx x) = v x)
    (hk : iprop(R ∗ (((c : Thread nD τ).loc (rf i₀ hκ)) ↦{fullShare} f)) ⊢ WP c (k v) Q) :
    iprop(R ∗ (((c : Thread nD τ).loc (rf i₀ hκ)) ↦{fullShare} f)) ⊢ WP c (Prog.lift (.load (Memref.whole (rf i₀ hκ)) r hl) >>= k) Q := by
  rw [wp_lift_bind]
  have hv' : (Memref.whole (rf i₀ hκ) : Memref sig .tc _ _ _).view.readAt (Elt F) r f = v := funext fun x => hv x
  iintro ⟨HR, H⟩
  iapply (wp_load (m := Memref.whole (rf i₀ hκ)) (r := r) (hl := hl) (k := k) (defs := defs₀ (F := F)) 𝒱₀ (c : Thread nD τ) none Set.univ (S := Finset.univ) (f := f) (q := fullShare) (Finset.subset_univ _)) $$ H
  iintro H
  rw [hv']
  iapply hk
  isplitl [HR]
  · iexact HR
  · iexact H

/-- A store to a whole buffer held at contents `f`. -/
theorem raw_store {r : Rect (rf i₀ hκ).ty.shape} {w : r.shape.Idx → Elt F (rf i₀ hκ).ty.elt} {hx hm}
    {k : PUnit → Prog (TpuEff nD τ sig (Elt F) Λ₀ .tc) α} {f : Buf (Elt F) ((c : Thread nD τ).loc (rf i₀ hκ))}
    (hk : ∀ g : Buf (Elt F) ((c : Thread nD τ).loc (rf i₀ hκ)), (∀ x, g (r.emb x) = w x) → (∀ i, (∀ x, r.emb x ≠ i) → g i = f i) →
      iprop(R ∗ (((c : Thread nD τ).loc (rf i₀ hκ)) ↦{fullShare} g)) ⊢ WP c (k ⟨⟩) Q) :
    iprop(R ∗ (((c : Thread nD τ).loc (rf i₀ hκ)) ↦{fullShare} f))
      ⊢ WP c (Prog.lift (.store (Memref.whole (rf i₀ hκ)) r w Finset.univ hx hm) >>= k) Q := by
  rw [wp_lift_bind]
  have h1 : ∀ x, ((Memref.whole (rf i₀ hκ)).access r : View sig .tc _ _ _).write (Elt F) f w Finset.univ (r.emb x) = w x :=
    fun x => View.write_emb_of_mem (v := ((Memref.whole (rf i₀ hκ)).access r : View sig .tc _ _ _)) (Val := Elt F) f w (Finset.mem_univ x)
  have h2 : ∀ i, (∀ x, r.emb x ≠ i) → ((Memref.whole (rf i₀ hκ)).access r : View sig .tc _ _ _).write (Elt F) f w Finset.univ i = f i := by
    intro i hi
    refine View.write_of_not_mem (v := ((Memref.whole (rf i₀ hκ)).access r : View sig .tc _ _ _)) (Val := Elt F) f w _ ?_
    intro hmem
    obtain ⟨x, -, hx'⟩ := Finset.mem_map.mp hmem
    exact hi x hx'
  iintro ⟨HR, H⟩
  iapply (wp_store (m := Memref.whole (rf i₀ hκ)) (r := r) (w := w) (Mk := Finset.univ) (hx := hx) (hm := hm) (k := k) (defs := defs₀ (F := F)) 𝒱₀ (c : Thread nD τ) none Set.univ (S := Finset.univ) (f := f) (Finset.subset_univ _)) $$ H
  iintro H
  iapply (hk _ h1 h2)
  isplitl [HR]
  · iexact HR
  · iexact H

theorem held_elim {b : Ref sig .tc} {P : b.ty.Idx → Prop} {G : b.ty.Contents (Elt F)} {X : sProp (MM F)}
    (h : ∀ f : Buf (Elt F) ((c : Thread nD τ).loc b), (∀ i, P i → f i = G i) → iprop(R ∗ (((c : Thread nD τ).loc b) ↦{fullShare} f)) ⊢ X) :
    iprop(R ∗ Held c b P G) ⊢ X := by
  unfold Held
  iintro ⟨HR, ⟨%f, %hf, H⟩⟩
  iapply (h f hf)
  isplitl [HR]
  · iexact HR
  · iexact H

theorem held_intro {b : Ref sig .tc} {P : b.ty.Idx → Prop} {G : b.ty.Contents (Elt F)} {f : Buf (Elt F) ((c : Thread nD τ).loc b)}
    (hf : ∀ i, P i → f i = G i) : iprop(R ∗ (((c : Thread nD τ).loc b) ↦{fullShare} f)) ⊢ iprop(R ∗ Held c b P G) := by
  unfold Held
  iintro ⟨HR, H⟩
  isplitl [HR]
  · iexact HR
  iexists f
  isplitr
  · ipureintro; exact hf
  · iexact H

/-- A load inside the known part reads the known contents. -/
theorem held_load (r : LoadRect (rf i₀ hκ).ty.shape) (h : ∀ x, P (r.idx x)) {hl} {k : (r.shape.Idx → Elt F (rf i₀ hκ).ty.elt) → Prog (TpuEff nD τ sig (Elt F) Λ₀ .tc) α}
    {v : r.shape.Idx → Elt F (rf i₀ hκ).ty.elt} (hv : ∀ x, G (r.idx x) = v x)
    (hk : iprop(R ∗ Held c (rf i₀ hκ) P G) ⊢ WP c (k v) Q) :
    iprop(R ∗ Held c (rf i₀ hκ) P G) ⊢ WP c (Prog.lift (.load (Memref.whole (rf i₀ hκ)) r hl) >>= k) Q :=
  held_elim fun f hf => raw_load (fun x => (hf _ (h x)).trans (hv x)) ((held_intro hf).trans hk)

/-- A load whose value is not used. -/
theorem held_peek (r : LoadRect (rf i₀ hκ).ty.shape) {hl} {k : (r.shape.Idx → Elt F (rf i₀ hκ).ty.elt) → Prog (TpuEff nD τ sig (Elt F) Λ₀ .tc) α}
    (hk : ∀ v, iprop(R ∗ Held c (rf i₀ hκ) P G) ⊢ WP c (k v) Q) :
    iprop(R ∗ Held c (rf i₀ hκ) P G) ⊢ WP c (Prog.lift (.load (Memref.whole (rf i₀ hκ)) r hl) >>= k) Q :=
  held_elim fun f hf => raw_load (v := fun x => f (r.idx x)) (fun x => rfl) ((held_intro hf).trans (hk _))

/-- A store: afterwards the buffer is known on the rectangle too. -/
theorem held_store (r : Rect (rf i₀ hκ).ty.shape) {w : r.shape.Idx → Elt F (rf i₀ hκ).ty.elt} {P' : (rf i₀ hκ).ty.Idx → Prop} {G' : (rf i₀ hκ).ty.Contents (Elt F)}
    (hin : ∀ x, P' (r.emb x) → G' (r.emb x) = w x)
    (hout : ∀ i, P' i → (∀ x, r.emb x ≠ i) → P i ∧ G i = G' i) {hx hm}
    {k : PUnit → Prog (TpuEff nD τ sig (Elt F) Λ₀ .tc) α}
    (hk : iprop(R ∗ Held c (rf i₀ hκ) P' G') ⊢ WP c (k ⟨⟩) Q) :
    iprop(R ∗ Held c (rf i₀ hκ) P G) ⊢ WP c (Prog.lift (.store (Memref.whole (rf i₀ hκ)) r w Finset.univ hx hm) >>= k) Q :=
  held_elim fun f hf => raw_store fun g hg hg' => (held_intro fun i hi => by
    by_cases hx : ∃ x, r.emb x = i
    · obtain ⟨x, rfl⟩ := hx
      rw [hin x hi, hg]
    · have hx' : ∀ x, r.emb x ≠ i := fun x e => hx ⟨x, e⟩
      have h1 := hout i hi hx'
      rw [hg' i hx', hf i h1.1, h1.2]).trans hk

end Cert.Rope

end
-- ==== Proof.Contents.lean ====
module

public import proofs.«01_k».proof.Proof.Base

/-! What every buffer of the kernel holds, as functions of the devices' inputs. -/

@[expose] public section

noncomputable section

namespace Cert.Rope

open Cert.KernelIdeal Cert.KernelIdeal.Gen
open Idealize.ShloMosaic
open Idealize.ShloMosaic.TcCoe

variable {F : FTy → Type} [FloatOps F]

/-- The inputs of every device. -/
structure Ins (F : FTy → Type) where
  x : Dev nD → Vec F S2x128x512 .bf16
  wq : Dev nD → Vec F S512x256 .bf16
  wk : Dev nD → Vec F S512x256 .bf16
  wv : Dev nD → Vec F S512x256 .bf16
  wo : Dev nD → Vec F S256x512 .bf16
  cs : Dev nD → Vec F S1024x256 .f32
  sn : Dev nD → Vec F S1024x256 .f32
  pm : Dev nD → Vec F S256x256 .f32

/-- The device a number names, around the ring. -/
def dv (k : ℕ) : Dev nD := ⟨k % 8, Nat.mod_lt _ (by decide)⟩

/-- An index of a one-by-one block, its coordinates taken around. -/
def ix4 (n2 n3 : ℕ) [NeZero n2] [NeZero n3] (r c : ℕ) : (⟨4, ![1, 1, n2, n3]⟩ : Shape).Idx :=
  fun | 0 => (0 : Fin 1) | 1 => (0 : Fin 1) | 2 => Fin.ofNat n2 r | 3 => Fin.ofNat n3 c

/-- A block's value at a row and a column. -/
def at4 {n2 n3 : ℕ} [NeZero n2] [NeZero n3] {α : Type} (v : (⟨4, ![1, 1, n2, n3]⟩ : Shape).Idx → α) (r c : ℕ) : α :=
  v (ix4 n2 n3 r c)

/-- The block of a buffer at given offsets. -/
def rd4 {α : Type} (n : Fin 4 → ℕ) (G : ℕ → ℕ → ℕ → ℕ → α) (a b r c : ℕ) : (⟨4, n⟩ : Shape).Idx → α :=
  fun x => G (a + (x 0).val) (b + (x 1).val) (r + (x 2).val) (c + (x 3).val)

/-- Read a buffer of four axes by numbers. -/
def by4 {α : Type} {n : Fin 4 → ℕ} (G : ℕ → ℕ → ℕ → ℕ → α) : (⟨4, n⟩ : Shape).Idx → α :=
  fun i => G (i 0).val (i 1).val (i 2).val (i 3).val

/-- The ring distance of the chunk that arrives as number `j`. -/
def arr : ℕ → ℕ
  | 0 => 0 | 1 => 7 | 2 => 1 | 3 => 6 | 4 => 2 | 5 => 5 | 6 => 3 | _ => 4

/-- The chunk that device `c` treats as number `j`. -/
def kd (c : Dev nD) (j : ℕ) : ℕ := (c.val + arr j) % 8

variable (I : Ins F) (c : Dev nD)

/-- The gathered activations, one chunk a device. -/
def XG : ℕ → ℕ → ℕ → ℕ → F .bf16 := fun k b r col =>
  k0_pay6 (I.x (dv k)) (fun | 0 => (0 : Fin 1) | 1 => Fin.ofNat 2 b | 2 => Fin.ofNat 128 r | 3 => Fin.ofNat 512 col)

/-- Chunk `k`'s rows of a table. -/
def tabR (t : Vec F S1024x256 .f32) (k : ℕ) : Vec F S128x256 .f32 := fun y =>
  t (fun | 0 => Fin.ofNat 1024 (128 * k + (y 0).val) | 1 => Fin.ofNat 256 (y 1).val)

abbrev xbk (j b : ℕ) : Vec F S1x1x128x512 .bf16 := rd4 ![1, 1, 128, 512] (XG I) (kd c j) b 0 0

def qrow (j b : ℕ) : FVec F S128x256 .bf16 :=
  k0_pay10 (k0_pay1 (I.wq c)) (k0_pay5 (I.pm c)) (tabR (I.cs c) (kd c j)) (tabR (I.sn c) (kd c j)) (xbk I c j b)
def krow (j b : ℕ) : FVec F S128x256 .bf16 :=
  k0_pay11 (k0_pay2 (I.wk c)) (k0_pay5 (I.pm c)) (tabR (I.cs c) (kd c j)) (tabR (I.sn c) (kd c j)) (xbk I c j b)
def vrow (j b : ℕ) : FVec F S128x256 .bf16 := k0_pay12 (k0_pay3 (I.wv c)) (xbk I c j b)

/-- A head's columns of a block of rows. -/
def headOf (v : FVec F S128x256 .bf16) : ℕ → FVec F S1x1x128x64 .bf16
  | 0 => k0_pay17 v | 1 => k0_pay19 v | 2 => k0_pay25 v | _ => k0_pay28 v

def ones : FVec F S1x1x128x64 .bf16 := k0_pay18 (k0_pay13 (F := F))

def QG : ℕ → ℕ → ℕ → ℕ → F .bf16 := fun b h row col => at4 (headOf (qrow I c (row / 128) b) h) row col
def KG : ℕ → ℕ → ℕ → ℕ → F .bf16 := fun b h row col => at4 (headOf (krow I c (row / 128) b) h) row col
def VG : ℕ → ℕ → ℕ → ℕ → F .bf16 := fun b h row col =>
  if col < 64 then at4 (headOf (vrow I c (row / 128) b) h) row col else at4 (ones (F := F)) row col

abbrev rq (n b h r : ℕ) : (⟨4, ![1, 1, n, 64]⟩ : Shape).Idx → F .bf16 := rd4 ![1, 1, n, 64] (QG I c) b h r 0
abbrev rk (n b h r : ℕ) : (⟨4, ![1, 1, n, 64]⟩ : Shape).Idx → F .bf16 := rd4 ![1, 1, n, 64] (KG I c) b h r 0
abbrev rv (n b h r : ℕ) : (⟨4, ![1, 1, n, 128]⟩ : Shape).Idx → F .bf16 := rd4 ![1, 1, n, 128] (VG I c) b h r 0

/-- The rows of chunk `j` against the chunks that have arrived. -/
def accNew (b h : ℕ) : ℕ → FVec F S1x1x128x128 .f32
  | 0 => k0_pay55 (rq I c 128 b h 0) (rk I c 128 b h 0) (rv I c 128 b h 0)
  | 1 => k0_pay184 (rq I c 128 b h 128) (rk I c 256 b h 0) (rv I c 256 b h 0)
  | 2 => k0_pay209 (rq I c 128 b h 256) (rk I c 384 b h 0) (rv I c 384 b h 0)
  | j => k0_pay329 (rq I c 128 b h (128 * j)) (rk I c 512 b h 0) (rv I c 512 b h 0)

/-- The earlier rows, with what chunk `j` adds to them. -/
def accOld (A : ℕ → ℕ → ℕ → ℕ → F .f32) (b h : ℕ) : ℕ → ℕ → ℕ → F .f32
  | 1 => at4 (k0_pay180 (rq I c 128 b h 0) (rk I c 128 b h 128) (rd4 ![1, 1, 128, 128] A b h 0 0) (rv I c 128 b h 128))
  | 2 => at4 (k0_pay210 (rq I c 256 b h 0) (rk I c 128 b h 256) (rd4 ![1, 1, 256, 128] A b h 0 0) (rv I c 128 b h 256))
  | 3 => at4 (k0_pay321 (rq I c 384 b h 0) (rk I c 128 b h 384) (rd4 ![1, 1, 384, 128] A b h 0 0) (rv I c 128 b h 384))
  | _ => A b h

/-- The accumulator after a number of stores to a head: two a chunk, its own rows and the earlier ones. -/
def AG : ℕ → ℕ → ℕ → ℕ → ℕ → F .f32
  | 0 => fun b h row col => at4 (accNew I c b h 0) row col
  | n + 1 => fun b h row col =>
    if n % 2 = 0 then
      if row / 128 = n / 2 then at4 (accNew I c b h (n / 2)) row col else AG n b h row col
    else
      if row / 128 < n / 2 then accOld I c (AG n) b h (n / 2) row col else AG n b h row col

/-- One head's context rows of chunk `j`. -/
def ctx (j b h : ℕ) : FVec F S128x64 .bf16 :=
  k0_pay563 (rq I c 128 b h (128 * j)) (rk I c 512 b h 512) (rd4 ![1, 1, 128, 128] (AG I c 16) b h (128 * j) 0) (rv I c 512 b h 512)

/-- A head's context through its rows of the output weights. -/
def thru (w : FVec F S64x512 .bf16) (v : FVec F S128x64 .bf16) : FVec F S128x512 .f32 :=
  matmul dot_S128x64_S64x512_S128x512_1_0_0_1_n_n none v w (constant S128x512 .f32 0x00000000#32)

/-- The part of chunk `j`'s output rows this device contributes. -/
def part (j b : ℕ) : FVec F S128x512 .f32 :=
  addf (addf (addf
    (thru (extractStridedSlice S64x512 ![0, 0] (k0_pay4 (I.wo c)) slices_S256x512_o0_0_S64x512) (ctx I c j b 0))
    (thru (extractStridedSlice S64x512 ![64, 0] (k0_pay4 (I.wo c)) slices_S256x512_o64_0_S64x512) (ctx I c j b 1)))
    (thru (extractStridedSlice S64x512 ![128, 0] (k0_pay4 (I.wo c)) slices_S256x512_o128_0_S64x512) (ctx I c j b 2)))
    (thru (extractStridedSlice S64x512 ![192, 0] (k0_pay4 (I.wo c)) slices_S256x512_o192_0_S64x512) (ctx I c j b 3))

/-- The chunk whose part is the `t`-th to be sent out. -/
def jt : ℕ → ℕ
  | 0 => 2 | 1 => 4 | 2 => 6 | 3 => 1 | 4 => 3 | 5 => 5 | _ => 7

/-- Which send of its sender fills slot `s`. -/
def ts : ℕ → ℕ
  | 0 => 3 | 1 => 4 | 2 => 5 | 3 => 6 | 4 => 2 | 5 => 1 | _ => 0

/-- The parts staged for sending. -/
def RG : ℕ → ℕ → ℕ → ℕ → F .bf16 := fun t b r col => at4 (k0_pay572 (part I c (jt t) b)) r col

/-- The parts received: slot `s` from the device `s + 1` further on. -/
def RI : ℕ → ℕ → ℕ → ℕ → F .bf16 := fun s b r col => RG I (dv (c.val + s + 1)) (ts s) b r col

/-- Add a received part. -/
def addIn (s b : ℕ) (v : FVec F S128x512 .f32) : FVec F S128x512 .f32 :=
  addf v (extf .f32 (shapeCast S128x512 (rd4 ![1, 1, 128, 512] (RI I c) s b 0 0 : Vec F S1x1x128x512 .bf16) shapeCasts_S1x1x128x512_S128x512) bitsLt_bf16_f32)

/-- The output rows of a batch. -/
def outRow (b : ℕ) : FVec F S128x512 .f32 :=
  addIn I c 3 b (addIn I c 2 b (addIn I c 1 b (addIn I c 0 b (addIn I c 4 b (addIn I c 5 b (addIn I c 6 b (part I c 0 b)))))))

def outAll : FVec F S2x128x512 .f32 := fun i => outRow I c (i 0).val (fun | 0 => i 1 | 1 => i 2)

/-! ### How far the buffers are filled -/

def PQ (n : ℕ) : ℕ → ℕ → ℕ → ℕ → Prop := fun b h row _ => row / 128 * 8 + b * 4 + h < n
def PV (n : ℕ) : ℕ → ℕ → ℕ → ℕ → Prop := fun b h row col => (row / 128 * 8 + b * 4 + h) * 2 + col / 64 < n
/-- The number of stores to a head of the accumulator among the first `n`. -/
def lv (n b h : ℕ) : ℕ := 2 * (n / 16) + min 2 (n % 16 - 2 * (b * 4 + h))
def PA (n : ℕ) : ℕ → ℕ → ℕ → ℕ → Prop := fun b h row _ => row / 128 * 2 < lv n b h

end Cert.Rope

end
-- ==== Proof.Proto.lean ====
module

public import proofs.«01_k».proof.Proof.Base

/-! The order of a device's signals, transfers and waits, and what each of them takes and gives. -/

@[expose] public section

noncomputable section

namespace Cert.Rope

/-- Something a device holds. Devices and chunks are named by their distance around the ring from the holder. -/
inductive Th
  /-- the gathered fragment `f` of chunk `k`, under one of the shares -/
  | xs (k f sh : ℕ)
  /-- the slot of that fragment on the device `e` further on, whatever it contains -/
  | xe (e k f : ℕ)
  /-- slot `s` for received parts on the device `e` further on, whatever it contains -/
  | re (e s : ℕ)
  /-- its own such slot, the part received -/
  | ri (s : ℕ)
  /-- slot `t` of the parts to send, the first `b` batches filled -/
  | sg (t b : ℕ)
  /-- the credit of a transfer that cell `i` counts -/
  | cr (i : ℕ)
  /-- the counter of cell `i`, at zero again -/
  | dn (i : ℕ)
  /-- the two slots of the device's own chunk, before they are filled -/
  | xown
  /-- the right to pay duty `b` of cell `i` of the device `r` further on -/
  | tk (r i : ℕ) (b : Bool)
  /-- the position at cell `i` -/
  | ap (i : ℕ)
  /-- the launch's credit for cell `i` -/
  | cc (i : ℕ)
deriving DecidableEq

/-- One step of the protocol. -/
inductive Op
  | sig (b : Bool)
  | wait (i : ℕ)
  | own
  | split (k f : ℕ)
  | send (r iS iR k f sh : ℕ)
  | stg (t b : ℕ)
  | rs (t : ℕ)
deriving DecidableEq

/-- The device that a holder `r` further on calls `e` away is `e + r` away. -/
def Th.shift (r : ℕ) : Th → Th
  | .xe e k f => .xe ((e + r) % 8) ((k + r) % 8) f
  | .re e s => .re ((e + r) % 8) s
  | t => t

def sendR (s f : ℕ) : Op := .send 1 (9 + 2 * s + f) (17 + 2 * s + f) ((8 - s) % 8) f 1
def sendL (s f : ℕ) : Op := .send 7 (25 + 2 * s + f) (31 + 2 * s + f) s f (if s = 0 then 2 else 1)
def waitR (s f : ℕ) : Op := .wait (17 + 2 * s + f)
def waitL (s f : ℕ) : Op := .wait (31 + 2 * s + f)
def splR (s f : ℕ) : Op := .split (7 - s) f
def splL (s f : ℕ) : Op := .split (1 + s) f

/-- Which device, and which of its slots, the `t`-th part goes to. -/
def rsDev : ℕ → ℕ | 0 => 1 | 1 => 2 | 2 => 3 | 3 => 7 | 4 => 6 | 5 => 5 | _ => 4
def rsSlot : ℕ → ℕ | 0 => 6 | 1 => 5 | 2 => 4 | 3 => 0 | 4 => 1 | 5 => 2 | _ => 3

def ops : List Op :=
  [.sig true, .sig false, .wait 51, .own, sendR 0 0, sendL 0 0, sendR 0 1, sendL 0 1,
   waitR 0 0, splR 0 0, sendR 1 0, waitL 0 0, splL 0 0, sendL 1 0, waitR 0 1, splR 0 1, sendR 1 1, waitL 0 1, splL 0 1, sendL 1 1,
   waitR 1 0, splR 1 0, sendR 2 0, waitL 1 0, splL 1 0, sendL 2 0, waitR 1 1, splR 1 1, sendR 2 1, waitL 1 1, splL 1 1, sendL 2 1,
   waitR 2 0, splR 2 0, sendR 3 0, waitL 2 0, waitR 2 1, splR 2 1, sendR 3 1, waitL 2 1,
   waitR 3 0, waitR 3 1,
   .stg 0 0, .stg 0 1, .rs 0, .stg 1 0, .stg 1 1, .rs 1, .stg 2 0, .stg 2 1, .rs 2, .stg 3 0, .stg 3 1, .rs 3,
   .stg 4 0, .stg 4 1, .rs 4, .stg 5 0, .stg 5 1, .rs 5, .stg 6 0, .stg 6 1, .rs 6,
   .wait 50, .wait 49, .wait 48, .wait 44, .wait 45, .wait 46, .wait 47,
   .wait 9, .wait 25, .wait 10, .wait 26, .wait 11, .wait 27, .wait 12, .wait 28,
   .wait 13, .wait 29, .wait 14, .wait 30, .wait 15, .wait 16,
   .wait 37, .wait 38, .wait 39, .wait 40, .wait 41, .wait 42, .wait 43]

/-- What the duties of cell `i` bring its device. -/
def payL (i : ℕ) (b : Bool) : List Th :=
  if i = 51 then
    if b then [.xe 1 0 0, .xe 1 0 1, .xe 1 7 0, .xe 1 7 1, .xe 1 6 0, .xe 1 6 1, .xe 1 5 0, .xe 1 5 1]
    else [.xe 7 0 0, .xe 7 0 1, .xe 7 1 0, .xe 7 1 1, .xe 7 2 0, .xe 7 2 1]
  else if b || i < 9 || 51 < i then []
  else if i < 17 then [.xs ((8 - (i - 9) / 2) % 8) ((i - 9) % 2) 1]
  else if i < 25 then
    .xs (7 - (i - 17) / 2) ((i - 17) % 2) 0 ::
      (if (i - 17) % 2 = 0 then ((List.range 4).drop ((i - 17) / 2)).map (.re (7 - (i - 17) / 2)) else [])
  else if i < 31 then [.xs ((i - 25) / 2) ((i - 25) % 2) (if i < 27 then 2 else 1)]
  else if i < 37 then
    .xs (1 + (i - 31) / 2) ((i - 31) % 2) 0 ::
      (if (i - 31) % 2 = 0 then ((List.range (7 - (i - 31) / 2)).drop 4).map (.re (1 + (i - 31) / 2)) else [])
  else if i < 44 then [.sg (i - 37) 2]
  else [.ri (i - 44)]

/-- The cells whose waits the launch funds. -/
def isRcv (i : ℕ) : Bool := (17 ≤ i && i < 25) || (31 ≤ i && i < 37) || (44 ≤ i && i < 52)

/-- The rights a step uses. -/
def pend : Op → List Th
  | .sig b => [.tk (if b then 7 else 1) 51 b]
  | .wait i => if isRcv i then [.ap i, .cc i] else [.ap i]
  | .send r iS iR _ _ _ => [.tk 0 iS false, .tk r iR false]
  | .rs t => [.tk 0 (37 + t) false, .tk (rsDev t) (44 + rsSlot t) false]
  | _ => []

/-- What else it takes. -/
def need : Op → List Th
  | .sig b => (payL 51 b).map (Th.shift (if b then 7 else 1))
  | .wait i => if isRcv i then [] else [.cr i]
  | .own => [.xown]
  | .split k f => [.xs k f 0]
  | .send r _ iR k f sh => .xs k f sh :: .xe r k f :: (payL iR false).tail.map (Th.shift r)
  | .stg t b => [.sg t b]
  | .rs t => [.sg t 2, .re (rsDev t) (rsSlot t)]

/-- What it gives. -/
def gain : Op → List Th
  | .sig _ => []
  | .wait i => .dn i :: (if i = 51 then payL 51 false ++ payL 51 true else payL i false)
  | .own => [.xs 0 0 1, .xs 0 0 2, .xs 0 0 3, .xs 0 1 1, .xs 0 1 2, .xs 0 1 3]
  | .split k f => [.xs k f 1, .xs k f 4]
  | .send _ iS _ _ _ _ => [.cr iS]
  | .stg t b => [.sg t (b + 1)]
  | .rs t => [.cr (37 + t)]

/-- The cells of other devices it pays. -/
def owe : Op → List (ℕ × ℕ)
  | .sig b => [(if b then 7 else 1, 51)]
  | .send r _ iR _ _ _ => [(r, iR)]
  | .rs t => [(rsDev t, 44 + rsSlot t)]
  | _ => []

/-- The level of a cell. -/
def levN (i : ℕ) : ℕ :=
  if i = 51 then 1 else if 17 ≤ i ∧ i < 25 then 2 + (i - 17) / 2 else if 31 ≤ i ∧ i < 37 then 2 + (i - 31) / 2
  else if 44 ≤ i ∧ i < 51 then 10 else 0

/-- What a device holds at first, beside the rights. -/
def D₀ : List Th :=
  .xown :: ((List.range 7).flatMap fun k => [.xe 0 (k + 1) 0, .xe 0 (k + 1) 1]) ++ (List.range 7).map (.re 0) ++ (List.range 7).map (.sg · 0)

/-- What it holds after `n` steps. -/
def D : ℕ → List Th
  | 0 => D₀
  | n + 1 => match ops[n]? with
    | some op => gain op ++ (D n).diff (need op)
    | none => D n

/-- The things of `l` are all among those of `d`. -/
def sub : List Th → List Th → Bool
  | [], _ => true
  | a :: l, d => decide (a ∈ d) && sub l (d.erase a)

/-- Every step finds what it takes. -/
def chk : List Op → List Th → Bool
  | [], _ => true
  | op :: l, d => sub (need op) d && chk l (gain op ++ d.diff (need op))

theorem chk_ops : chk ops D₀ = true := by decide +kernel

theorem D_succ {n : ℕ} {op : Op} (h : ops[n]? = some op) : D (n + 1) = gain op ++ (D n).diff (need op) := by
  rw [D, h]

theorem drop_succ {α : Type} {l : List α} {n : ℕ} {a : α} (h : l[n]? = some a) : l.drop n = a :: l.drop (n + 1) := by
  obtain ⟨hn, he⟩ := List.getElem?_eq_some_iff.mp h
  rw [← he]
  exact List.drop_eq_getElem_cons hn

theorem chk_drop : ∀ n, n ≤ ops.length → chk (ops.drop n) (D n) = true
  | 0, _ => chk_ops
  | n + 1, h => by
    have ih := chk_drop n (Nat.le_of_succ_le h)
    have hn : ops[n]? = some ops[n] := List.getElem?_eq_getElem (Nat.lt_of_succ_le h)
    rw [drop_succ hn, chk, Bool.and_eq_true] at ih
    rw [D_succ hn]
    exact ih.2

theorem sub_need {n : ℕ} {op : Op} (h : ops[n]? = some op) : sub (need op) (D n) = true := by
  have hn : n < ops.length := (List.getElem?_eq_some_iff.mp h).1
  have := chk_drop n (Nat.le_of_lt hn)
  rw [drop_succ h, chk, Bool.and_eq_true] at this
  exact this.1

/-- Nothing below or at the level of a cell is owed when it is waited for. -/
def lvOk : Op → List Op → Bool
  | .wait i, l => (l.flatMap owe).all fun p => decide (levN i < levN p.2)
  | _, _ => true

def chkL : List Op → Bool
  | [] => true
  | op :: l => lvOk op l && chkL l

theorem chkL_ops : chkL ops = true := by decide +kernel

theorem chkL_drop : ∀ n, chkL (ops.drop n) = true
  | 0 => chkL_ops
  | n + 1 => by
    have ih := chkL_drop n
    by_cases hn : n < ops.length
    · rw [drop_succ (List.getElem?_eq_getElem hn), chkL, Bool.and_eq_true] at ih
      exact ih.2
    · rw [List.drop_eq_nil_of_le (by omega)]; rfl

theorem lev_wait {n i : ℕ} (h : ops[n]? = some (.wait i)) : ∀ p ∈ (ops.drop (n + 1)).flatMap owe, levN i < levN p.2 := by
  have := chkL_drop n
  rw [drop_succ h, chkL, Bool.and_eq_true] at this
  intro p hp
  exact of_decide_eq_true (List.all_eq_true.mp this.1 p hp)

/-- What may be handed to a neighbour: memory whatever it contains. -/
def isE : Th → Bool
  | .xe .. => true
  | .re .. => true
  | _ => false

def isM : Th → Bool
  | .xe .. => true
  | .re .. => true
  | .xs .. => true
  | .ri _ => true
  | .sg .. => true
  | .xown => true
  | _ => false

theorem pay51 (b : Bool) : (payL 51 b).all isE = true := by cases b <;> decide

theorem payM {i : ℕ} (h : i < 52) (b : Bool) : (payL i b).all isM = true :=
  (show ∀ i : Fin 52, ∀ b, (payL i.val b).all isM = true by decide +kernel) ⟨i, h⟩ b

/-- The steps are well-formed. -/
def okOp : Op → Bool
  | .wait i => decide (9 ≤ i) && decide (i < 52) && (decide (i = 51) || decide (payL i true = []))
  | .send r iS iR k f sh => decide (9 ≤ iS) && decide (iS < 37) && decide (9 ≤ iR) && decide (iR < 37) && decide (r < 8) && decide (k < 8) && decide (f < 2) && decide (payL iS false = [.xs k f sh])
      && decide (payL iR false = .xs ((k + (8 - r)) % 8) f 0 :: (payL iR false).tail) && (payL iR false).tail.all isE
  | .rs t => decide (t < 7)
  | .stg t b => decide (t < 7) && decide (b < 2)
  | .split k f => decide (k < 8) && decide (f < 2)
  | _ => true

theorem ok_ops : (ops.all okOp) = true := by decide +kernel

theorem ok_at {n : ℕ} {op : Op} (h : ops[n]? = some op) : okOp op = true :=
  List.all_eq_true.mp ok_ops op (List.mem_of_getElem? h)

end Cert.Rope

end
-- ==== Proof.Comm.lean ====
module

public import proofs.«01_k».proof.Proof.Contents
public import proofs.«01_k».proof.Proof.Proto

/-! The semaphore cells, what their duties carry, and what a device holds between two steps of the protocol. -/

@[expose] public section

noncomputable section

namespace Cert.Rope

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev EP : Emb (UR sig nD τ) (MM F) := embL
abbrev ER : Emb UB (MM F) := embR

/-! ### Cells -/

abbrev barS : Sem sig := (SemArray.scalar (sig.barrier 0 rfl) : Sems sig S_).sem

/-- The semaphore of a number. -/
def sm (i : ℕ) : SemLoc sig := if h : i < 51 then .dma ⟨i, h⟩ else .reg barS

/-- The number of a semaphore. -/
def ixOf : SemLoc sig → ℕ
  | .dma q => q.val
  | .reg _ => 51

theorem ix_sm {i : ℕ} (h : i < 52) : ixOf (sm i) = i := by
  unfold sm
  by_cases h' : i < 51
  · rw [dif_pos h']; rfl
  · rw [dif_neg h']; show 51 = i; omega

abbrev cell (c : Dev nD) (i : ℕ) : GSem nD τ sig := ((c : Thread nD τ), sm i)

/-! ### Slots -/

theorem xin (k f : ℕ) : ∀ a, (![k % 8, f % 2, 0, 0] : Fin 4 → ℕ) a + S1x1x128x512.size a ≤ S8x2x128x512.size a := by
  have := Nat.mod_lt k (show 0 < 8 by decide)
  have := Nat.mod_lt f (show 0 < 2 by decide)
  intro a
  fin_cases a
  · show k % 8 + 1 ≤ 8; omega
  · show f % 2 + 1 ≤ 2; omega
  · show 0 + 128 ≤ 128; omega
  · show 0 + 512 ≤ 512; omega

theorem rin (t : ℕ) : ∀ a, (![t % 7, 0, 0, 0] : Fin 4 → ℕ) a + S1x2x128x512.size a ≤ S7x2x128x512.size a := by
  have := Nat.mod_lt t (show 0 < 7 by decide)
  intro a
  fin_cases a
  · show t % 7 + 1 ≤ 7; omega
  · show 0 + 2 ≤ 2; omega
  · show 0 + 128 ≤ 128; omega
  · show 0 + 512 ≤ 512; omega

theorem oin (k : ℕ) : ∀ a, (![k % 8, 0, 0, 0] : Fin 4 → ℕ) a + S1x2x128x512.size a ≤ S8x2x128x512.size a := by
  have := Nat.mod_lt k (show 0 < 8 by decide)
  intro a
  fin_cases a
  · show k % 8 + 1 ≤ 8; omega
  · show 0 + 2 ≤ 2; omega
  · show 0 + 128 ≤ 128; omega
  · show 0 + 512 ≤ 512; omega

abbrev xR (k f : ℕ) : Rect S8x2x128x512 := Rect.unit (s := S8x2x128x512) ![k % 8, f % 2, 0, 0] S1x1x128x512.size (xin k f)
abbrev rR (t : ℕ) : Rect S7x2x128x512 := Rect.unit (s := S7x2x128x512) ![t % 7, 0, 0, 0] S1x2x128x512.size (rin t)
abbrev oR (k : ℕ) : Rect S8x2x128x512 := Rect.unit (s := S8x2x128x512) ![k % 8, 0, 0, 0] S1x2x128x512.size (oin k)

/-- A slot of the gathered activations, of the staged and of the received parts, as transfers name them. -/
abbrev xM (k f : ℕ) : Memref sig .tc .vmem S128x512 .bf16 :=
  ((Memref.whole cc0_scratch0).slice (xR k f) (fun _ => rfl)).squeeze S128x512 squeezes_S1x1x128x512_S128x512
abbrev gM (t : ℕ) : Memref sig .tc .vmem S2x128x512 .bf16 :=
  ((Memref.whole cc0_scratch5).slice (rR t) (fun _ => rfl)).squeeze S2x128x512 squeezes_S1x2x128x512_S2x128x512
abbrev rM (t : ℕ) : Memref sig .tc .vmem S2x128x512 .bf16 :=
  ((Memref.whole cc0_scratch6).slice (rR t) (fun _ => rfl)).squeeze S2x128x512 squeezes_S1x2x128x512_S2x128x512

def N1 : ℕ := (xM 0 0).view.dmaCredit
def N2 : ℕ := (rM 0).view.dmaCredit

theorem N1_pos : 0 < N1 := View.dmaCredit_pos _ (by decide)
theorem N2_pos : 0 < N2 := View.dmaCredit_pos _ (by decide)

/-- What one duty of a cell amounts to, and all of them. -/
def amt (i : ℕ) : ℕ := if i = 51 then 1 else if 37 ≤ i then N2 else N1
def tot (i : ℕ) : ℕ := if i = 51 then 2 else amt i

theorem amt_pos (i : ℕ) : 0 < amt i := by
  unfold amt
  split
  · exact Nat.one_pos
  · split
    · exact N2_pos
    · exact N1_pos

/-! ### Resources -/

def shr : ℕ → PosShare TreeShare
  | 0 => fullShare | 1 => fullShare.left | 2 => fullShare.right.left | 3 => fullShare.right.right | _ => fullShare.right

variable (I : Ins F)

abbrev XGb : S8x2x128x512.Idx → F .bf16 := by4 (n := ![8, 2, 128, 512]) (XG I)
abbrev RGb (c : Dev nD) : S7x2x128x512.Idx → F .bf16 := by4 (n := ![7, 2, 128, 512]) (RG I c)
abbrev RIb (c : Dev nD) : S7x2x128x512.Idx → F .bf16 := by4 (n := ![7, 2, 128, 512]) (RI I c)

abbrev loc0 (c : Dev nD) : Loc nD τ sig := (c : Thread nD τ).loc cc0_scratch0
abbrev loc5 (c : Dev nD) : Loc nD τ sig := (c : Thread nD τ).loc cc0_scratch5
abbrev loc6 (c : Dev nD) : Loc nD τ sig := (c : Thread nD τ).loc cc0_scratch6

def dvr (c : Dev nD) (e : ℕ) : Dev nD := dv (c.val + e)

/-- The memory among the things held. -/
def Mem (c : Dev nD) : Th → sProp (MM F)
  | .xs k f sh => iprop(∃ g : Buf (Elt F) (loc0 c), ⌜g = XGb I⌝ ∗ (loc0 c ↦[(xR (c.val + k) f).set]{shr sh} g))
  | .xe e k f => iprop(∃ g : Buf (Elt F) (loc0 (dvr c e)), (loc0 (dvr c e) ↦[(xR (c.val + k) f).set]{fullShare} g))
  | .re e s => iprop(∃ g : Buf (Elt F) (loc6 (dvr c e)), (loc6 (dvr c e) ↦[(rR s).set]{fullShare} g))
  | .ri s => iprop(∃ g : Buf (Elt F) (loc6 c), ⌜g = RIb I c⌝ ∗ (loc6 c ↦[(rR s).set]{fullShare} g))
  | .sg t b => iprop(∃ g : Buf (Elt F) (loc5 c), ⌜∀ i ∈ (rR t).set, (i 1).val < b → g i = RGb I c i⌝ ∗ (loc5 c ↦[(rR t).set]{fullShare} g))
  | .xown => iprop(∃ g : Buf (Elt F) (loc0 c), (loc0 c ↦[(oR c.val).set]{fullShare} g))
  | _ => iprop(emp)

/-- Everything held. -/
def Res (c : Dev nD) : Th → sProp (MM F)
  | .cr i => cred (tallyAt (cell c i) () (amt i))
  | .dn i => semVal (cell c i) 0
  | .tk r i b => dutyTok ER (cell (dvr c r) i) 0 b
  | .ap i => atPos ER (cell c i) 0 ∅ 0
  | .cc i => cred (tallyAt (cell c i) () (tot i))
  | t => Mem I c t

theorem sepA (P Q R : sProp (MM F)) : iprop((P ∗ Q) ∗ R) = iprop(P ∗ Q ∗ R) :=
  BI.equiv_iff.mp ⟨(sep_assoc (PROP := sProp (MM F))).1, (sep_assoc (PROP := sProp (MM F))).2⟩

theorem sepC (P Q : sProp (MM F)) : iprop(P ∗ Q) = iprop(Q ∗ P) :=
  BI.equiv_iff.mp ⟨(sep_comm (PROP := sProp (MM F))).1, (sep_comm (PROP := sProp (MM F))).1⟩

/-- One after another. -/
def All (P : Th → sProp (MM F)) : List Th → sProp (MM F)
  | [] => iprop(emp)
  | a :: l => iprop(P a ∗ All P l)

theorem All_append (P : Th → sProp (MM F)) : ∀ l l' : List Th, All P (l ++ l') = iprop(All P l ∗ All P l')
  | [], l' => by rw [List.nil_append, All]; exact (BI.equiv_iff.mp ⟨emp_sep.1, emp_sep.2⟩).symm
  | a :: l, l' => by
    rw [List.cons_append, All, All, All_append P l l']
    exact (sepA _ _ _).symm

theorem All_perm (P : Th → sProp (MM F)) {l l' : List Th} (h : l.Perm l') : All P l = All P l' := by
  induction h with
  | nil => rfl
  | cons a _ ih => rw [All, All, ih]
  | swap a b l =>
    rw [All, All, All, All]
    rw [← sepA, ← sepA, sepC (P b) (P a)]
  | trans _ _ h1 h2 => exact h1.trans h2

theorem All_sub (P : Th → sProp (MM F)) : ∀ (l d : List Th), sub l d = true → All P d = iprop(All P l ∗ All P (d.diff l))
  | [], d, _ => by rw [List.diff_nil, All]; exact (BI.equiv_iff.mp ⟨emp_sep.1, emp_sep.2⟩).symm
  | a :: l, d, h => by
    rw [sub, Bool.and_eq_true] at h
    have ha : a ∈ d := of_decide_eq_true h.1
    rw [List.diff_cons, All_perm P (List.perm_cons_erase ha), All, All, All_sub P l _ h.2]
    exact (sepA _ _ _).symm

theorem All_congr {P P' : Th → sProp (MM F)} : ∀ {l : List Th}, (∀ t ∈ l, P t = P' t) → All P l = All P' l
  | [], _ => rfl
  | a :: l, h => by rw [All, All, h a (List.mem_cons_self ..), All_congr fun t ht => h t (List.mem_cons_of_mem _ ht)]

theorem All_map (P : Th → sProp (MM F)) (f : Th → Th) : ∀ l : List Th, All P (l.map f) = All (fun t => P (f t)) l
  | [] => rfl
  | a :: l => by rw [List.map_cons, All, All, All_map P f l]

instance mem_storable (c : Dev nD) (t : Th) : BI.Storable (upEmb : UEmb _ (MM F)) (Mem I c t) := by
  cases t <;> (unfold Mem; infer_instance)

instance all_storable (c : Dev nD) : ∀ l : List Th, BI.Storable (upEmb : UEmb _ (MM F)) (All (Mem I c) l)
  | [] => by unfold All; infer_instance
  | a :: l => by unfold All; have := all_storable c l; infer_instance

/-! ### The schedule -/

/-- One round: a transfer's cell has one duty, the barrier's one for each neighbour. -/
def Rd : Rounds.Schedule (GSem nD τ sig) Bool (MM F) where
  duties g r := if r = 0 ∧ g.1.2 = .tc ∧ 9 ≤ ixOf g.2 then (if ixOf g.2 = 51 then Finset.univ else {false}) else ∅
  unitless _ := False
  amount g _ _ := amt (ixOf g.2)
  payload g _ b := All (Mem I g.1.1) (payL (ixOf g.2) b)
  amount_pos g _ _ _ := amt_pos _

instance Rd_storable (g : GSem nD τ sig) (r : ℕ) (b : Bool) : BI.Storable (upEmb : UEmb _ (MM F)) ((Rd I).payload g r b) := by
  show BI.Storable upEmb (All (Mem I g.1.1) (payL (ixOf g.2) b))
  infer_instance

theorem duties_later (g : GSem nD τ sig) : ∀ r, 1 ≤ r → (Rd I).duties g r = ∅ := fun r hr => by
  dsimp only [Rd]; rw [if_neg fun h => by omega]

theorem duties_at {c : Dev nD} {i : ℕ} (h9 : 9 ≤ i) (h : i < 52) :
    (Rd I).duties (cell c i) 0 = if i = 51 then Finset.univ else {false} := by
  show (if 0 = 0 ∧ Proc.tc = Proc.tc ∧ 9 ≤ ixOf (sm i) then (if ixOf (sm i) = 51 then Finset.univ else {false}) else ∅) = _
  rw [ix_sm h, if_pos ⟨rfl, rfl, h9⟩]

theorem amount_at {c : Dev nD} {i : ℕ} (h : i < 52) (b : Bool) : (Rd I).amount (cell c i) 0 b = amt i := by
  show amt (ixOf (sm i)) = _; rw [ix_sm h]

theorem payload_at {c : Dev nD} {i : ℕ} (h : i < 52) (b : Bool) : (Rd I).payload (cell c i) 0 b = All (Mem I c) (payL i b) := by
  show All (Mem I c) (payL (ixOf (sm i)) b) = _; rw [ix_sm h]

theorem expect_at {c : Dev nD} {i : ℕ} (h9 : 9 ≤ i) (h : i < 52) : (Rd I).expect (cell c i) 0 = tot i := by
  unfold Schedule.expect Schedule.amountOf
  rw [duties_at I h9 h, Finset.sum_congr rfl fun b _ => amount_at I h b]
  unfold tot
  by_cases h' : i = 51
  · subst h'; rw [if_pos rfl, if_pos rfl]; rfl
  · rw [if_neg h', if_neg h', Finset.sum_singleton]

theorem rest_at {c : Dev nD} {i : ℕ} (h9 : 9 ≤ i) (h : i < 52) :
    bigSep ((Rd I).duties (cell c i) 0 \ ∅) (fun b => (Rd I).payload (cell c i) 0 b)
      = All (Mem I c) (if i = 51 then payL 51 false ++ payL 51 true else payL i false) := by
  rw [Finset.sdiff_empty, duties_at I h9 h]
  by_cases h' : i = 51
  · subst h'
    rw [if_pos rfl, if_pos rfl, bigSep_univ_eq_bigSepL [false, true] (by decide) (by decide), bigSepL_cons_cons, bigSepL_singleton,
      payload_at I h, payload_at I h, All_append]
    rfl
  · rw [if_neg h', if_neg h', bigSep_singleton, payload_at I h]

/-! ### Levels and debts -/

def L (g : GSem nD τ sig) : Finset Unit := if g.1.2 = .tc then {()} else ∅
def lev (g : GSem nD τ sig) (_ : Unit) : ℕ := levN (ixOf g.2)

theorem L_of_ne (g : GSem nD τ sig) (h : g.1.2 ≠ .tc) : L g = ∅ := if_neg h
theorem L_tc (c : Dev nD) (s : SemLoc sig) : L ((c : Thread nD τ), s) = {()} := if_pos rfl

/-- What a device owes for a list of payments. -/
def due (c : Dev nD) : List (ℕ × ℕ) → CellTallies nD τ sig Unit
  | [] => 0
  | p :: l => due c l + tallyAt (cell (dvr c p.1) p.2) () (amt p.2)

theorem due_append (c : Dev nD) : ∀ l l', due c (l ++ l') = due c l' + due c l
  | [], l' => by rw [List.nil_append, due, add_zero]
  | p :: l, l' => by rw [List.cons_append, due, due, due_append c l l', add_assoc]

theorem due_pos {c : Dev nD} {g : GSem nD τ sig} {u : Unit} : ∀ {l}, 0 < due c l g u → ∃ p ∈ l, g = cell (dvr c p.1) p.2
  | [], h => absurd h (Nat.lt_irrefl 0)
  | p :: l, h => by
    rw [due, Pi.add_apply, Finsupp.add_apply, tallyAt_apply] at h
    by_cases hg : g = cell (dvr c p.1) p.2 ∧ u = ()
    · exact ⟨p, List.mem_cons_self .., hg.1⟩
    · rw [if_neg hg, Nat.add_zero] at h
      obtain ⟨q, hq, e⟩ := due_pos h
      exact ⟨q, List.mem_cons_of_mem _ hq, e⟩

theorem levN_ge (i : ℕ) : 51 < i → levN i = 0 := fun h => by
  unfold levN
  rw [if_neg (by omega), if_neg (by omega), if_neg (by omega), if_neg (by omega)]

theorem mayWait (c : Dev nD) (s : SemLoc sig) (l : List (ℕ × ℕ)) (h : ∀ p ∈ l, levN (ixOf s) < levN p.2) :
    (levAts L lev : sProp (MM F)) ⊢ MayWait (c : Thread nD τ) s () (due c l) := by
  refine MayOwe.of_cut (L := L) (lev := lev) (levN (ixOf s))
    (fun p hp => by rw [Finset.mem_singleton.mp hp, L_tc]; exact Finset.mem_singleton_self _)
    (fun g u hg => by
      obtain ⟨p, -, rfl⟩ := due_pos hg
      rw [cell, L_tc]; exact Finset.mem_singleton_self _)
    (fun p hp => by rw [Finset.mem_singleton.mp hp]; exact Nat.le_refl _)
    (fun g u hg => by
      obtain ⟨p, hp, rfl⟩ := due_pos hg
      have h' := h p hp
      have h52 : p.2 < 52 := by
        by_contra hc
        rw [levN_ge p.2 (by omega)] at h'
        exact absurd h' (Nat.not_lt_zero _)
      show levN (ixOf s) < levN (ixOf (sm p.2))
      rw [ix_sm h52]; exact h')

/-! ### What a device holds after `n` steps -/

/-- The name of each cell's invariant. -/
abbrev Names := Dev nD × Fin 43 → ℕ

/-- The number among the cells of the protocol, the first nine being the staging's. -/
def ce (i : ℕ) : Fin 43 := ⟨(i - 9) % 43, Nat.mod_lt _ (by decide)⟩

def records (K : Names) : sProp (MM F) :=
  iprop((bigSep Finset.univ fun ck : Dev nD × Fin 43 => cellInv ER (Rd I) (K ck) (cell ck.1 (9 + ck.2.val)))
    ∗ (bigSep Finset.univ fun ck : Dev nD × Fin 43 => reached ER (cell ck.1 (9 + ck.2.val)) 0) ∗ levAts L lev)

instance records_persistent (K : Names) : BI.Persistent (records I K) := by unfold records; infer_instance

def Debt (c : Dev nD) (l : List (ℕ × ℕ)) : sProp (MM F) := iprop(∃ W, owes (c : Thread nD τ) (due c l) W)

def Cm (K : Names) (c : Dev nD) (n : ℕ) : sProp (MM F) :=
  iprop(records I K ∗ Debt c ((ops.drop n).flatMap owe) ∗ All (Res I c) ((ops.drop n).flatMap pend) ∗ All (Res I c) (D n))

variable {I} {K : Names} {c : Dev nD}

/-- What the step at `n` leaves alone. -/
def Keep (I : Ins F) (c : Dev nD) (n : ℕ) (op : Op) : sProp (MM F) :=
  iprop(All (Res I c) ((ops.drop (n + 1)).flatMap pend) ∗ All (Res I c) ((D n).diff (need op)))

theorem Cm_open {n : ℕ} {op : Op} (h : ops[n]? = some op) :
    Cm I K c n ⊢ iprop(records I K ∗ Debt c (owe op ++ (ops.drop (n + 1)).flatMap owe) ∗ All (Res I c) (pend op) ∗ All (Res I c) (need op) ∗ Keep I c n op) := by
  unfold Cm Keep
  rw [drop_succ h, List.flatMap_cons, List.flatMap_cons, All_append, All_sub (Res I c) _ _ (sub_need h)]
  iintro ⟨HR, HD, ⟨Hp, Hq⟩, Hn, Hd⟩
  isplitl [HR]
  · iexact HR
  isplitl [HD]
  · iexact HD
  isplitl [Hp]
  · iexact Hp
  isplitl [Hn]
  · iexact Hn
  isplitl [Hq]
  · iexact Hq
  iexact Hd

theorem Cm_close {n : ℕ} {op : Op} (h : ops[n]? = some op) :
    iprop(records I K ∗ Debt c ((ops.drop (n + 1)).flatMap owe) ∗ All (Res I c) (gain op) ∗ Keep I c n op) ⊢ Cm I K c (n + 1) := by
  unfold Cm Keep
  rw [D_succ h, All_append]
  iintro ⟨HR, HD, Hg, Hq, Hd⟩
  isplitl [HR]
  · iexact HR
  isplitl [HD]
  · iexact HD
  isplitl [Hq]
  · iexact Hq
  isplitl [Hg]
  · iexact Hg
  iexact Hd

theorem ce_val {i : ℕ} (h9 : 9 ≤ i) (h : i < 52) : 9 + (ce i).val = i := by
  show 9 + (i - 9) % 43 = i
  omega

theorem inv_at (d : Dev nD) {i : ℕ} (h9 : 9 ≤ i) (h : i < 52) : records I K ⊢ cellInv ER (Rd I) (K (d, ce i)) (cell d i) := by
  have h' : (bigSep Finset.univ fun ck : Dev nD × Fin 43 => (cellInv ER (Rd I) (K ck) (cell ck.1 (9 + ck.2.val)) : sProp (MM F)))
      ⊢ cellInv ER (Rd I) (K (d, ce i)) (cell d (9 + (ce i).val)) := bigSep_elim (Finset.mem_univ (d, ce i))
  rw [ce_val h9 h] at h'
  unfold records
  iintro ⟨H, -⟩
  iapply h'
  iexact H

theorem reached_at (d : Dev nD) {i : ℕ} (h9 : 9 ≤ i) (h : i < 52) : records I K ⊢ reached ER (cell d i) 0 := by
  have h' : (bigSep Finset.univ fun ck : Dev nD × Fin 43 => (reached ER (cell ck.1 (9 + ck.2.val)) 0 : sProp (MM F)))
      ⊢ reached ER (cell d (9 + (ce i).val)) 0 := bigSep_elim (Finset.mem_univ (d, ce i))
  rw [ce_val h9 h] at h'
  unfold records
  iintro ⟨-, H, -⟩
  iapply h'
  iexact H

theorem levs_at : records I K ⊢ levAts L lev := by
  unfold records
  iintro ⟨-, -, H⟩
  iexact H

end Cert.Rope

end
-- ==== Proof.Tokens.lean ====
module

public import proofs.«01_k».proof.Proof.Comm
public import Idealize.ShloMosaic.Lib.Pipeline.BigSepL

/-! The rights and credits that the launch deals: every device gets those of the payments it makes. -/

@[expose] public section

noncomputable section

namespace Cert.Rope

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {I : Ins F} {c : Dev nD}

/-! ### Lists of things -/

theorem All_mono {P P' : Th → sProp (MM F)} : ∀ {l : List Th}, (∀ t ∈ l, P t ⊢ P' t) → All P l ⊢ All P' l
  | [], _ => BI.Entails.refl _
  | a :: l, h => by
    rw [All, All]
    exact BIClass.sep_mono (h a (List.mem_cons_self ..)) (All_mono fun t ht => h t (List.mem_cons_of_mem _ ht))

theorem All_bigSepL {ι : Type} (P : Th → sProp (MM F)) (f : ι → Th) : ∀ l : List ι, bigSepL l (fun i => P (f i)) = All P (l.map f)
  | [] => rfl
  | a :: l => by rw [List.map_cons, All, bigSepL_cons, All_bigSepL P f l]; rfl

theorem dvr_zero (c : Dev nD) : dvr c 0 = c := Fin.ext (by show (c.val + 0) % 8 = c.val; have : c.val < 8 := c.isLt; omega)

/-- Around the ring by `r`. -/
def rot (r : ℕ) : Dev nD ≃ Dev nD where
  toFun c := dvr c r
  invFun c := dvr c (8 - r % 8)
  left_inv c := Fin.ext (by show ((c.val + r) % 8 + (8 - r % 8)) % 8 = c.val; have : c.val < 8 := c.isLt; omega)
  right_inv c := Fin.ext (by show ((c.val + (8 - r % 8)) % 8 + r) % 8 = c.val; have : c.val < 8 := c.isLt; omega)

/-! ### The rights, before and after they are dealt -/

/-- The numbers of the protocol's cells. -/
def ixs : List ℕ := List.range' 9 43

def isTk : Th → Bool
  | .tk .. => true
  | _ => false

/-- The right as its cell's device has it. -/
def home : Th → Th
  | .tk _ i b => .tk 0 i b
  | t => t

def toks : List Th := (ops.flatMap pend).filter isTk
def own : List Th := ixs.map (.tk 0 · false) ++ [.tk 0 51 true]
def rcvs : List ℕ := ixs.filter isRcv

theorem pend_perm : (ops.flatMap pend).Perm (toks ++ ixs.map .ap ++ rcvs.map .cc) := by decide +kernel
theorem home_perm : (toks.map home).Perm own := by decide +kernel

theorem around (I : Ins F) : ∀ l : List Th, (l.all isTk) = true →
    (bigSep Finset.univ fun c : Dev nD => All (Res I c) (l.map home)) = bigSep Finset.univ fun c : Dev nD => All (Res I c) l
  | [], _ => rfl
  | t :: l, h => by
    rw [List.all_cons, Bool.and_eq_true] at h
    simp only [List.map_cons, All]
    rw [bigSep_sep', bigSep_sep', around I l h.2]
    congr 1
    cases t with
    | tk r i b =>
      refine (bigSep_univ_equiv (rot r) _).trans (bigSep_congr fun c _ => ?_)
      show dutyTok ER (cell (dvr (dvr c r) 0) i) 0 b = dutyTok ER (cell (dvr c r) i) 0 b
      rw [dvr_zero]
    | _ => exact absurd h.1 Bool.false_ne_true

theorem deal (I : Ins F) : (bigSep Finset.univ fun c : Dev nD => All (Res I c) own) = bigSep Finset.univ fun c : Dev nD => All (Res I c) toks := by
  rw [← around I toks (by decide +kernel)]
  exact bigSep_congr fun c _ => All_perm _ home_perm.symm

/-! ### What is launched -/

def kcell (ck : Dev nD × Fin 43) : GSem nD τ sig := cell ck.1 (9 + ck.2.val)

theorem cell_inj {c c' : Dev nD} {i i' : ℕ} (h : i < 52) (h' : i' < 52) (e : cell c i = cell c' i') : c = c' ∧ i = i' := by
  refine ⟨congrArg (fun g : GSem nD τ sig => g.1.1) e, ?_⟩
  have := congrArg (fun g : GSem nD τ sig => ixOf g.2) e
  simp only [cell, ix_sm h, ix_sm h'] at this
  exact this

theorem kcell_injective : Function.Injective kcell := by
  rintro ⟨c, k⟩ ⟨c', k'⟩ h
  have hk := k.isLt
  have hk' := k'.isLt
  obtain ⟨h1, h2⟩ := cell_inj (c := c) (c' := c') (i := 9 + k.val) (i' := 9 + k'.val) (by omega) (by omega) h
  have h2' : k.val = k'.val := by omega
  rw [h1, Fin.ext h2']

def ringCells : Finset (GSem nD τ sig) := Finset.univ.map ⟨kcell, kcell_injective⟩

def tokOf (cj : Dev nD × Fin 44) : GSem nD τ sig × ℕ × Bool := (cell cj.1 (min (9 + cj.2.val) 51), 0, decide (cj.2.val = 43))

theorem tokOf_injective : Function.Injective tokOf := by
  rintro ⟨c, k⟩ ⟨c', k'⟩ h
  have hk := k.isLt
  have hk' := k'.isLt
  obtain ⟨h1, h2⟩ := cell_inj (c := c) (c' := c') (i := min (9 + k.val) 51) (i' := min (9 + k'.val) 51) (by omega) (by omega) (congrArg Prod.fst h)
  have h3 : decide (k.val = 43) = decide (k'.val = 43) := congrArg (fun x => x.2.2) h
  have h4 := decide_eq_decide.mp h3
  have h2' : k.val = k'.val := by
    omega
  rw [h1, Fin.ext h2']

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- What the launch deals a device. -/
def G (I : Ins F) (c : Dev nD) : sProp (MM F) :=
  iprop((bigSep Finset.univ fun k : Fin 43 => roundState ER (Rd I) (kcell (c, k)) 0)
    ∗ (bigSep Finset.univ fun k : Fin 43 => iprop(atPos ER (kcell (c, k)) 0 ∅ 0 ∗ reached ER (kcell (c, k)) 0)) ∗ All (Res I c) own)

theorem toks_own (I : Ins F) (c : Dev nD) :
    (bigSep Finset.univ fun j : Fin 44 => (dutyTok ER (tokOf (c, j)).1 (tokOf (c, j)).2.1 (tokOf (c, j)).2.2 : sProp (MM F))) = All (Res I c) own := by
  rw [show (own : List Th) = (List.finRange 44).map fun j : Fin 44 => .tk 0 (min (9 + j.val) 51) (decide (j.val = 43)) from by decide +kernel,
    ← All_bigSepL, bigSep_univ_eq_bigSepL (List.finRange 44) (by decide +kernel) (List.nodup_finRange 44)]
  congr 1
  funext j
  show _ = dutyTok ER (cell (dvr c 0) _) 0 _
  rw [dvr_zero]
  rfl

theorem fund (I : Ins F) : BI.own (ER (initOf ringCells ringToks)) ⊢ (|==> bigSep Finset.univ (G I) : sProp (MM F)) := by
  have hX (Φ : GSem nD τ sig → sProp (MM F)) : bigSep ringCells Φ = bigSep Finset.univ fun c : Dev nD => bigSep Finset.univ fun k : Fin 43 => Φ (kcell (c, k)) := by
    unfold ringCells; rw [bigSep_map, bigSep_univ_prod]; rfl
  have hT : bigSep ringToks (fun x => (dutyTok ER x.1 x.2.1 x.2.2 : sProp (MM F))) = bigSep Finset.univ fun c : Dev nD => All (Res I c) own := by
    unfold ringToks; rw [bigSep_map, bigSep_univ_prod]
    exact bigSep_congr fun c _ => toks_own I c
  iintro HX
  imod (Rounds.fund ER (Rd I) ringCells ringToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The semaphores -/

/-- The kernel's own semaphores. -/
abbrev osem : Fin 42 → SemLoc sig := fun k => .dma ⟨9 + k.val, by have := k.isLt; show 9 + k.val < 51; omega⟩

theorem osem_eq (k : Fin 42) : osem k = sm (9 + k.val) := by
  unfold sm
  rw [dif_pos (by have := k.isLt; omega)]

theorem ownSems0_eq (I : Ins F) (c : Dev nD) : (Pipeline.ownSems0 (Ix := Unit) (Name := ℕ) (U := UU) (Lvl := ℕ) (Val := Elt F) (τ := τ) osem c : sProp (MM F))
    = All (Res I c) ((List.range' 9 42).map .dn) := by
  rw [Pipeline.ownSems0_eq_of_list c osem (List.finRange 42) (by decide +kernel) (List.nodup_finRange 42),
    show ((List.range' 9 42).map Th.dn) = (List.finRange 42).map fun j : Fin 42 => .dn (9 + j.val) from by decide +kernel, ← All_bigSepL]
  congr 1
  funext k
  rw [osem_eq]
  rfl

theorem unscopedSems0_eq (I : Ins F) (c : Dev nD) : (unscopedSems0 c : sProp (MM F)) = All (Res I c) [.dn 51] := by
  unfold unscopedSems0
  rw [bigSep_eq_bigSepL_of_eq [SemLoc.reg barS] (by decide) (by decide), All, All, (BI.equiv_iff.mp ⟨sep_emp.1, sep_emp.2⟩ : iprop(Res I c (.dn 51) ∗ emp) = _)]
  rfl

theorem dn_all (I : Ins F) (c : Dev nD) : (bigSep Finset.univ fun k : Fin 43 => semVal (kcell (c, k)) 0 : sProp (MM F)) = All (Res I c) (ixs.map .dn) := by
  rw [bigSep_univ_eq_bigSepL (List.finRange 43) (by decide +kernel) (List.nodup_finRange 43),
    show (ixs.map Th.dn) = (List.finRange 43).map fun j : Fin 43 => .dn (9 + j.val) from by decide +kernel, ← All_bigSepL]
  rfl

theorem ap_all (I : Ins F) (c : Dev nD) : (bigSep Finset.univ fun k : Fin 43 => atPos ER (kcell (c, k)) 0 ∅ 0 : sProp (MM F)) = All (Res I c) (ixs.map .ap) := by
  rw [bigSep_univ_eq_bigSepL (List.finRange 43) (by decide +kernel) (List.nodup_finRange 43),
    show (ixs.map Th.ap) = (List.finRange 43).map fun j : Fin 43 => .ap (9 + j.val) from by decide +kernel, ← All_bigSepL]
  rfl

theorem ixs_dn : ixs.map Th.dn = (List.range' 9 42).map .dn ++ [.dn 51] := by decide +kernel

theorem sems_eq (I : Ins F) (c : Dev nD) :
    iprop(Pipeline.ownSems0 (Ix := Unit) (Name := ℕ) (U := UU) (Lvl := ℕ) (Val := Elt F) (τ := τ) osem c ∗ unscopedSems0 c)
      = (All (Res I c) (ixs.map .dn) : sProp (MM F)) := by
  rw [ownSems0_eq I, unscopedSems0_eq I, ixs_dn, All_append]

/-! ### The invariants made, and everything dealt -/

/-- What the global step makes of it. -/
def G' (I : Ins F) (c : Dev nD) : sProp (MM F) :=
  iprop(∃ K : Names, ((bigSep Finset.univ fun ck : Dev nD × Fin 43 => cellInv ER (Rd I) (K ck) (cell ck.1 (9 + ck.2.val)))
    ∗ (bigSep Finset.univ fun ck : Dev nD × Fin 43 => reached ER (cell ck.1 (9 + ck.2.val)) 0)) ∗ All (Res I c) (toks ++ ixs.map .ap))

theorem core_alloc (I : Ins F) (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd I) κ (kcell (c, k))))
          ∗ (bigSep Finset.univ fun k => iprop(atPos ER (kcell (c, k)) 0 ∅ 0 ∗ reached ER (kcell (c, k)) 0)) ∗ All (Res I c) own) := by
  unfold G
  iintro ⟨Hos, Hus, Hst, Hat, Htok⟩
  ihave Hv := (Entails.of_eq ((sems_eq I c).trans (dn_all I c).symm)) $$ [Hos Hus]
  · isplitl [Hos] <;> iassumption
  imod (show iprop((bigSep Finset.univ fun k : Fin 43 => semVal (kcell (c, k)) 0) ∗ bigSep Finset.univ fun k : Fin 43 => roundState ER (Rd I) (kcell (c, k)) 0)
      ⊢ (|={Set.univ}=> bigSep Finset.univ fun k => iprop(∃ κ : ℕ, cellInv ER (Rd I) κ (kcell (c, k))) : sProp (MM F)) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with_persistent {J : Type} [DecidableEq J] {S : Finset J} {R : sProp (MM F)} [BI.Persistent R] {Φ Ψ : J → sProp (MM F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup (I : Ins F) :
    (bigSep Finset.univ fun c : Dev nD => iprop((bigSep Finset.univ fun k => iprop(∃ κ : ℕ, cellInv ER (Rd I) κ (kcell (c, k))))
          ∗ (bigSep Finset.univ fun k => iprop(atPos ER (kcell (c, k)) 0 ∅ 0 ∗ reached ER (kcell (c, k)) 0)) ∗ All (Res I c) own) : sProp (MM F))
      ⊢ bigSep Finset.univ (G' I) := by
  rw [bigSep_sep', bigSep_sep', ← bigSep_univ_prod (fun ck : Dev nD × Fin 43 => iprop(∃ κ : ℕ, cellInv ER (Rd I) κ (kcell ck))),
    bigSep_congr (s := Finset.univ) (fun (c : Dev nD) _ => bigSep_sep' Finset.univ (fun k : Fin 43 => (atPos ER (kcell (c, k)) 0 ∅ 0 : sProp (MM F))) (fun k => reached ER (kcell (c, k)) 0)),
    bigSep_sep', ← bigSep_univ_prod (fun ck : Dev nD × Fin 43 => (reached ER (kcell ck) 0 : sProp (MM F))), deal I,
    bigSep_congr (s := Finset.univ) (fun (c : Dev nD) _ => ap_all I c)]
  iintro ⟨HI, ⟨Hat, #HR⟩, Htok⟩
  ihave HK := (BI.bigSep_exists_pi Finset.univ (fun (ck : Dev nD × Fin 43) (κ : ℕ) => (cellInv ER (Rd I) κ (kcell ck) : sProp (MM F)))) $$ HI
  icases HK with ⟨%K, #HI⟩
  iapply (bigSep_with_persistent (S := Finset.univ) (Ψ := G' I)
    (R := iprop((bigSep Finset.univ fun ck : Dev nD × Fin 43 => cellInv ER (Rd I) (K ck) (kcell ck)) ∗ (bigSep Finset.univ fun ck : Dev nD × Fin 43 => reached ER (kcell ck) 0)))
    (Φ := fun c : Dev nD => iprop(All (Res I c) toks ∗ All (Res I c) (ixs.map .ap))) fun c _ => by
      unfold G'
      rw [All_append]
      iintro ⟨HA, HB⟩
      iexists K
      isplitl [HA]
      · iexact HA
      · iexact HB)
  isplitr
  · isplitl; · iexact HI
    iexact HR
  · rw [bigSep_sep']
    isplitl [Htok]; · iexact Htok
    iexact Hat

theorem glob (I : Ins F) : (bigSep Finset.univ fun c => iprop(Pipeline.ownSems0 (Ix := Unit) (Name := ℕ) (U := UU) (Lvl := ℕ) (Val := Elt F) (τ := τ) osem c ∗ unscopedSems0 c ∗ G I c) : sProp (MM F))
    ⊢ |={Set.univ}=> bigSep Finset.univ (G' I) :=
  ((bigSep_mono fun c _ => core_alloc I c).trans (bigSep_fupd _ _)).trans (BI.fupd_mono (regroup I))

/-! ### The launch's credit -/

def owes₀ : List (ℕ × ℕ) := ops.flatMap owe

def O₀ (c : Dev nD) : CellTallies nD τ sig Unit := due c owes₀

theorem due_sum (c : Dev nD) {i : ℕ} (hi : i < 52) : ∀ l : List (ℕ × ℕ), (∀ p ∈ l, p.2 < 52) →
    (∑ d : Dev nD, due d l (cell c i) ()) = (l.map Prod.snd).count i * amt i
  | [], _ => by
    rw [List.map_nil, List.count_nil, Nat.zero_mul]
    exact Finset.sum_eq_zero fun _ _ => rfl
  | p :: l, h => by
    have hp := h p (List.mem_cons_self ..)
    have e : ∀ d : Dev nD, due d (p :: l) (cell c i) () = due d l (cell c i) () + tallyAt (cell (dvr d p.1) p.2) () (amt p.2) (cell c i) () := fun d => by
      rw [due, Pi.add_apply, Finsupp.add_apply]
    have e2 : (∑ d : Dev nD, tallyAt (cell (dvr d p.1) p.2) () (amt p.2) (cell c i) ()) = if p.2 = i then amt i else 0 := by
      rw [Fintype.sum_equiv (rot p.1) (fun d : Dev nD => tallyAt (cell (dvr d p.1) p.2) () (amt p.2) (cell c i) ()) (fun d : Dev nD => tallyAt (cell d p.2) () (amt p.2) (cell c i) ()) (fun d => rfl)]
      by_cases hpi : p.2 = i
      · rw [if_pos hpi, Finset.sum_eq_single c]
        · rw [tallyAt_apply, if_pos ⟨by rw [hpi], rfl⟩, hpi]
        · intro d _ hd
          rw [tallyAt_apply, if_neg fun h' => hd (cell_inj hi hp h'.1).1.symm]
        · intro h'
          exact absurd (Finset.mem_univ c) h'
      · rw [if_neg hpi]
        refine Finset.sum_eq_zero fun d _ => ?_
        rw [tallyAt_apply, if_neg fun h' => hpi (cell_inj hi hp h'.1).2.symm]
    rw [Finset.sum_congr rfl fun d _ => e d, Finset.sum_add_distrib, due_sum c hi l fun q hq => h q (List.mem_cons_of_mem _ hq), e2,
      List.map_cons, List.count_cons, Nat.add_mul]
    by_cases hpi : p.2 = i
    · simp [hpi]
    · simp [hpi]

theorem owes_lt : ∀ p ∈ owes₀, p.2 < 52 := by decide +kernel
theorem owes_lev : ∀ p ∈ owes₀, 0 < levN p.2 := by decide +kernel
theorem owes_count : ∀ i ∈ rcvs, i < 52 ∧ (owes₀.map Prod.snd).count i = if i = 51 then 2 else 1 := by decide +kernel

theorem launch_at (c : Dev nD) {i : ℕ} (hi : i ∈ rcvs) :
    tallyOn (cell c i) (launchCredit (Pipeline.owing O₀) 0 (cell c i)) = (tallyAt (cell c i) () (tot i) : CellTallies nD τ sig Unit) := by
  obtain ⟨h52, hc⟩ := owes_count i hi
  unfold tallyAt; refine congrArg _ (Finsupp.ext fun u => ?_); cases u
  rw [Pipeline.launchCredit_owing, Finsupp.single_eq_same]
  unfold O₀
  rw [due_sum c h52 _ owes_lt, hc]
  unfold tot
  by_cases h51 : i = 51
  · subst h51; rfl
  · rw [if_neg h51, if_neg h51, Nat.one_mul]

theorem sub_list {ι : Type} [DecidableEq ι] [Fintype ι] (l : List ι) (hl : l.Nodup) (Φ : ι → sProp (MM F)) : bigSep Finset.univ Φ ⊢ bigSepL l Φ :=
  (bigSep_subset (Finset.subset_univ l.toFinset)).trans (Entails.of_eq (bigSep_eq_bigSepL l hl Φ))

theorem bigSepL_all {ι : Type} {Φ Ψ : ι → sProp (MM F)} : ∀ {l : List ι}, (∀ i ∈ l, Φ i = Ψ i) → bigSepL l Φ = bigSepL l Ψ
  | [], _ => rfl
  | a :: l, h => by rw [bigSepL_cons, bigSepL_cons, h a (List.mem_cons_self ..), bigSepL_all fun i hi => h i (List.mem_cons_of_mem _ hi)]

theorem rcvs_nodup : (rcvs.map sm).Nodup := List.Nodup.of_map ixOf (by decide +kernel)

theorem creds (I : Ins F) (c : Dev nD) : (Pipeline.launchCred O₀ c : sProp (MM F)) ⊢ All (Res I c) (rcvs.map .cc) := by
  unfold Pipeline.launchCred
  refine (sub_list (rcvs.map sm) rcvs_nodup _).trans (Entails.of_eq ?_)
  rw [← All_bigSepL, bigSepL_map]
  refine bigSepL_all fun i hi => ?_
  exact congrArg _ (launch_at c hi)

end Cert.Rope

end
-- ==== Proof.Slots.lean ====
module

public import proofs.«01_k».proof.Proof.Tokens

/-! The buffers of the exchange taken apart into slots at the start, and put together from the slots at the end. -/

@[expose] public section

noncomputable section

namespace Cert.Rope

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {I : Ins F} {c : Dev nD}

section Generic

variable {ℓ : Loc nD τ sig}

/-- A buffer taken apart into pieces that do not meet. -/
theorem peel (K : Th → Finset (Idx ℓ)) (f : Buf (Elt F) ℓ) : ∀ (l : List Th) (S : Finset (Idx ℓ)), (∀ t ∈ l, K t ⊆ S) →
    l.Pairwise (fun a b => Disjoint (K a) (K b)) →
    (ℓ ↦[S]{fullShare} f : sProp (MM F)) ⊢ All (fun t => iprop(∃ g : Buf (Elt F) ℓ, ⌜g = f⌝ ∗ (ℓ ↦[K t]{fullShare} g))) l
  | [], S, _, _ => by
    rw [All]
    iintro -
    iempintro
  | t :: l, S, hS, hp => by
    have hp' := List.pairwise_cons.mp hp
    have ih := peel K f l (S \ K t) (fun u hu => Finset.subset_sdiff.mpr ⟨hS u (List.mem_cons_of_mem _ hu), (hp'.1 u hu).symm⟩) hp'.2
    rw [All]
    refine (pointsTo_split_subset (hS t (List.mem_cons_self ..))).1.trans ?_
    iintro ⟨H, HR⟩
    isplitl [H]
    · iexists f
      isplitr
      · ipureintro; rfl
      · iexact H
    · iapply ih
      iexact HR

/-- The pieces of a list, together. -/
def cup (K : Th → Finset (Idx ℓ)) : List Th → Finset (Idx ℓ) → Finset (Idx ℓ)
  | [], A => A
  | t :: l, A => cup K l (A ∪ K t)

theorem mem_cup (K : Th → Finset (Idx ℓ)) {i : Idx ℓ} : ∀ (l : List Th) (A : Finset (Idx ℓ)), (i ∈ A ∨ ∃ t ∈ l, i ∈ K t) → i ∈ cup K l A
  | [], A, h => by
    rcases h with h | ⟨t, ht, _⟩
    · exact h
    · cases ht
  | t :: l, A, h => by
    refine mem_cup K l _ ?_
    rcases h with h | ⟨u, hu, hi⟩
    · exact Or.inl (Finset.mem_union_left _ h)
    · rcases List.mem_cons.mp hu with rfl | hu
      · exact Or.inl (Finset.mem_union_right _ hi)
      · exact Or.inr ⟨u, hu, hi⟩

theorem mem_cup' (K : Th → Finset (Idx ℓ)) {i : Idx ℓ} : ∀ (l : List Th) (A : Finset (Idx ℓ)), i ∈ cup K l A → (i ∈ A ∨ ∃ t ∈ l, i ∈ K t)
  | [], A, h => Or.inl h
  | t :: l, A, h => by
    rcases mem_cup' K l _ h with h | ⟨u, hu, hi⟩
    · rcases Finset.mem_union.mp h with h | h
      · exact Or.inl h
      · exact Or.inr ⟨t, List.mem_cons_self .., h⟩
    · exact Or.inr ⟨u, List.mem_cons_of_mem _ hu, hi⟩

/-- Pieces that do not meet, put together. -/
theorem glue (K : Th → Finset (Idx ℓ)) : ∀ (l : List Th) (A : Finset (Idx ℓ)), (∀ t ∈ l, Disjoint A (K t)) →
    l.Pairwise (fun a b => Disjoint (K a) (K b)) →
    iprop((∃ f : Buf (Elt F) ℓ, (ℓ ↦[A]{fullShare} f)) ∗ All (fun t => iprop(∃ g : Buf (Elt F) ℓ, (ℓ ↦[K t]{fullShare} g))) l)
      ⊢ (iprop(∃ f : Buf (Elt F) ℓ, (ℓ ↦[cup K l A]{fullShare} f)) : sProp (MM F))
  | [], A, _, _ => by
    rw [All, cup]
    iintro ⟨H, -⟩
    iexact H
  | t :: l, A, hA, hp => by
    have hp' := List.pairwise_cons.mp hp
    have ih := glue K l (A ∪ K t) (fun u hu => Finset.disjoint_union_left.mpr ⟨hA u (List.mem_cons_of_mem _ hu), hp'.1 u hu⟩) hp'.2
    rw [All, cup]
    iintro ⟨⟨%f, Hf⟩, ⟨%g, Hg⟩, HR⟩
    iapply ih
    isplitr [HR]
    · iexists ((K t).piecewise g f)
      iapply (pointsTo_join (hA t (List.mem_cons_self ..)))
      isplitl [Hf]
      · iexact Hf
      · iexact Hg
    · iexact HR

theorem glue_all (K : Th → Finset (Idx ℓ)) (l : List Th) (hp : l.Pairwise (fun a b => Disjoint (K a) (K b))) (hc : ∀ i, ∃ t ∈ l, i ∈ K t) :
    All (fun t => iprop(∃ g : Buf (Elt F) ℓ, (ℓ ↦[K t]{fullShare} g))) l ⊢ (iprop(∃ f : Buf (Elt F) ℓ, (ℓ ↦{fullShare} f)) : sProp (MM F)) := by
  cases l with
  | nil =>
    rw [All]
    by_cases hi : Nonempty (Idx ℓ)
    · obtain ⟨i⟩ := hi
      obtain ⟨t, ht, -⟩ := hc i
      cases ht
    · have hu : (Finset.univ : Finset (Idx ℓ)) = ∅ := Finset.univ_eq_empty_iff.mpr (not_nonempty_iff.mp hi)
      iintro H
      iexists (fun i => absurd ⟨i⟩ hi)
      rw [hu, pointsTo_empty]
      iexact H
  | cons t l =>
    have hp' := List.pairwise_cons.mp hp
    have h := glue (F := F) K l (K t) hp'.1 hp'.2
    rw [show cup K l (K t) = Finset.univ from Finset.eq_univ_iff_forall.mpr fun i => mem_cup K l _ (by
      obtain ⟨u, hu, hi⟩ := hc i
      rcases List.mem_cons.mp hu with rfl | hu
      · exact Or.inl hi
      · exact Or.inr ⟨u, hu, hi⟩)] at h
    rw [All]
    exact h

end Generic

/-! ### The pieces -/

/-- The part of the gathered activations that a thing holds. -/
def set0 (c : Dev nD) : Th → Finset S8x2x128x512.Idx
  | .xown => (oR c.val).set
  | .xe _ k f => (xR (c.val + k) f).set
  | .xs k f _ => (xR (c.val + k) f).set
  | _ => ∅

/-- The slot among seven. -/
def set7 : Th → Finset S7x2x128x512.Idx
  | .re _ s => (rR s).set
  | .ri s => (rR s).set
  | .sg t _ => (rR t).set
  | _ => ∅

theorem mem_xR {k f : ℕ} {i : S8x2x128x512.Idx} : i ∈ (xR k f).set ↔ (i 0).val = k % 8 ∧ (i 1).val = f % 2 := by
  rw [Rect.mem_set_unit]
  simp only [Fin.forall_fin_succ, Fin.forall_fin_zero]
  have h2 : (i 2).val < 128 := (i 2).isLt
  have h3 : (i 3).val < 512 := (i 3).isLt
  simp
  omega

theorem mem_oR {k : ℕ} {i : S8x2x128x512.Idx} : i ∈ (oR k).set ↔ (i 0).val = k % 8 := by
  rw [Rect.mem_set_unit]
  simp only [Fin.forall_fin_succ, Fin.forall_fin_zero]
  have h1 : (i 1).val < 2 := (i 1).isLt
  have h2 : (i 2).val < 128 := (i 2).isLt
  have h3 : (i 3).val < 512 := (i 3).isLt
  simp
  omega

theorem mem_rR {t : ℕ} {i : S7x2x128x512.Idx} : i ∈ (rR t).set ↔ (i 0).val = t % 7 := by
  rw [Rect.mem_set_unit]
  simp only [Fin.forall_fin_succ, Fin.forall_fin_zero]
  have h1 : (i 1).val < 2 := (i 1).isLt
  have h2 : (i 2).val < 128 := (i 2).isLt
  have h3 : (i 3).val < 512 := (i 3).isLt
  simp
  omega

/-- Two things hold different parts of the gathered activations. -/
def apart : Th → Th → Bool
  | .xown, .xe _ k _ => decide (k % 8 ≠ 0)
  | .xe _ k f, .xe _ k' f' => decide (k % 8 ≠ k' % 8) || decide (f % 2 ≠ f' % 2)
  | .xs k f _, .xs k' f' _ => decide (k % 8 ≠ k' % 8) || decide (f % 2 ≠ f' % 2)
  | .re _ s, .re _ s' => decide (s % 7 ≠ s' % 7)
  | .ri s, .ri s' => decide (s % 7 ≠ s' % 7)
  | .sg s _, .sg s' _ => decide (s % 7 ≠ s' % 7)
  | _, _ => false

theorem apart0 {c : Dev nD} {a b : Th} (h : apart a b = true) : Disjoint (set0 c a) (set0 c b) := by
  cases a <;> cases b <;> first
    | exact Finset.disjoint_empty_left _
    | exact absurd h Bool.false_ne_true
    | (rw [Finset.disjoint_left]
       intro i
       simp only [apart, Bool.or_eq_true, decide_eq_true_eq] at h
       simp only [set0, mem_xR, mem_oR]
       omega)

theorem apart7 {a b : Th} (h : apart a b = true) : Disjoint (set7 a) (set7 b) := by
  cases a <;> cases b <;> first
    | exact Finset.disjoint_empty_left _
    | exact absurd h Bool.false_ne_true
    | (rw [Finset.disjoint_left]
       intro i
       simp only [apart, Bool.or_eq_true, decide_eq_true_eq] at h
       simp only [set7, mem_rR]
       omega)

/-! ### At the start -/

def start0 : List Th := .xown :: (List.range 7).flatMap fun k => [.xe 0 (k + 1) 0, .xe 0 (k + 1) 1]
def start6 : List Th := (List.range 7).map (.re 0)
def start5 : List Th := (List.range 7).map (.sg · 0)

theorem D_zero : D 0 = start0 ++ start6 ++ start5 := rfl

def in0 : Th → Bool
  | .xown => true
  | .xe 0 _ _ => true
  | _ => false

theorem split0 (f : Buf (Elt F) (loc0 c)) : (loc0 c ↦{fullShare} f : sProp (MM F)) ⊢ All (Res I c) start0 := by
  refine (peel (ℓ := loc0 c) (set0 c) f start0 Finset.univ (fun _ _ => Finset.subset_univ _)
    (List.Pairwise.imp apart0 (show start0.Pairwise (fun a b => apart a b = true) from by decide +kernel))).trans (All_mono fun t ht => ?_)
  have ht' : in0 t = true := (show ∀ t ∈ start0, in0 t = true from by decide +kernel) t ht
  cases t with
  | xown =>
    show _ ⊢ iprop(∃ g : Buf (Elt F) (loc0 c), (loc0 c ↦[(oR c.val).set]{fullShare} g))
    iintro ⟨%g, -, H⟩
    iexists g
    iexact H
  | xe e k f =>
    cases e with
    | zero =>
      show _ ⊢ iprop(∃ g : Buf (Elt F) (loc0 (dvr c 0)), (loc0 (dvr c 0) ↦[(xR (c.val + k) f).set]{fullShare} g))
      rw [dvr_zero]
      iintro ⟨%g, -, H⟩
      iexists g
      iexact H
    | succ e => exact absurd ht' Bool.false_ne_true
  | _ => exact absurd ht' Bool.false_ne_true

def in6 : Th → Bool
  | .re 0 _ => true
  | _ => false

theorem split6 (f : Buf (Elt F) (loc6 c)) : (loc6 c ↦{fullShare} f : sProp (MM F)) ⊢ All (Res I c) start6 := by
  refine (peel (ℓ := loc6 c) set7 f start6 Finset.univ (fun _ _ => Finset.subset_univ _)
    (List.Pairwise.imp apart7 (show start6.Pairwise (fun a b => apart a b = true) from by decide +kernel))).trans (All_mono fun t ht => ?_)
  have ht' : in6 t = true := (show ∀ t ∈ start6, in6 t = true from by decide +kernel) t ht
  cases t with
  | re e s =>
    cases e with
    | zero =>
      show _ ⊢ iprop(∃ g : Buf (Elt F) (loc6 (dvr c 0)), (loc6 (dvr c 0) ↦[(rR s).set]{fullShare} g))
      rw [dvr_zero]
      iintro ⟨%g, -, H⟩
      iexists g
      iexact H
    | succ e => exact absurd ht' Bool.false_ne_true
  | _ => exact absurd ht' Bool.false_ne_true

def in5 : Th → Bool
  | .sg _ 0 => true
  | _ => false

theorem split5 (f : Buf (Elt F) (loc5 c)) : (loc5 c ↦{fullShare} f : sProp (MM F)) ⊢ All (Res I c) start5 := by
  refine (peel (ℓ := loc5 c) set7 f start5 Finset.univ (fun _ _ => Finset.subset_univ _)
    (List.Pairwise.imp apart7 (show start5.Pairwise (fun a b => apart a b = true) from by decide +kernel))).trans (All_mono fun t ht => ?_)
  have ht' : in5 t = true := (show ∀ t ∈ start5, in5 t = true from by decide +kernel) t ht
  cases t with
  | sg t b =>
    cases b with
    | zero =>
      show _ ⊢ iprop(∃ g : Buf (Elt F) (loc5 c), ⌜∀ i ∈ (rR t).set, (i 1).val < 0 → g i = RGb I c i⌝ ∗ (loc5 c ↦[(rR t).set]{fullShare} g))
      iintro ⟨%g, -, H⟩
      iexists g
      isplitr
      · ipureintro; exact fun i _ h => absurd h (Nat.not_lt_zero _)
      · iexact H
    | succ e => exact absurd ht' Bool.false_ne_true
  | _ => exact absurd ht' Bool.false_ne_true

/-! ### At the end -/

def ring2 (l : List ℕ) : List (ℕ × ℕ) := l.flatMap fun k => [(k, 0), (k, 1)]

def halves (l : List (ℕ × ℕ)) : List Th := l.flatMap fun p => [.xs p.1 p.2 1, .xs p.1 p.2 4]
def thirds (l : List (ℕ × ℕ)) : List Th := l.flatMap fun p => [.xs p.1 p.2 1, .xs p.1 p.2 2, .xs p.1 p.2 3]
def wholes (l : List (ℕ × ℕ)) : List Th := l.map fun p => .xs p.1 p.2 0

def end6 : List Th := (List.range 7).map .ri
def end5 : List Th := (List.range 7).map (.sg · 2)

theorem D_end : (D 91).Perm (ixs.map .dn ++ (thirds (ring2 [0]) ++ halves (ring2 [1, 2, 5, 6, 7]) ++ wholes (ring2 [3, 4])) ++ end6 ++ end5) := by
  decide +kernel

theorem half {k f : ℕ} : iprop(Res I c (.xs k f 1) ∗ Res I c (.xs k f 4)) ⊢ Res I c (.xs k f 0) := by
  show iprop((∃ g : Buf (Elt F) (loc0 c), ⌜g = XGb I⌝ ∗ (loc0 c ↦[(xR (c.val + k) f).set]{fullShare.left} g))
    ∗ (∃ g : Buf (Elt F) (loc0 c), ⌜g = XGb I⌝ ∗ (loc0 c ↦[(xR (c.val + k) f).set]{fullShare.right} g)))
    ⊢ iprop(∃ g : Buf (Elt F) (loc0 c), ⌜g = XGb I⌝ ∗ (loc0 c ↦[(xR (c.val + k) f).set]{fullShare} g))
  iintro ⟨⟨%g, %hg, H⟩, ⟨%g', %hg', H'⟩⟩
  subst hg
  subst hg'
  iexists (XGb I)
  isplitr
  · ipureintro; rfl
  iapply (pointsTo_share (PosShare.mem_left_op_right fullShare)).2
  isplitl [H]
  · iexact H
  · iexact H'

theorem quarter {k f : ℕ} : iprop(Res I c (.xs k f 2) ∗ Res I c (.xs k f 3)) ⊢ Res I c (.xs k f 4) := by
  show iprop((∃ g : Buf (Elt F) (loc0 c), ⌜g = XGb I⌝ ∗ (loc0 c ↦[(xR (c.val + k) f).set]{fullShare.right.left} g))
    ∗ (∃ g : Buf (Elt F) (loc0 c), ⌜g = XGb I⌝ ∗ (loc0 c ↦[(xR (c.val + k) f).set]{fullShare.right.right} g)))
    ⊢ iprop(∃ g : Buf (Elt F) (loc0 c), ⌜g = XGb I⌝ ∗ (loc0 c ↦[(xR (c.val + k) f).set]{fullShare.right} g))
  iintro ⟨⟨%g, %hg, H⟩, ⟨%g', %hg', H'⟩⟩
  subst hg
  subst hg'
  iexists (XGb I)
  isplitr
  · ipureintro; rfl
  iapply (pointsTo_share (PosShare.mem_left_op_right fullShare.right)).2
  isplitl [H]
  · iexact H
  · iexact H'

theorem join_halves : ∀ l : List (ℕ × ℕ), All (Res I c) (halves l) ⊢ All (Res I c) (wholes l)
  | [] => BI.Entails.refl _
  | p :: l => by
    have ih := join_halves l
    unfold halves wholes at ih ⊢
    rw [List.flatMap_cons, List.map_cons, All_append, All, All, All, All]
    iintro ⟨⟨H1, H2, -⟩, HR⟩
    isplitl [H1 H2]
    · iapply half
      isplitl [H1]
      · iexact H1
      · iexact H2
    · iapply ih
      iexact HR

theorem join_thirds : ∀ l : List (ℕ × ℕ), All (Res I c) (thirds l) ⊢ All (Res I c) (wholes l)
  | [] => BI.Entails.refl _
  | p :: l => by
    have ih := join_thirds l
    unfold thirds wholes at ih ⊢
    rw [List.flatMap_cons, List.map_cons, All_append, All, All, All, All, All]
    iintro ⟨⟨H1, H2, H3, -⟩, HR⟩
    isplitl [H1 H2 H3]
    · iapply half
      isplitl [H1]
      · iexact H1
      · iapply quarter
        isplitl [H2]
        · iexact H2
        · iexact H3
    · iapply ih
      iexact HR

def ring8 : List (ℕ × ℕ) := ring2 [0] ++ ring2 [1, 2, 5, 6, 7] ++ ring2 [3, 4]

def inX : Th → Bool
  | .xs _ _ 0 => true
  | _ => false

theorem join0 : All (Res I c) (thirds (ring2 [0]) ++ halves (ring2 [1, 2, 5, 6, 7]) ++ wholes (ring2 [3, 4]))
    ⊢ (iprop(∃ f : Buf (Elt F) (loc0 c), (loc0 c ↦{fullShare} f)) : sProp (MM F)) := by
  have h1 : All (Res I c) (thirds (ring2 [0]) ++ halves (ring2 [1, 2, 5, 6, 7]) ++ wholes (ring2 [3, 4])) ⊢ All (Res I c) (wholes ring8) := by
    rw [show wholes ring8 = wholes (ring2 [0]) ++ wholes (ring2 [1, 2, 5, 6, 7]) ++ wholes (ring2 [3, 4]) from rfl, All_append, All_append, All_append, All_append]
    exact sep_mono_left (BIClass.sep_mono (join_thirds _) (join_halves _))
  refine h1.trans ((All_mono fun t ht => ?_).trans (glue_all (ℓ := loc0 c) (set0 c) (wholes ring8)
    (List.Pairwise.imp apart0 (show (wholes ring8).Pairwise (fun a b => apart a b = true) from by decide +kernel)) ?_))
  · have ht' : inX t = true := (show ∀ t ∈ wholes ring8, inX t = true from by decide +kernel) t ht
    cases t with
    | xs k f sh =>
      cases sh with
      | zero =>
        show iprop(∃ g : Buf (Elt F) (loc0 c), ⌜g = XGb I⌝ ∗ (loc0 c ↦[(xR (c.val + k) f).set]{fullShare} g)) ⊢ _
        iintro ⟨%g, -, H⟩
        iexists g
        iexact H
      | succ e => exact absurd ht' Bool.false_ne_true
    | _ => exact absurd ht' Bool.false_ne_true
  · intro i
    have h0 : ((i : S8x2x128x512.Idx) 0).val < 8 := ((i : S8x2x128x512.Idx) 0).isLt
    have h1 : ((i : S8x2x128x512.Idx) 1).val < 2 := ((i : S8x2x128x512.Idx) 1).isLt
    have hc : c.val < 8 := c.isLt
    refine ⟨.xs ((((i : S8x2x128x512.Idx) 0).val + (8 - c.val)) % 8) ((i : S8x2x128x512.Idx) 1).val 0, ?_, ?_⟩
    · exact (show ∀ (k : Fin 8) (f : Fin 2), Th.xs k.val f.val 0 ∈ wholes ring8 from by decide +kernel)
        ⟨_, Nat.mod_lt _ (by decide)⟩ ⟨_, h1⟩
    · show (i : S8x2x128x512.Idx) ∈ (xR _ _).set
      rw [mem_xR]
      omega

theorem join6 : All (Res I c) end6 ⊢ (iprop(∃ f : Buf (Elt F) (loc6 c), (loc6 c ↦{fullShare} f)) : sProp (MM F)) := by
  refine (All_mono fun t ht => ?_).trans (glue_all (ℓ := loc6 c) set7 end6
    (List.Pairwise.imp apart7 (show end6.Pairwise (fun a b => apart a b = true) from by decide +kernel)) ?_)
  · obtain ⟨s, -, rfl⟩ := List.mem_map.mp ht
    show iprop(∃ g : Buf (Elt F) (loc6 c), ⌜g = RIb I c⌝ ∗ (loc6 c ↦[(rR s).set]{fullShare} g)) ⊢ _
    iintro ⟨%g, -, H⟩
    iexists g
    iexact H
  · intro i
    have h0 : ((i : S7x2x128x512.Idx) 0).val < 7 := ((i : S7x2x128x512.Idx) 0).isLt
    refine ⟨.ri ((i : S7x2x128x512.Idx) 0).val, List.mem_map_of_mem (List.mem_range.mpr h0), ?_⟩
    show (i : S7x2x128x512.Idx) ∈ (rR _).set
    rw [mem_rR]
    omega

theorem join5 : All (Res I c) end5 ⊢ (iprop(∃ f : Buf (Elt F) (loc5 c), (loc5 c ↦{fullShare} f)) : sProp (MM F)) := by
  refine (All_mono fun t ht => ?_).trans (glue_all (ℓ := loc5 c) set7 end5
    (List.Pairwise.imp apart7 (show end5.Pairwise (fun a b => apart a b = true) from by decide +kernel)) ?_)
  · obtain ⟨s, -, rfl⟩ := List.mem_map.mp ht
    show iprop(∃ g : Buf (Elt F) (loc5 c), ⌜∀ i ∈ (rR s).set, (i 1).val < 2 → g i = RGb I c i⌝ ∗ (loc5 c ↦[(rR s).set]{fullShare} g)) ⊢ _
    iintro ⟨%g, -, H⟩
    iexists g
    iexact H
  · intro i
    have h0 : ((i : S7x2x128x512.Idx) 0).val < 7 := ((i : S7x2x128x512.Idx) 0).isLt
    refine ⟨.sg ((i : S7x2x128x512.Idx) 0).val 2, List.mem_map_of_mem (f := fun t => Th.sg t 2) (List.mem_range.mpr h0), ?_⟩
    show (i : S7x2x128x512.Idx) ∈ (rR _).set
    rw [mem_rR]
    omega

end Cert.Rope

end
-- ==== Proof.Mem.lean ====
module

public import proofs.«01_k».proof.Proof.Base
public import proofs.«01_k».proof.Proof.Contents

/-! The projection and accumulator buffers of a device, and how each load and store of the kernel moves them. -/

@[expose] public section

noncomputable section

namespace Cert.Rope

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (I : Ins F) (c : Dev nD)

abbrev HQ (n : ℕ) : sProp (MM F) := Held c cc0_scratch1 (by4 (n := ![2, 4, 1024, 64]) (PQ n)) (by4 (n := ![2, 4, 1024, 64]) (QG I c))
abbrev HK (n : ℕ) : sProp (MM F) := Held c cc0_scratch2 (by4 (n := ![2, 4, 1024, 64]) (PQ n)) (by4 (n := ![2, 4, 1024, 64]) (KG I c))
abbrev HV (n : ℕ) : sProp (MM F) := Held c cc0_scratch3 (by4 (n := ![2, 4, 1024, 128]) (PV n)) (by4 (n := ![2, 4, 1024, 128]) (VG I c))
abbrev HA (n : ℕ) : sProp (MM F) := Held c cc0_scratch4 (by4 (n := ![2, 4, 1024, 128]) (PA n))
  (by4 (n := ![2, 4, 1024, 128]) (fun b h row col => AG I c (lv n b h) b h row col))

/-- The four buffers, filled so far, and the rest `R` of what the device holds. -/
def St (R : sProp (MM F)) (nq nk nv na : ℕ) : sProp (MM F) := iprop(R ∗ HQ I c nq ∗ HK I c nk ∗ HV I c nv ∗ HA I c na)

variable {I c} {R R' : sProp (MM F)} {nq nk nv na : ℕ} {α : Type} {Q : α → sProp (MM F)} {p : Prog (TpuEff nD τ sig (Elt F) Λ₀ .tc) α}

theorem St.ofQ (h : iprop((R ∗ HK I c nk ∗ HV I c nv ∗ HA I c na) ∗ HQ I c nq) ⊢ WP c p Q) : St I c R nq nk nv na ⊢ WP c p Q := by
  refine BIBase.Entails.trans ?_ h
  unfold St
  iintro ⟨HR, HQ, HK, HV, HA⟩
  isplitr [HQ]
  · isplitl [HR]
    · iexact HR
    isplitl [HK]
    · iexact HK
    isplitl [HV]
    · iexact HV
    iexact HA
  · iexact HQ

theorem St.toQ (h : St I c R nq nk nv na ⊢ WP c p Q) : iprop((R ∗ HK I c nk ∗ HV I c nv ∗ HA I c na) ∗ HQ I c nq) ⊢ WP c p Q := by
  refine BIBase.Entails.trans ?_ h
  unfold St
  iintro ⟨⟨HR, HK, HV, HA⟩, HQ⟩
  isplitl [HR]
  · iexact HR
  isplitl [HQ]
  · iexact HQ
  isplitl [HK]
  · iexact HK
  isplitl [HV]
  · iexact HV
  iexact HA

theorem St.ofK (h : iprop((R ∗ HQ I c nq ∗ HV I c nv ∗ HA I c na) ∗ HK I c nk) ⊢ WP c p Q) : St I c R nq nk nv na ⊢ WP c p Q := by
  refine BIBase.Entails.trans ?_ h
  unfold St
  iintro ⟨HR, HQ, HK, HV, HA⟩
  isplitr [HK]
  · isplitl [HR]
    · iexact HR
    isplitl [HQ]
    · iexact HQ
    isplitl [HV]
    · iexact HV
    iexact HA
  · iexact HK

theorem St.toK (h : St I c R nq nk nv na ⊢ WP c p Q) : iprop((R ∗ HQ I c nq ∗ HV I c nv ∗ HA I c na) ∗ HK I c nk) ⊢ WP c p Q := by
  refine BIBase.Entails.trans ?_ h
  unfold St
  iintro ⟨⟨HR, HQ, HV, HA⟩, HK⟩
  isplitl [HR]
  · iexact HR
  isplitl [HQ]
  · iexact HQ
  isplitl [HK]
  · iexact HK
  isplitl [HV]
  · iexact HV
  iexact HA

theorem St.ofV (h : iprop((R ∗ HQ I c nq ∗ HK I c nk ∗ HA I c na) ∗ HV I c nv) ⊢ WP c p Q) : St I c R nq nk nv na ⊢ WP c p Q := by
  refine BIBase.Entails.trans ?_ h
  unfold St
  iintro ⟨HR, HQ, HK, HV, HA⟩
  isplitr [HV]
  · isplitl [HR]
    · iexact HR
    isplitl [HQ]
    · iexact HQ
    isplitl [HK]
    · iexact HK
    iexact HA
  · iexact HV

theorem St.toV (h : St I c R nq nk nv na ⊢ WP c p Q) : iprop((R ∗ HQ I c nq ∗ HK I c nk ∗ HA I c na) ∗ HV I c nv) ⊢ WP c p Q := by
  refine BIBase.Entails.trans ?_ h
  unfold St
  iintro ⟨⟨HR, HQ, HK, HA⟩, HV⟩
  isplitl [HR]
  · iexact HR
  isplitl [HQ]
  · iexact HQ
  isplitl [HK]
  · iexact HK
  isplitl [HV]
  · iexact HV
  iexact HA

theorem St.ofA (h : iprop((R ∗ HQ I c nq ∗ HK I c nk ∗ HV I c nv) ∗ HA I c na) ⊢ WP c p Q) : St I c R nq nk nv na ⊢ WP c p Q := by
  refine BIBase.Entails.trans ?_ h
  unfold St
  iintro ⟨HR, HQ, HK, HV, HA⟩
  isplitr [HA]
  · isplitl [HR]
    · iexact HR
    isplitl [HQ]
    · iexact HQ
    isplitl [HK]
    · iexact HK
    iexact HV
  · iexact HA

theorem St.toA (h : St I c R nq nk nv na ⊢ WP c p Q) : iprop((R ∗ HQ I c nq ∗ HK I c nk ∗ HV I c nv) ∗ HA I c na) ⊢ WP c p Q := by
  refine BIBase.Entails.trans ?_ h
  unfold St
  iintro ⟨⟨HR, HQ, HK, HV⟩, HA⟩
  isplitl [HR]
  · iexact HR
  isplitl [HQ]
  · iexact HQ
  isplitl [HK]
  · iexact HK
  isplitl [HV]
  · iexact HV
  iexact HA

/-- The number an index of a unit rectangle of a four-axis buffer reads. -/
theorem by4_unit {β : Type} {n : Fin 4 → ℕ} (G : ℕ → ℕ → ℕ → ℕ → β) {a b r d : ℕ} {sz : Fin 4 → ℕ}
    (inb : ∀ x, (![a, b, r, d] : Fin 4 → ℕ) x + sz x ≤ (⟨4, n⟩ : Shape).size x) (x : (⟨4, sz⟩ : Shape).Idx) :
    by4 (n := n) G ((Rect.unit (s := ⟨4, n⟩) ![a, b, r, d] sz inb).toLoadRect.idx x) = rd4 sz G a b r d x := by
  show G (a + 1 * (x 0).val) (b + 1 * (x 1).val) (r + 1 * (x 2).val) (d + 1 * (x 3).val) = _
  simp only [Nat.one_mul]
  rfl

variable {b h r m d : ℕ}

theorem ld_q {inb} (hn : (r + m - 1) / 128 * 8 + b * 4 + h < nq) {hl}
    {k : ((Rect.unit (s := S2x4x1024x64) ![b, h, r, 0] ![1, 1, m, 64] inb).toLoadRect.shape.Idx → Elt F cc0_scratch1.ty.elt) → Prog (TpuEff nD τ sig (Elt F) Λ₀ .tc) α} (hk : St I c R nq nk nv na ⊢ WP c (k (rq I c m b h r)) Q) :
    St I c R nq nk nv na ⊢ WP c (Prog.lift (.load (Memref.whole cc0_scratch1) (Rect.unit (s := S2x4x1024x64) ![b, h, r, 0] ![1, 1, m, 64] inb).toLoadRect hl) >>= k) Q := by
  refine St.ofQ (held_load _ (fun x => ?_) (fun x => by4_unit _ inb x) (St.toQ hk))
  refine (by4_unit (PQ nq) inb x).mpr ?_
  have h0 : (x 0).val < 1 := (x 0).isLt
  have h1 : (x 1).val < 1 := (x 1).isLt
  have h2 : (x 2).val < m := (x 2).isLt
  show (r + (x 2).val) / 128 * 8 + (b + (x 0).val) * 4 + (h + (x 1).val) < nq
  have : (r + (x 2).val) / 128 ≤ (r + m - 1) / 128 := Nat.div_le_div_right (by omega)
  omega

theorem ld_k {inb} (hn : (r + m - 1) / 128 * 8 + b * 4 + h < nk) {hl}
    {k : ((Rect.unit (s := S2x4x1024x64) ![b, h, r, 0] ![1, 1, m, 64] inb).toLoadRect.shape.Idx → Elt F cc0_scratch2.ty.elt) → Prog (TpuEff nD τ sig (Elt F) Λ₀ .tc) α} (hk : St I c R nq nk nv na ⊢ WP c (k (rk I c m b h r)) Q) :
    St I c R nq nk nv na ⊢ WP c (Prog.lift (.load (Memref.whole cc0_scratch2) (Rect.unit (s := S2x4x1024x64) ![b, h, r, 0] ![1, 1, m, 64] inb).toLoadRect hl) >>= k) Q := by
  refine St.ofK (held_load _ (fun x => ?_) (fun x => by4_unit _ inb x) (St.toK hk))
  refine (by4_unit (PQ nk) inb x).mpr ?_
  have h0 : (x 0).val < 1 := (x 0).isLt
  have h1 : (x 1).val < 1 := (x 1).isLt
  have h2 : (x 2).val < m := (x 2).isLt
  show (r + (x 2).val) / 128 * 8 + (b + (x 0).val) * 4 + (h + (x 1).val) < nk
  have : (r + (x 2).val) / 128 ≤ (r + m - 1) / 128 := Nat.div_le_div_right (by omega)
  omega

theorem ld_v {inb} (hn : ((r + m - 1) / 128 * 8 + b * 4 + h) * 2 + 1 < nv) {hl}
    {k : ((Rect.unit (s := S2x4x1024x128) ![b, h, r, 0] ![1, 1, m, 128] inb).toLoadRect.shape.Idx → Elt F cc0_scratch3.ty.elt) → Prog (TpuEff nD τ sig (Elt F) Λ₀ .tc) α} (hk : St I c R nq nk nv na ⊢ WP c (k (rv I c m b h r)) Q) :
    St I c R nq nk nv na ⊢ WP c (Prog.lift (.load (Memref.whole cc0_scratch3) (Rect.unit (s := S2x4x1024x128) ![b, h, r, 0] ![1, 1, m, 128] inb).toLoadRect hl) >>= k) Q := by
  refine St.ofV (held_load _ (fun x => ?_) (fun x => by4_unit _ inb x) (St.toV hk))
  refine (by4_unit (PV nv) inb x).mpr ?_
  have h0 : (x 0).val < 1 := (x 0).isLt
  have h1 : (x 1).val < 1 := (x 1).isLt
  have h2 : (x 2).val < m := (x 2).isLt
  have h3 : (x 3).val < 128 := (x 3).isLt
  show ((r + (x 2).val) / 128 * 8 + (b + (x 0).val) * 4 + (h + (x 1).val)) * 2 + (0 + (x 3).val) / 64 < nv
  have : (r + (x 2).val) / 128 ≤ (r + m - 1) / 128 := Nat.div_le_div_right (by omega)
  omega

theorem ld_a {inb} (hn : (r + m - 1) / 128 * 2 < lv na b h) {hl}
    {k : ((Rect.unit (s := S2x4x1024x128) ![b, h, r, 0] ![1, 1, m, 128] inb).toLoadRect.shape.Idx → Elt F cc0_scratch4.ty.elt) → Prog (TpuEff nD τ sig (Elt F) Λ₀ .tc) α}
    (hk : St I c R nq nk nv na ⊢ WP c (k (rd4 ![1, 1, m, 128] (AG I c (lv na b h)) b h r 0)) Q) :
    St I c R nq nk nv na ⊢ WP c (Prog.lift (.load (Memref.whole cc0_scratch4) (Rect.unit (s := S2x4x1024x128) ![b, h, r, 0] ![1, 1, m, 128] inb).toLoadRect hl) >>= k) Q := by
  refine St.ofA (held_load _ (fun x => ?_) (fun x => ?_) (St.toA hk))
  · refine (by4_unit (PA na) inb x).mpr ?_
    have h0 : (x 0).val = 0 := by have : (x 0).val < 1 := (x 0).isLt; omega
    have h1 : (x 1).val = 0 := by have : (x 1).val < 1 := (x 1).isLt; omega
    have h2 : (x 2).val < m := (x 2).isLt
    show (r + (x 2).val) / 128 * 2 < lv na (b + (x 0).val) (h + (x 1).val)
    rw [h0, h1]
    have : (r + (x 2).val) / 128 ≤ (r + m - 1) / 128 := Nat.div_le_div_right (by omega)
    show _ < lv na b h
    omega
  · rw [by4_unit _ inb x]
    have h0 : (x 0).val = 0 := by have : (x 0).val < 1 := (x 0).isLt; omega
    have h1 : (x 1).val = 0 := by have : (x 1).val < 1 := (x 1).isLt; omega
    unfold rd4
    rw [h0, h1]
    rfl

theorem peek_q {r : LoadRect cc0_scratch1.ty.shape} {hl} {k : (r.shape.Idx → Elt F cc0_scratch1.ty.elt) → Prog (TpuEff nD τ sig (Elt F) Λ₀ .tc) α} (hk : ∀ v, St I c R nq nk nv na ⊢ WP c (k v) Q) :
    St I c R nq nk nv na ⊢ WP c (Prog.lift (.load (Memref.whole cc0_scratch1) r hl) >>= k) Q :=
  St.ofQ (held_peek _ fun v => St.toQ (hk v))
theorem peek_k {r : LoadRect cc0_scratch2.ty.shape} {hl} {k : (r.shape.Idx → Elt F cc0_scratch2.ty.elt) → Prog (TpuEff nD τ sig (Elt F) Λ₀ .tc) α} (hk : ∀ v, St I c R nq nk nv na ⊢ WP c (k v) Q) :
    St I c R nq nk nv na ⊢ WP c (Prog.lift (.load (Memref.whole cc0_scratch2) r hl) >>= k) Q :=
  St.ofK (held_peek _ fun v => St.toK (hk v))
theorem peek_v {r : LoadRect cc0_scratch3.ty.shape} {hl} {k : (r.shape.Idx → Elt F cc0_scratch3.ty.elt) → Prog (TpuEff nD τ sig (Elt F) Λ₀ .tc) α} (hk : ∀ v, St I c R nq nk nv na ⊢ WP c (k v) Q) :
    St I c R nq nk nv na ⊢ WP c (Prog.lift (.load (Memref.whole cc0_scratch3) r hl) >>= k) Q :=
  St.ofV (held_peek _ fun v => St.toV (hk v))
theorem peek_a {r : LoadRect cc0_scratch4.ty.shape} {hl} {k : (r.shape.Idx → Elt F cc0_scratch4.ty.elt) → Prog (TpuEff nD τ sig (Elt F) Λ₀ .tc) α} (hk : ∀ v, St I c R nq nk nv na ⊢ WP c (k v) Q) :
    St I c R nq nk nv na ⊢ WP c (Prog.lift (.load (Memref.whole cc0_scratch4) r hl) >>= k) Q :=
  St.ofA (held_peek _ fun v => St.toA (hk v))

/-- An index outside a unit rectangle of a four-axis buffer. -/
theorem out_unit {n : Fin 4 → ℕ} {a b r d : ℕ} {sz : Fin 4 → ℕ}
    (inb : ∀ x, (![a, b, r, d] : Fin 4 → ℕ) x + sz x ≤ (⟨4, n⟩ : Shape).size x) (i : (⟨4, n⟩ : Shape).Idx)
    (h : ∀ x, (Rect.unit (s := ⟨4, n⟩) ![a, b, r, d] sz inb).emb x ≠ i) :
    ¬ ((a ≤ (i 0).val ∧ (i 0).val < a + sz 0) ∧ (b ≤ (i 1).val ∧ (i 1).val < b + sz 1)
      ∧ (r ≤ (i 2).val ∧ (i 2).val < r + sz 2) ∧ (d ≤ (i 3).val ∧ (i 3).val < d + sz 3)) := by
  rintro ⟨⟨h0, h0'⟩, ⟨h1, h1'⟩, ⟨h2, h2'⟩, h3, h3'⟩
  refine h (fun x => ⟨(i x).val - (![a, b, r, d] : Fin 4 → ℕ) x, ?_⟩) ?_
  · fin_cases x
    · show (i 0).val - a < sz 0; omega
    · show (i 1).val - b < sz 1; omega
    · show (i 2).val - r < sz 2; omega
    · show (i 3).val - d < sz 3; omega
  funext x
  refine Fin.ext ?_
  fin_cases x
  · show a + 1 * ((i 0).val - a) = (i 0).val; omega
  · show b + 1 * ((i 1).val - b) = (i 1).val; omega
  · show r + 1 * ((i 2).val - r) = (i 2).val; omega
  · show d + 1 * ((i 3).val - d) = (i 3).val; omega

/-- A one-by-one block's index is the one its last two coordinates name. -/
theorem ix4_self {n2 n3 : ℕ} [NeZero n2] [NeZero n3] (x : (⟨4, ![1, 1, n2, n3]⟩ : Shape).Idx) : ix4 n2 n3 (x 2).val (x 3).val = x := by
  funext a
  refine Fin.ext ?_
  fin_cases a
  · show 0 = (x 0).val; have : (x 0).val < 1 := (x 0).isLt; omega
  · show 0 = (x 1).val; have : (x 1).val < 1 := (x 1).isLt; omega
  · exact Nat.mod_eq_of_lt (x 2).isLt
  · exact Nat.mod_eq_of_lt (x 3).isLt

theorem at4_of {n2 n3 : ℕ} [NeZero n2] [NeZero n3] {β : Type} (v : (⟨4, ![1, 1, n2, n3]⟩ : Shape).Idx → β) (x : (⟨4, ![1, 1, n2, n3]⟩ : Shape).Idx)
    {r d : ℕ} (hr : r % n2 = (x 2).val) (hd : d % n3 = (x 3).val) : at4 v r d = v x := by
  unfold at4
  congr 1
  conv_rhs => rw [← ix4_self x]
  funext a
  refine Fin.ext ?_
  fin_cases a
  · rfl
  · rfl
  · show r % n2 = (x 2).val % n2; rw [hr]; exact (Nat.mod_eq_of_lt (x 2).isLt).symm
  · show d % n3 = (x 3).val % n3; rw [hd]; exact (Nat.mod_eq_of_lt (x 3).isLt).symm

theorem st_q {inb} {w} (hr : r = 128 * (nq / 8)) (hb : b = nq % 8 / 4) (hh : h = nq % 4)
    (hw : w = headOf (qrow I c (nq / 8) b) h) {hx hm}
    {k : PUnit → Prog (TpuEff nD τ sig (Elt F) Λ₀ .tc) α} (hk : St I c R (nq + 1) nk nv na ⊢ WP c (k ⟨⟩) Q) :
    St I c R nq nk nv na ⊢ WP c (Prog.lift (.store (Memref.whole cc0_scratch1) (Rect.unit (s := S2x4x1024x64) ![b, h, r, 0] ![1, 1, 128, 64] inb) w Finset.univ hx hm) >>= k) Q := by
  refine St.ofQ (held_store _ (fun x _ => ?_) (fun i hi hx => ?_) (St.toQ hk))
  · refine (by4_unit _ inb x).trans ?_
    have h0 : (x 0).val = 0 := by have : (x 0).val < 1 := (x 0).isLt; omega
    have h1 : (x 1).val = 0 := by have : (x 1).val < 1 := (x 1).isLt; omega
    have h2 : (x 2).val < 128 := (x 2).isLt
    have h3 : (x 3).val < 64 := (x 3).isLt
    unfold rd4 QG
    rw [hw, show (r + (x 2).val) / 128 = nq / 8 by omega, h0, h1]
    exact at4_of _ x (by omega) (by omega)
  · have ho := out_unit inb i hx
    have h3 : (i 3).val < 64 := (i 3).isLt
    have h0 : (i 0).val < 2 := (i 0).isLt
    have h1 : (i 1).val < 4 := (i 1).isLt
    have hi' : (i 2).val / 128 * 8 + (i 0).val * 4 + (i 1).val < nq + 1 := hi
    refine ⟨?_, rfl⟩
    show (i 2).val / 128 * 8 + (i 0).val * 4 + (i 1).val < nq
    simp only [Matrix.cons_val_zero, Matrix.cons_val_one, Matrix.cons_val] at ho
    omega

theorem st_k {inb} {w} (hr : r = 128 * (nk / 8)) (hb : b = nk % 8 / 4) (hh : h = nk % 4)
    (hw : w = headOf (krow I c (nk / 8) b) h) {hx hm}
    {k : PUnit → Prog (TpuEff nD τ sig (Elt F) Λ₀ .tc) α} (hk : St I c R nq (nk + 1) nv na ⊢ WP c (k ⟨⟩) Q) :
    St I c R nq nk nv na ⊢ WP c (Prog.lift (.store (Memref.whole cc0_scratch2) (Rect.unit (s := S2x4x1024x64) ![b, h, r, 0] ![1, 1, 128, 64] inb) w Finset.univ hx hm) >>= k) Q := by
  refine St.ofK (held_store _ (fun x _ => ?_) (fun i hi hx => ?_) (St.toK hk))
  · refine (by4_unit _ inb x).trans ?_
    have h0 : (x 0).val = 0 := by have : (x 0).val < 1 := (x 0).isLt; omega
    have h1 : (x 1).val = 0 := by have : (x 1).val < 1 := (x 1).isLt; omega
    have h2 : (x 2).val < 128 := (x 2).isLt
    have h3 : (x 3).val < 64 := (x 3).isLt
    unfold rd4 KG
    rw [hw, show (r + (x 2).val) / 128 = nk / 8 by omega, h0, h1]
    exact at4_of _ x (by omega) (by omega)
  · have ho := out_unit inb i hx
    have h3 : (i 3).val < 64 := (i 3).isLt
    have h0 : (i 0).val < 2 := (i 0).isLt
    have h1 : (i 1).val < 4 := (i 1).isLt
    have hi' : (i 2).val / 128 * 8 + (i 0).val * 4 + (i 1).val < nk + 1 := hi
    refine ⟨?_, rfl⟩
    show (i 2).val / 128 * 8 + (i 0).val * 4 + (i 1).val < nk
    simp only [Matrix.cons_val_zero, Matrix.cons_val_one, Matrix.cons_val] at ho
    omega

/-- A store to a half of the columns of the value buffer. -/
theorem st_v {inb} {w} (hr : r = 128 * (nv / 16)) (hb : b = nv % 16 / 8) (hh : h = nv % 8 / 2) (hd : d = nv % 2 * 64)
    (hw : w = if d = 0 then headOf (vrow I c (nv / 16) b) h else ones) {hx hm}
    {k : PUnit → Prog (TpuEff nD τ sig (Elt F) Λ₀ .tc) α} (hk : St I c R nq nk (nv + 1) na ⊢ WP c (k ⟨⟩) Q) :
    St I c R nq nk nv na ⊢ WP c (Prog.lift (.store (Memref.whole cc0_scratch3) (Rect.unit (s := S2x4x1024x128) ![b, h, r, d] ![1, 1, 128, 64] inb) w Finset.univ hx hm) >>= k) Q := by
  refine St.ofV (held_store _ (fun x _ => ?_) (fun i hi hx => ?_) (St.toV hk))
  · refine (by4_unit _ inb x).trans ?_
    have h0 : (x 0).val = 0 := by have : (x 0).val < 1 := (x 0).isLt; omega
    have h1 : (x 1).val = 0 := by have : (x 1).val < 1 := (x 1).isLt; omega
    have h2 : (x 2).val < 128 := (x 2).isLt
    have h3 : (x 3).val < 64 := (x 3).isLt
    unfold rd4 VG
    rw [hw, show (r + (x 2).val) / 128 = nv / 16 by omega, h0, h1]
    by_cases h : d = 0
    · rw [if_pos (by omega), if_pos h]
      exact at4_of _ x (by omega) (by omega)
    · rw [if_neg (by omega), if_neg h]
      exact at4_of _ x (by omega) (by omega)
  · have ho := out_unit inb i hx
    have h3 : (i 3).val < 128 := (i 3).isLt
    have h0 : (i 0).val < 2 := (i 0).isLt
    have h1 : (i 1).val < 4 := (i 1).isLt
    have hi' : ((i 2).val / 128 * 8 + (i 0).val * 4 + (i 1).val) * 2 + (i 3).val / 64 < nv + 1 := hi
    refine ⟨?_, rfl⟩
    show ((i 2).val / 128 * 8 + (i 0).val * 4 + (i 1).val) * 2 + (i 3).val / 64 < nv
    simp only [Matrix.cons_val_zero, Matrix.cons_val_one, Matrix.cons_val] at ho
    omega

theorem AG_new (j b h row col : ℕ) : AG I c (2 * j + 1) b h row col =
    if row / 128 = j then at4 (accNew I c b h j) row col else AG I c (2 * j) b h row col := by
  show (if (2 * j) % 2 = 0 then (if row / 128 = 2 * j / 2 then at4 (accNew I c b h (2 * j / 2)) row col else AG I c (2 * j) b h row col)
    else (if row / 128 < 2 * j / 2 then accOld I c (AG I c (2 * j)) b h (2 * j / 2) row col else AG I c (2 * j) b h row col)) = _
  rw [if_pos (by omega), show 2 * j / 2 = j by omega]

theorem AG_old (j b h row col : ℕ) : AG I c (2 * j + 1 + 1) b h row col =
    if row / 128 < j then accOld I c (AG I c (2 * j + 1)) b h j row col else AG I c (2 * j + 1) b h row col := by
  show (if (2 * j + 1) % 2 = 0 then (if row / 128 = (2 * j + 1) / 2 then at4 (accNew I c b h ((2 * j + 1) / 2)) row col else AG I c (2 * j + 1) b h row col)
    else (if row / 128 < (2 * j + 1) / 2 then accOld I c (AG I c (2 * j + 1)) b h ((2 * j + 1) / 2) row col else AG I c (2 * j + 1) b h row col)) = _
  rw [if_neg (by omega), show (2 * j + 1) / 2 = j by omega]

/-- The store of a chunk's own accumulator rows. -/
theorem st_a0 {inb} {w} (he : na % 2 = 0) (hr : r = 128 * (na / 16)) (hb : b = na % 16 / 8) (hh : h = na % 8 / 2)
    (hw : w = accNew I c b h (na / 16)) {hx hm}
    {k : PUnit → Prog (TpuEff nD τ sig (Elt F) Λ₀ .tc) α} (hk : St I c R nq nk nv (na + 1) ⊢ WP c (k ⟨⟩) Q) :
    St I c R nq nk nv na ⊢ WP c (Prog.lift (.store (Memref.whole cc0_scratch4) (Rect.unit (s := S2x4x1024x128) ![b, h, r, 0] ![1, 1, 128, 128] inb) w Finset.univ hx hm) >>= k) Q := by
  have hl : lv (na + 1) b h = 2 * (na / 16) + 1 := by unfold lv; omega
  refine St.ofA (held_store _ (fun x _ => ?_) (fun i hi hx => ?_) (St.toA hk))
  · refine (by4_unit _ inb x).trans ?_
    have h0 : (x 0).val = 0 := by have : (x 0).val < 1 := (x 0).isLt; omega
    have h1 : (x 1).val = 0 := by have : (x 1).val < 1 := (x 1).isLt; omega
    have h2 : (x 2).val < 128 := (x 2).isLt
    have h3 : (x 3).val < 128 := (x 3).isLt
    unfold rd4
    rw [hw, h0, h1]
    show AG I c (lv (na + 1) b h) b h _ _ = _
    rw [hl, AG_new, if_pos (by omega)]
    exact at4_of _ x (by omega) (by omega)
  · have ho := out_unit inb i hx
    have h3 : (i 3).val < 128 := (i 3).isLt
    have h0 : (i 0).val < 2 := (i 0).isLt
    have h1 : (i 1).val < 4 := (i 1).isLt
    have hi' : (i 2).val / 128 * 2 < lv (na + 1) (i 0).val (i 1).val := hi
    show (i 2).val / 128 * 2 < lv na (i 0).val (i 1).val ∧ AG I c (lv na (i 0).val (i 1).val) (i 0).val (i 1).val (i 2).val (i 3).val
      = AG I c (lv (na + 1) (i 0).val (i 1).val) (i 0).val (i 1).val (i 2).val (i 3).val
    simp only [Matrix.cons_val_zero, Matrix.cons_val_one, Matrix.cons_val] at ho
    by_cases hbh : (i 0).val = b ∧ (i 1).val = h
    · obtain ⟨e0, e1⟩ := hbh
      have hl' : lv na b h = 2 * (na / 16) := by unfold lv; omega
      rw [e0, e1] at hi' ⊢
      rw [hl] at hi' ⊢
      rw [hl']
      refine ⟨by omega, ?_⟩
      rw [AG_new, if_neg (by omega)]
    · have : lv (na + 1) (i 0).val (i 1).val = lv na (i 0).val (i 1).val := by unfold lv; omega
      rw [this] at hi' ⊢
      exact ⟨hi', rfl⟩

/-- Nothing is added to the earlier rows for the first chunk and the last four. -/
theorem accOld_skip {A : ℕ → ℕ → ℕ → ℕ → F .f32} {j : ℕ} (hj : j = 0 ∨ 3 < j) : accOld I c A b h j = A b h := by
  unfold accOld
  rcases hj with rfl | hj
  · rfl
  · split
    · omega
    · omega
    · omega
    · rfl

/-- Where no earlier rows are stored, the count moves on by itself. -/
theorem st_skip (he : na % 2 = 1) (hj : na / 16 = 0 ∨ 3 < na / 16)
    (hk : St I c R nq nk nv (na + 1) ⊢ WP c p Q) : St I c R nq nk nv na ⊢ WP c p Q := by
  refine BIBase.Entails.trans ?_ hk
  unfold St
  refine sep_mono_right (sep_mono_right (sep_mono_right (sep_mono_right (Held.mono fun i hi => ?_))))
  have h0 : (i 0).val < 2 := (i 0).isLt
  have h1 : (i 1).val < 4 := (i 1).isLt
  have hi' : (i 2).val / 128 * 2 < lv (na + 1) (i 0).val (i 1).val := hi
  show (i 2).val / 128 * 2 < lv na (i 0).val (i 1).val ∧ AG I c (lv na (i 0).val (i 1).val) (i 0).val (i 1).val (i 2).val (i 3).val
      = AG I c (lv (na + 1) (i 0).val (i 1).val) (i 0).val (i 1).val (i 2).val (i 3).val
  by_cases hbh : (i 0).val = na % 16 / 8 ∧ (i 1).val = na % 8 / 2
  · have hl : lv (na + 1) (i 0).val (i 1).val = 2 * (na / 16) + 2 := by unfold lv; omega
    have hl' : lv na (i 0).val (i 1).val = 2 * (na / 16) + 1 := by unfold lv; omega
    rw [hl] at hi' ⊢
    rw [hl']
    refine ⟨by omega, ?_⟩
    rw [show 2 * (na / 16) + 2 = 2 * (na / 16) + 1 + 1 from rfl, AG_old, accOld_skip hj]
    split <;> rfl
  · have : lv (na + 1) (i 0).val (i 1).val = lv na (i 0).val (i 1).val := by unfold lv; omega
    rw [this] at hi' ⊢
    exact ⟨hi', rfl⟩

/-- The store of the earlier rows with a chunk's contribution added. -/
theorem st_a1 [NeZero m] {inb} {w} (he : na % 2 = 1) (hm' : m = 128 * (na / 16)) (hb : b = na % 16 / 8) (hh : h = na % 8 / 2)
    (hw : accOld I c (AG I c (2 * (na / 16) + 1)) b h (na / 16) = at4 w) {hx hm}
    {k : PUnit → Prog (TpuEff nD τ sig (Elt F) Λ₀ .tc) α} (hk : St I c R nq nk nv (na + 1) ⊢ WP c (k ⟨⟩) Q) :
    St I c R nq nk nv na ⊢ WP c (Prog.lift (.store (Memref.whole cc0_scratch4) (Rect.unit (s := S2x4x1024x128) ![b, h, 0, 0] ![1, 1, m, 128] inb) w Finset.univ hx hm) >>= k) Q := by
  have hl : lv (na + 1) b h = 2 * (na / 16) + 1 + 1 := by unfold lv; omega
  refine St.ofA (held_store _ (fun x _ => ?_) (fun i hi hx => ?_) (St.toA hk))
  · refine (by4_unit _ inb x).trans ?_
    have h0 : (x 0).val = 0 := by have : (x 0).val < 1 := (x 0).isLt; omega
    have h1 : (x 1).val = 0 := by have : (x 1).val < 1 := (x 1).isLt; omega
    have h2 : (x 2).val < m := (x 2).isLt
    have h3 : (x 3).val < 128 := (x 3).isLt
    unfold rd4
    rw [h0, h1]
    show AG I c (lv (na + 1) b h) b h _ _ = _
    rw [hl, AG_old, if_pos (by have h2' := h2.trans_eq hm'; omega), hw]
    exact at4_of _ x (by rw [Nat.zero_add]; exact Nat.mod_eq_of_lt h2) (by omega)
  · have ho := out_unit inb i hx
    have h3 : (i 3).val < 128 := (i 3).isLt
    have h0 : (i 0).val < 2 := (i 0).isLt
    have h1 : (i 1).val < 4 := (i 1).isLt
    have hi' : (i 2).val / 128 * 2 < lv (na + 1) (i 0).val (i 1).val := hi
    show (i 2).val / 128 * 2 < lv na (i 0).val (i 1).val ∧ AG I c (lv na (i 0).val (i 1).val) (i 0).val (i 1).val (i 2).val (i 3).val
      = AG I c (lv (na + 1) (i 0).val (i 1).val) (i 0).val (i 1).val (i 2).val (i 3).val
    simp only [Matrix.cons_val_zero, Matrix.cons_val_one, Matrix.cons_val] at ho
    by_cases hbh : (i 0).val = b ∧ (i 1).val = h
    · obtain ⟨e0, e1⟩ := hbh
      have hl' : lv na b h = 2 * (na / 16) + 1 := by unfold lv; omega
      rw [e0, e1] at hi' ⊢
      rw [hl] at hi' ⊢
      rw [hl']
      refine ⟨by omega, ?_⟩
      rw [AG_old, if_neg (by omega)]
    · have : lv (na + 1) (i 0).val (i 1).val = lv na (i 0).val (i 1).val := by unfold lv; omega
      rw [this] at hi' ⊢
      exact ⟨hi', rfl⟩

end Cert.Rope

end
-- ==== Proof.Rules.lean ====
module

public import proofs.«01_k».proof.Proof.Comm
public import proofs.«01_k».proof.Proof.Mem

/-! One rule for every kind of step of the protocol. -/

@[expose] public section

noncomputable section

namespace Cert.Rope

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {I : Ins F} {K : Names} {c : Dev nD} {α : Type} {Q : α → sProp (MM F)} {X : sProp (MM F)} {n : ℕ}

theorem xR_congr {k k' f : ℕ} (h : k % 8 = k' % 8) : xR k f = xR k' f := by
  unfold xR; congr 1; rw [h]

theorem dvr_val (c : Dev nD) (e : ℕ) : (dvr c e).val = (c.val + e) % 8 := rfl

theorem dvr_dvr (c : Dev nD) (r e : ℕ) : dvr (dvr c r) e = dvr c ((e + r) % 8) := by
  apply Fin.ext
  show ((c.val + r) % 8 + e) % 8 = (c.val + (e + r) % 8) % 8
  omega

theorem dvr_zero (c : Dev nD) : dvr c 0 = c := by
  apply Fin.ext
  show (c.val + 0) % 8 = c.val
  have : c.val < 8 := c.isLt
  omega

theorem mem_shift (r : ℕ) (t : Th) (h : isE t = true) : Mem I (dvr c r) t = Mem I c (t.shift r) := by
  cases t with
  | xe e k f =>
    unfold Mem Th.shift
    dsimp only
    rw [dvr_dvr, xR_congr (k := (dvr c r).val + k) (k' := c.val + (k + r) % 8) (by rw [dvr_val]; omega)]
  | re e s =>
    unfold Mem Th.shift
    dsimp only
    rw [dvr_dvr]
  | _ => exact absurd h Bool.false_ne_true

theorem all_shift (r : ℕ) (l : List Th) (h : l.all isE = true) : All (Mem I (dvr c r)) l = All (Mem I c) (l.map (Th.shift r)) := by
  rw [All_map]
  exact All_congr fun t ht => mem_shift r t (List.all_eq_true.mp h t ht)

theorem res_mem (t : Th) (h : isM t = true) : Res I c t = Mem I c t := by
  cases t <;> first | rfl | exact absurd h Bool.false_ne_true

theorem all_mem (l : List Th) (h : l.all isM = true) : All (Res I c) l = All (Mem I c) l :=
  All_congr fun t ht => res_mem t (List.all_eq_true.mp h t ht)

theorem isM_of_isE {t : Th} (h : isE t = true) : isM t = true := by
  cases t <;> first | rfl | exact absurd h Bool.false_ne_true

theorem isE_shift (r : ℕ) {t : Th} (h : isE t = true) : isE (t.shift r) = true := by
  cases t <;> first | rfl | exact absurd h Bool.false_ne_true

theorem all_shift_res (r : ℕ) (l : List Th) (h : l.all isE = true) : All (Mem I (dvr c r)) l = All (Res I c) (l.map (Th.shift r)) := by
  rw [all_shift r l h, all_mem]
  rw [List.all_map]
  exact List.all_eq_true.mpr fun t ht => isM_of_isE (isE_shift r (List.all_eq_true.mp h t ht))

theorem owes_debt {l : List (ℕ × ℕ)} {W : Waits sig Unit} : (owes (c : Thread nD τ) (due c l) W : sProp (MM F)) ⊢ Debt c l := by
  unfold Debt
  iintro H
  iexists W
  iexact H

theorem okw {i : ℕ} (hop : ops[n]? = some (.wait i)) : 9 ≤ i ∧ i < 52 := by
  have := ok_at hop
  simp only [okOp, Bool.and_eq_true, decide_eq_true_eq] at this
  exact this.1

theorem res_ap {i : ℕ} : Res I c (.ap i) = atPos ER (cell c i) 0 ∅ 0 := rfl
theorem res_cc {i : ℕ} : Res I c (.cc i) = cred (tallyAt (cell c i) () (tot i)) := rfl
theorem res_cr {i : ℕ} : Res I c (.cr i) = cred (tallyAt (cell c i) () (amt i)) := rfl
theorem res_dn {i : ℕ} : Res I c (.dn i) = semVal (cell c i) 0 := rfl
theorem res_tk {r i : ℕ} {b : Bool} : Res I c (.tk r i b) = dutyTok ER (cell (dvr c r) i) 0 b := rfl

theorem All_nil (P : Th → sProp (MM F)) : All P [] = iprop(emp) := rfl
theorem All_cons (P : Th → sProp (MM F)) (a : Th) (l : List Th) : All P (a :: l) = iprop(P a ∗ All P l) := rfl

theorem cred_wait {i : ℕ} (h : i < 52) : iprop(All (Res I c) (pend (.wait i)) ∗ All (Res I c) (need (.wait i)))
    ⊢ iprop(atPos ER (cell c i) 0 ∅ 0 ∗ cred (tallyAt (cell c i) () (tot i))) := by
  unfold pend need
  dsimp only
  by_cases hr : isRcv i = true
  · rw [if_pos hr, if_pos hr]
    rw [All_cons, All_cons, All_nil, res_ap, res_cc]
    iintro ⟨⟨H1, H2, -⟩, -⟩
    isplitl [H1]
    · iexact H1
    · iexact H2
  · rw [if_neg hr, if_neg hr]
    rw [All_cons, All_cons, All_nil, res_ap, res_cr]
    have : tot i = amt i := by
      unfold tot
      rw [if_neg]
      intro h'
      subst h'
      exact hr (by decide)
    rw [this]
    iintro ⟨⟨H1, -⟩, ⟨H2, -⟩⟩
    isplitl [H1]
    · iexact H1
    · iexact H2

/-- A wait for a whole cell. -/
theorem wait_core {i : ℕ} (hop : ops[n]? = some (.wait i)) {w : TpuEff nD τ sig (Elt F) Λ₀ .tc PUnit} {s : SemLoc sig} (hs : s = sm i)
    (hw : ∀ P : PUnit → sProp (MM F), wpE (defs₀ (F := F)) 𝒱₀ (c : Thread nD τ) none Set.univ w P = waitSpec (c : Thread nD τ) Set.univ s (tot i) P)
    {k : PUnit → Prog (TpuEff nD τ sig (Elt F) Λ₀ .tc) α} (hk : iprop(X ∗ Cm I K c (n + 1)) ⊢ WP c (k ⟨⟩) Q) :
    iprop(X ∗ Cm I K c n) ⊢ WP c (.op w k) Q := by
  subst hs
  obtain ⟨h9, h52⟩ := okw hop
  iintro ⟨HX, HC⟩
  ihave H := (Cm_open hop) $$ HC
  icases H with ⟨#HR, HD, Hp, Hn, Hkeep⟩
  ihave Hc := (cred_wait (I := I) (c := c) h52) $$ [Hp Hn]
  · isplitl [Hp]
    · iexact Hp
    · iexact Hn
  icases Hc with ⟨Hat, Hcr⟩
  rw [show owe (.wait i) = [] from rfl, List.nil_append]
  unfold Debt
  icases HD with ⟨%W, HO⟩
  iapply (Rounds.wp_wait_rest_token 𝒱₀ ER (Rd I) (c : Thread nD τ) none (κ := K (c, ce i)) (sm := sm i) (k' := tot i)
      hw (Set.mem_univ _) () (O := due c ((ops.drop (n + 1)).flatMap owe)) (W := W) (R := 0) (m := 0) (T := ∅)
      (by rw [Nat.zero_add]; exact (expect_at I h9 h52).symm)) $$ [Hcr HO Hat]
  · isplitr
    · iapply (inv_at c h9 h52)
      iexact HR
    isplitl [Hcr]
    · iexact Hcr
    isplitl [HO]
    · iexact HO
    isplitr
    · iapply (mayWait (F := F) c (sm i) _ (fun p hp => by rw [ix_sm h52]; exact lev_wait hop p hp))
      iapply (levs_at (I := I) (K := K))
      iexact HR
    · iexact Hat
  iintro ⟨HO, Hat, -, Hpay⟩
  ihave Hpay := (Entails.of_eq (rest_at I (c := c) h9 h52)) $$ Hpay
  imod (Rounds.cell_close ER (Rd I) (Set.mem_univ (K (c, ce i))) (fun h => h) (R := 0 + 1) (duties_later I (cell c i))) $$ [Hat] with Hz
  · isplitr
    · iapply (inv_at c h9 h52)
      iexact HR
    · iexact Hat
  iapply hk
  isplitl [HX]
  · iexact HX
  iapply (Cm_close hop)
  isplitr
  · iexact HR
  isplitl [HO]
  · iapply owes_debt
    iexact HO
  isplitr [Hkeep]
  · rw [show gain (.wait i) = .dn i :: (if i = 51 then payL 51 false ++ payL 51 true else payL i false) from rfl, All_cons, res_dn]
    isplitl [Hz]
    · iexact Hz
    rw [all_mem]
    · iexact Hpay
    · by_cases h' : i = 51
      · rw [if_pos h', List.all_append, payM (by decide), payM (by decide)]; rfl
      · rw [if_neg h', payM h52]
  · iexact Hkeep

theorem r_wait {i : ℕ} (hop : ops[n]? = some (.wait i)) {q : DmaSem sig} (hq : SemLoc.dma q = sm i) {sp sp' : Space} {s s' : Shape} {e e' : EltTy}
    {src : Memref sig .tc sp' s' e'} {dst : Memref sig .tc sp s e} {hsrc : src.view.WordExact} {hdst : dst.view.WordExact}
    (ha : dst.view.dmaCredit = tot i) {k : PUnit → Prog (TpuEff nD τ sig (Elt F) Λ₀ .tc) α} (hk : iprop(X ∗ Cm I K c (n + 1)) ⊢ WP c (k ⟨⟩) Q) :
    iprop(X ∗ Cm I K c n) ⊢ WP c (Prog.lift (.waitDma2 q src dst hsrc hdst) >>= k) Q := by
  rw [wp_lift_bind]
  refine wait_core hop hq (fun P => ?_) hk
  rw [← ha]
  rfl

theorem r_bar (hop : ops[n]? = some (.wait 51))
    {k : PUnit → Prog (TpuEff nD τ sig (Elt F) Λ₀ .tc) α} (hk : iprop(X ∗ Cm I K c (n + 1)) ⊢ WP c (k ⟨⟩) Q) :
    iprop(X ∗ Cm I K c n) ⊢ WP c (semWaitWord barS 2#32 >>= k) Q :=
  show _ ⊢ WP c (.op (.semWait barS (2#32 : BitVec 32).toInt) k) Q from
  wait_core hop (s := .reg barS) rfl (fun P => rfl) hk

/-- A signal to a neighbour. -/
theorem r_sig {b : Bool} (hop : ops[n]? = some (.sig b)) {e : Dev nD} (he : e = dvr c (if b then 7 else 1))
    {k : PUnit → Prog (TpuEff nD τ sig (Elt F) Λ₀ .tc) α} (hk : iprop(X ∗ Cm I K c (n + 1)) ⊢ WP c (k ⟨⟩) Q) :
    iprop(X ∗ Cm I K c n) ⊢ WP c (semSignalWord e barS 1#32 >>= k) Q := by
  show _ ⊢ WP c (.op (.semSignal (e, .tc) barS (1#32 : BitVec 32).toInt) k) Q
  subst he
  have hopen := Cm_open (I := I) (K := K) (c := c) hop
  rw [show owe (.sig b) = [(if b then 7 else 1, 51)] from rfl, show pend (.sig b) = [.tk (if b then 7 else 1) 51 b] from rfl,
    show need (.sig b) = (payL 51 b).map (Th.shift (if b then 7 else 1)) from rfl, All_cons, All_nil, res_tk, List.cons_append, List.nil_append] at hopen
  unfold Debt at hopen
  iintro ⟨HX, HC⟩
  ihave H := hopen $$ HC
  icases H with ⟨#HR, HD, Hp, Hn, Hkeep⟩
  icases HD with ⟨%W, HO⟩
  icases Hp with ⟨Ht, -⟩
  iapply (Rounds.wp_signal 𝒱₀ ER (Rd I) (c : Thread nD τ) none (dst := (dvr c (if b then 7 else 1) : Thread nD τ)) (sem := barS) (r := 0)
      (κ := K (dvr c (if b then 7 else 1), ce 51)) (d := b) (k' := 1)
      (by rw [show ((dvr c (if b then 7 else 1) : Thread nD τ), SemLoc.reg barS) = cell (dvr c (if b then 7 else 1)) 51 from rfl,
            duties_at I (by decide) (by decide), if_pos rfl]; exact Finset.mem_univ _)
      (by rw [show ((dvr c (if b then 7 else 1) : Thread nD τ), SemLoc.reg barS) = cell (dvr c (if b then 7 else 1)) 51 from rfl,
            amount_at I (by decide)]; rfl) () (due c ((ops.drop (n + 1)).flatMap owe)) rfl (W := W)) $$ [HO Ht Hn]
  · isplitr
    · iapply (inv_at (dvr c (if b then 7 else 1)) (i := 51) (by decide) (by decide))
      iexact HR
    isplitl [HO]
    · iexact HO
    isplitl [Ht]
    · iexact Ht
    isplitl [Hn]
    · rw [show ((dvr c (if b then 7 else 1) : Thread nD τ), SemLoc.reg barS) = cell (dvr c (if b then 7 else 1)) 51 from rfl,
        payload_at I (by decide), all_shift_res _ _ (pay51 b)]
      iexact Hn
    · iapply (reached_at (dvr c (if b then 7 else 1)) (i := 51) (by decide) (by decide))
      iexact HR
  iintro HO
  iapply hk
  isplitl [HX]
  · iexact HX
  iapply (Cm_close hop)
  isplitr
  · iexact HR
  isplitl [HO]
  · iapply owes_debt
    iexact HO
  isplitr [Hkeep]
  · rw [show gain (.sig b) = [] from rfl, All_nil]
    iempintro
  · iexact Hkeep

end Cert.Rope

end
-- ==== Proof.Moves.lean ====
module

public import proofs.«01_k».proof.Proof.Rules

/-! The transfers, and the loads and stores of the buffers that take part in them. -/

@[expose] public section

noncomputable section

namespace Cert.Rope

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {I : Ins F} {K : Names} {c : Dev nD} {α : Type} {Q : α → sProp (MM F)} {X : sProp (MM F)} {n : ℕ}

section Raw

variable {cs : CoreSpace} {i₀ : Fin (sig.nNear .tc cs)} {hκ : sig.names .tc cs i₀ = true} {R : sProp (MM F)} {q : PosShare TreeShare}

/-- A load of a part of a buffer. -/
theorem load_on {r : LoadRect (rf i₀ hκ).ty.shape} {S : Finset (Idx ((c : Thread nD τ).loc (rf i₀ hκ)))} (hS : ∀ i ∈ r.set, i ∈ S)
    {hl} {k : (r.shape.Idx → Elt F (rf i₀ hκ).ty.elt) → Prog (TpuEff nD τ sig (Elt F) Λ₀ .tc) α}
    {f : Buf (Elt F) ((c : Thread nD τ).loc (rf i₀ hκ))} {v : r.shape.Idx → Elt F (rf i₀ hκ).ty.elt} (hv : ∀ x, f (r.idx x) = v x)
    (hk : iprop(R ∗ (((c : Thread nD τ).loc (rf i₀ hκ)) ↦[S]{q} f)) ⊢ WP c (k v) Q) :
    iprop(R ∗ (((c : Thread nD τ).loc (rf i₀ hκ)) ↦[S]{q} f)) ⊢ WP c (Prog.lift (.load (Memref.whole (rf i₀ hκ)) r hl) >>= k) Q := by
  rw [wp_lift_bind]
  have hv' : (Memref.whole (rf i₀ hκ) : Memref sig .tc _ _ _).view.readAt (Elt F) r f = v := funext fun x => hv x
  have hS' : (Memref.whole (rf i₀ hκ) : Memref sig .tc _ _ _).view.setOn r.set ⊆ S := by
    intro i hi
    obtain ⟨x, hx, e⟩ := Finset.mem_map.mp hi
    have e' : x = i := e
    rw [← e']
    exact hS x hx
  iintro ⟨HR, H⟩
  iapply (wp_load (m := Memref.whole (rf i₀ hκ)) (r := r) (hl := hl) (k := k) (defs := defs₀ (F := F)) 𝒱₀ (c : Thread nD τ) none Set.univ (S := S) (f := f) (q := q) hS') $$ H
  iintro H
  rw [hv']
  iapply hk
  isplitl [HR]
  · iexact HR
  · iexact H

/-- A store to a part of a buffer. -/
theorem store_on {r : Rect (rf i₀ hκ).ty.shape} {S : Finset (Idx ((c : Thread nD τ).loc (rf i₀ hκ)))} (hS : ∀ x, r.emb x ∈ S)
    {w : r.shape.Idx → Elt F (rf i₀ hκ).ty.elt} {hx hm}
    {k : PUnit → Prog (TpuEff nD τ sig (Elt F) Λ₀ .tc) α} {f : Buf (Elt F) ((c : Thread nD τ).loc (rf i₀ hκ))}
    (hk : ∀ g : Buf (Elt F) ((c : Thread nD τ).loc (rf i₀ hκ)), (∀ x, g (r.emb x) = w x) → (∀ i, (∀ x, r.emb x ≠ i) → g i = f i) →
      iprop(R ∗ (((c : Thread nD τ).loc (rf i₀ hκ)) ↦[S]{fullShare} g)) ⊢ WP c (k ⟨⟩) Q) :
    iprop(R ∗ (((c : Thread nD τ).loc (rf i₀ hκ)) ↦[S]{fullShare} f))
      ⊢ WP c (Prog.lift (.store (Memref.whole (rf i₀ hκ)) r w Finset.univ hx hm) >>= k) Q := by
  rw [wp_lift_bind]
  have h1 : ∀ x, ((Memref.whole (rf i₀ hκ)).access r : View sig .tc _ _ _).write (Elt F) f w Finset.univ (r.emb x) = w x :=
    fun x => View.write_emb_of_mem (v := ((Memref.whole (rf i₀ hκ)).access r : View sig .tc _ _ _)) (Val := Elt F) f w (Finset.mem_univ x)
  have h2 : ∀ i, (∀ x, r.emb x ≠ i) → ((Memref.whole (rf i₀ hκ)).access r : View sig .tc _ _ _).write (Elt F) f w Finset.univ i = f i := by
    intro i hi
    refine View.write_of_not_mem (v := ((Memref.whole (rf i₀ hκ)).access r : View sig .tc _ _ _)) (Val := Elt F) f w _ ?_
    intro hmem
    obtain ⟨x, -, hx'⟩ := Finset.mem_map.mp hmem
    exact hi x hx'
  have hS' : ((Memref.whole (rf i₀ hκ)).access r : View sig .tc _ _ _).setOn Finset.univ ⊆ S := by
    intro i hi
    obtain ⟨x, hx, e⟩ := Finset.mem_map.mp hi
    have e' : r.emb x = i := e
    rw [← e']
    exact hS x
  iintro ⟨HR, H⟩
  iapply (wp_store (m := Memref.whole (rf i₀ hκ)) (r := r) (w := w) (Mk := Finset.univ) (hx := hx) (hm := hm) (k := k) (defs := defs₀ (F := F)) 𝒱₀ (c : Thread nD τ) none Set.univ (S := S) (f := f) hS') $$ H
  iintro H
  iapply (hk _ h1 h2)
  isplitl [HR]
  · iexact HR
  · iexact H

end Raw

theorem ex_elim {β : Type} {A B : sProp (MM F)} {P : β → sProp (MM F)} (h : ∀ g, iprop(A ∗ P g) ⊢ B) : iprop(A ∗ (∃ g, P g)) ⊢ B := by
  iintro ⟨HA, ⟨%g, H⟩⟩
  iapply (h g)
  isplitl [HA]
  · iexact HA
  · iexact H

theorem pure_elim' {φ : Prop} {A B P : sProp (MM F)} (h : φ → iprop(A ∗ P) ⊢ B) : iprop(A ∗ (⌜φ⌝ ∗ P)) ⊢ B := by
  iintro ⟨HA, ⟨%g, H⟩⟩
  iapply (h g)
  isplitl [HA]
  · iexact HA
  · iexact H

/-! ### Loads of what is held -/

def CmBut (I : Ins F) (K : Names) (c : Dev nD) (n : ℕ) (t : Th) : sProp (MM F) :=
  iprop(records I K ∗ Debt c ((ops.drop n).flatMap owe) ∗ All (Res I c) ((ops.drop n).flatMap pend) ∗ All (Res I c) ((D n).erase t))

theorem Cm_take {t : Th} (h : t ∈ D n) : Cm I K c n = iprop(CmBut I K c n t ∗ Res I c t) := by
  unfold Cm CmBut
  rw [All_perm (Res I c) (List.perm_cons_erase h), All_cons, sepC (Res I c t), sepA, sepA, sepA]

theorem res_xs {k f sh : ℕ} : Res I c (.xs k f sh) = iprop(∃ g : Buf (Elt F) (loc0 c), ⌜g = XGb I⌝ ∗ (loc0 c ↦[(xR (c.val + k) f).set]{shr sh} g)) := rfl
theorem res_xe {e k f : ℕ} : Res I c (.xe e k f) = iprop(∃ g : Buf (Elt F) (loc0 (dvr c e)), (loc0 (dvr c e) ↦[(xR (c.val + k) f).set]{fullShare} g)) := rfl
theorem res_re {e s : ℕ} : Res I c (.re e s) = iprop(∃ g : Buf (Elt F) (loc6 (dvr c e)), (loc6 (dvr c e) ↦[(rR s).set]{fullShare} g)) := rfl
theorem res_ri {s : ℕ} : Res I c (.ri s) = iprop(∃ g : Buf (Elt F) (loc6 c), ⌜g = RIb I c⌝ ∗ (loc6 c ↦[(rR s).set]{fullShare} g)) := rfl
theorem res_sg {t b : ℕ} : Res I c (.sg t b) = iprop(∃ g : Buf (Elt F) (loc5 c), ⌜∀ i ∈ (rR t).set, (i 1).val < b → g i = RGb I c i⌝ ∗ (loc5 c ↦[(rR t).set]{fullShare} g)) := rfl
theorem res_xown : Res I c .xown = iprop(∃ g : Buf (Elt F) (loc0 c), (loc0 c ↦[(oR c.val).set]{fullShare} g)) := rfl

theorem mem_emb {s : Shape} (r : Rect s) (x : r.shape.Idx) : r.emb x ∈ r.set := by
  exact (LoadRect.mem_set _).mpr fun a => ⟨x a, (x a).isLt, rfl⟩

theorem emb_of_mem {s : Shape} (r : Rect s) {i : s.Idx} (h : i ∈ r.set) : ∃ x, r.emb x = i := by
  choose j hj e using (LoadRect.mem_set _).mp h
  exact ⟨fun a => ⟨j a, hj a⟩, funext fun a => Fin.ext (e a).symm⟩

theorem sub_slot {s b : ℕ} (hs : s < 7) (inb : ∀ a, (![s, b, 0, 0] : Fin 4 → ℕ) a + S1x1x128x512.size a ≤ S7x2x128x512.size a) :
    ∀ i ∈ (Rect.unit (s := S7x2x128x512) ![s, b, 0, 0] S1x1x128x512.size inb).set, i ∈ (rR s).set := by
  intro i
  rw [Rect.mem_set_unit, Rect.mem_set_unit]
  simp only [Fin.forall_fin_succ, Fin.forall_fin_zero]
  have : (i 1).val < 2 := (i 1).isLt
  simp
  omega

/-- A load of a gathered fragment. -/
theorem r_x {k f sh : ℕ} (hm : (.xs k f sh : Th) ∈ D n) {off} (ho : off = ![(c.val + k) % 8, f % 2, 0, 0]) {inb} {hl}
    {kk : ((Rect.unit (s := S8x2x128x512) off S1x1x128x512.size inb).toLoadRect.shape.Idx → Elt F cc0_scratch0.ty.elt) → Prog (TpuEff nD τ sig (Elt F) Λ₀ .tc) α}
    (hk : iprop(X ∗ Cm I K c n) ⊢ WP c (kk (rd4 ![1, 1, 128, 512] (XG I) ((c.val + k) % 8) (f % 2) 0 0)) Q) :
    iprop(X ∗ Cm I K c n) ⊢ WP c (Prog.lift (.load (Memref.whole cc0_scratch0) (Rect.unit (s := S8x2x128x512) off S1x1x128x512.size inb).toLoadRect hl) >>= kk) Q := by
  subst ho
  rw [Cm_take hm, ← sepA, res_xs] at hk ⊢
  refine ex_elim fun g => pure_elim' fun hg => ?_
  subst hg
  refine load_on (fun i hi => hi) (fun x => by4_unit (XG I) inb x) ?_
  · refine BIBase.Entails.trans ?_ hk
    iintro ⟨HX, H⟩
    isplitl [HX]
    · iexact HX
    iexists _
    isplitr
    · ipureintro; rfl
    · iexact H

/-- A load of a received part. -/
theorem r_ri {s b : ℕ} (hm : (.ri s : Th) ∈ D n) (hs : s < 7) {inb} {hl}
    {kk : ((Rect.unit (s := S7x2x128x512) ![s, b, 0, 0] S1x1x128x512.size inb).toLoadRect.shape.Idx → Elt F cc0_scratch6.ty.elt) → Prog (TpuEff nD τ sig (Elt F) Λ₀ .tc) α}
    (hk : iprop(X ∗ Cm I K c n) ⊢ WP c (kk (rd4 ![1, 1, 128, 512] (RI I c) s b 0 0)) Q) :
    iprop(X ∗ Cm I K c n) ⊢ WP c (Prog.lift (.load (Memref.whole cc0_scratch6) (Rect.unit (s := S7x2x128x512) ![s, b, 0, 0] S1x1x128x512.size inb).toLoadRect hl) >>= kk) Q := by
  rw [Cm_take hm, ← sepA, res_ri] at hk ⊢
  refine ex_elim fun g => pure_elim' fun hg => ?_
  subst hg
  refine load_on (by exact fun i hi => sub_slot hs inb i hi) (fun x => by4_unit (RI I c) inb x) ?_
  · refine BIBase.Entails.trans ?_ hk
    iintro ⟨HX, H⟩
    isplitl [HX]
    · iexact HX
    iexists _
    isplitr
    · ipureintro; rfl
    · iexact H

/-! ### Steps without communication -/

theorem Cm_free {op : Op} (hop : ops[n]? = some op) (hp : pend op = []) (ho : owe op = []) :
    Cm I K c n ⊢ iprop(All (Res I c) (need op) ∗ (All (Res I c) (gain op) -∗ Cm I K c (n + 1))) := by
  have hopen := Cm_open (I := I) (K := K) (c := c) hop
  rw [ho, hp, List.nil_append] at hopen
  refine hopen.trans ?_
  iintro ⟨HR, HD, -, Hn, Hk⟩
  isplitl [Hn]
  · iexact Hn
  iintro Hg
  iapply (Cm_close hop)
  isplitl [HR]
  · iexact HR
  isplitl [HD]
  · iexact HD
  isplitl [Hg]
  · iexact Hg
  · iexact Hk

theorem All_one (P : Th → sProp (MM F)) (a : Th) : All P [a] = P a := by
  rw [All_cons, All_nil]
  exact BI.equiv_iff.mp Idealize.SL.BI.sep_emp

theorem sh_full {ℓ : Loc nD τ sig} {S} {g : Buf (Elt F) ℓ} :
    (ℓ ↦[S]{shr 0} g : sProp (MM F)) ⊢ iprop((ℓ ↦[S]{shr 1} g) ∗ (ℓ ↦[S]{shr 4} g)) :=
  (pointsTo_share (PosShare.mem_left_op_right fullShare)).1

theorem sh_right {ℓ : Loc nD τ sig} {S} {g : Buf (Elt F) ℓ} :
    (ℓ ↦[S]{shr 4} g : sProp (MM F)) ⊢ iprop((ℓ ↦[S]{shr 2} g) ∗ (ℓ ↦[S]{shr 3} g)) :=
  (pointsTo_share (PosShare.mem_left_op_right _)).1

theorem xs_intro {k f sh : ℕ} : (loc0 c ↦[(xR (c.val + k) f).set]{shr sh} (XGb I) : sProp (MM F)) ⊢ Res I c (.xs k f sh) := by
  rw [res_xs]
  iintro H
  iexists _
  isplitr
  · ipureintro; rfl
  · iexact H

/-- A fragment is held in two shares from here on. -/
theorem r_split {k f : ℕ} (hop : ops[n]? = some (.split k f)) {p : Prog (TpuEff nD τ sig (Elt F) Λ₀ .tc) α}
    (hk : iprop(X ∗ Cm I K c (n + 1)) ⊢ WP c p Q) : iprop(X ∗ Cm I K c n) ⊢ WP c p Q := by
  refine BIBase.Entails.trans ?_ hk
  have hopen := Cm_free (I := I) (K := K) (c := c) hop rfl rfl
  rw [show need (.split k f) = [.xs k f 0] from rfl, show gain (.split k f) = [.xs k f 1, .xs k f 4] from rfl, All_one, All_cons, All_one, res_xs] at hopen
  iintro ⟨HX, HC⟩
  isplitl [HX]
  · iexact HX
  ihave H := hopen $$ HC
  icases H with ⟨⟨%g, %hg, H⟩, Hk⟩
  subst hg
  ihave H := sh_full $$ H
  icases H with ⟨H1, H2⟩
  iapply Hk
  isplitl [H1]
  · iapply xs_intro; iexact H1
  · iapply xs_intro; iexact H2

/-- The first look at the slots of the device's own chunk. -/
theorem r_peek (hm : .xown ∈ D n) {off} (ho : off = ![c.val % 8, 0, 0, 0]) {inb} {hl}
    {kk : ((Rect.unit (s := S8x2x128x512) off S1x2x128x512.size inb).toLoadRect.shape.Idx → Elt F cc0_scratch0.ty.elt) → Prog (TpuEff nD τ sig (Elt F) Λ₀ .tc) α}
    (hk : ∀ v, iprop(X ∗ Cm I K c n) ⊢ WP c (kk v) Q) :
    iprop(X ∗ Cm I K c n) ⊢ WP c (Prog.lift (.load (Memref.whole cc0_scratch0) (Rect.unit (s := S8x2x128x512) off S1x2x128x512.size inb).toLoadRect hl) >>= kk) Q := by
  subst ho
  rw [Cm_take hm, ← sepA, res_xown] at hk ⊢
  refine ex_elim fun g => ?_
  refine load_on (fun i hi => hi) (fun x => rfl) ?_
  · refine BIBase.Entails.trans ?_ (hk _)
    iintro ⟨HX, H⟩
    isplitl [HX]
    · iexact HX
    iexists _
    iexact H

theorem oR_split (k : ℕ) : (oR k).set = (xR k 0).set ∪ (xR k 1).set := by
  ext i
  rw [Finset.mem_union, Rect.mem_set_unit, Rect.mem_set_unit, Rect.mem_set_unit]
  simp only [Fin.forall_fin_succ, Fin.forall_fin_zero]
  have : (i 1).val < 2 := (i 1).isLt
  simp
  omega

theorem oR_disj (k : ℕ) : Disjoint (xR k 0).set (xR k 1).set := by
  refine Rect.unit_disjoint (a := (1 : Fin 4)) ?_
  simp

/-- The device's own chunk goes into its slots. -/
theorem r_own (hop : ops[n]? = some .own) {off} (ho : off = ![c.val % 8, 0, 0, 0]) {inb} {w} {hx hm}
    (hw : ∀ x, w x = XGb I ((oR c.val).emb x))
    {k : PUnit → Prog (TpuEff nD τ sig (Elt F) Λ₀ .tc) α} (hk : iprop(X ∗ Cm I K c (n + 1)) ⊢ WP c (k ⟨⟩) Q) :
    iprop(X ∗ Cm I K c n) ⊢ WP c (Prog.lift (.store (Memref.whole cc0_scratch0) (Rect.unit (s := S8x2x128x512) off S1x2x128x512.size inb) w Finset.univ hx hm) >>= k) Q := by
  subst ho
  have hopen := Cm_free (I := I) (K := K) (c := c) hop rfl rfl
  rw [show need .own = [.xown] from rfl, show gain .own = [.xs 0 0 1, .xs 0 0 2, .xs 0 0 3, .xs 0 1 1, .xs 0 1 2, .xs 0 1 3] from rfl, All_one, res_xown] at hopen
  have hopen' : iprop(X ∗ Cm I K c n) ⊢ iprop((X ∗ (All (Res I c) [.xs 0 0 1, .xs 0 0 2, .xs 0 0 3, .xs 0 1 1, .xs 0 1 2, .xs 0 1 3] -∗ Cm I K c (n + 1))) ∗
      (∃ g : Buf (Elt F) (loc0 c), (loc0 c ↦[(oR c.val).set]{fullShare} g))) := by
    iintro ⟨HX, HC⟩
    ihave H := hopen $$ HC
    icases H with ⟨H, Hk⟩
    isplitr [H]
    · isplitl [HX]
      · iexact HX
      · iexact Hk
    · iexact H
  refine hopen'.trans (ex_elim fun g => ?_)
  refine store_on (fun x => mem_emb _ x) ?_
  · intro g' h1 _
    refine BIBase.Entails.trans ?_ hk
    have hg : ∀ i ∈ (oR c.val).set, g' i = XGb I i := by
      intro i hi
      obtain ⟨x, rfl⟩ := emb_of_mem _ hi
      rw [← hw]; exact h1 x
    have hpt : (loc0 c ↦[(oR c.val).set]{fullShare} g' : sProp (MM F)) = (loc0 c ↦[(xR (c.val + 0) 0).set ∪ (xR (c.val + 0) 1).set]{shr 0} (XGb I)) := by
      rw [Nat.add_zero, ← oR_split]; exact pointsTo_congr hg
    iintro ⟨⟨HX, Hk⟩, H⟩
    isplitl [HX]
    · iexact HX
    ihave H := (BIBase.Entails.trans (Entails.of_eq hpt) (pointsTo_union (oR_disj (c.val + 0))).1) $$ H
    icases H with ⟨HA, HB⟩
    ihave HA := sh_full $$ HA
    icases HA with ⟨HA1, HA⟩
    ihave HA := sh_right $$ HA
    icases HA with ⟨HA2, HA3⟩
    ihave HB := sh_full $$ HB
    icases HB with ⟨HB1, HB⟩
    ihave HB := sh_right $$ HB
    icases HB with ⟨HB2, HB3⟩
    iapply Hk
    rw [All_cons, All_cons, All_cons, All_cons, All_cons, All_one]
    isplitl [HA1]
    · iapply xs_intro; iexact HA1
    isplitl [HA2]
    · iapply xs_intro; iexact HA2
    isplitl [HA3]
    · iapply xs_intro; iexact HA3
    isplitl [HB1]
    · iapply xs_intro; iexact HB1
    isplitl [HB2]
    · iapply xs_intro; iexact HB2
    · iapply xs_intro; iexact HB3

end Cert.Rope

end
-- ==== Proof.Send.lean ====
module

public import proofs.«01_k».proof.Proof.Moves

/-! The transfers. -/

@[expose] public section

noncomputable section

namespace Cert.Rope

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {I : Ins F} {K : Names} {c : Dev nD} {α : Type} {Q : α → sProp (MM F)} {X : sProp (MM F)} {n : ℕ}

/-- What a view reads, written through it again. -/
theorem write_same {sp : Space} {s : Shape} {e : EltTy} (v : View sig .tc sp s e) (fd G : v.ty.Contents (Elt F)) :
    ∀ i ∈ v.set, v.write (Elt F) fd (v.read (Elt F) G) Finset.univ i = G i := by
  intro i hi
  obtain ⟨x, -, rfl⟩ := Finset.mem_map.mp hi
  rw [View.write_emb_of_mem _ _ (Finset.mem_univ x)]
  unfold View.read
  simp

theorem xM_set (k f : ℕ) : (xM k f).view.set = (xR k f).set := by
  simp [xM, Memref.squeeze, Memref.slice]

theorem amount_sm {i : ℕ} (h : i < 51) {sp : Space} {s : Shape} {e : EltTy} (v : View sig .tc sp s e) : v.amount (sm i) = v.dmaCredit := by
  unfold sm
  rw [dif_pos h]

/-- A transfer to the device `r` further on. -/
theorem send_core {op : Op} (hop : ops[n]? = some op) {r iS iR N : ℕ} (how : owe op = [(r, iR)]) (hpe : pend op = [.tk 0 iS false, .tk r iR false])
    (hga : gain op = [.cr iS]) (hS9 : 9 ≤ iS) (hS51 : iS < 51) (hR9 : 9 ≤ iR) (hR51 : iR < 51) (haS : amt iS = N) (haR : amt iR = N)
    {sp sp' : Space} {s : Shape} {e : EltTy} {src : Memref sig .tc sp s e} {dst : Memref sig .tc sp' s e} {q : PosShare TreeShare} {φ : Buf (Elt F) (src.view.loc (c : Thread nD τ)) → Prop} {FF : sProp (MM F)}
    (hN : dst.view.dmaCredit = N)
    (hn : All (Res I c) (need op) ⊢ iprop(∃ (fs : Buf (Elt F) (src.view.loc (c : Thread nD τ))) (fd : Buf (Elt F) (dst.view.loc (dvr c r : Thread nD τ))),
      ⌜φ fs⌝ ∗ (src.view.loc (c : Thread nD τ) ↦[src.view.set]{q} fs) ∗ (dst.view.loc (dvr c r : Thread nD τ) ↦[dst.view.set]{fullShare} fd) ∗ FF))
    (h1 : ∀ fs, φ fs → (src.view.loc (c : Thread nD τ) ↦[src.view.set]{q} fs) ⊢ All (Mem I c) (payL iS false))
    (h2 : ∀ fs fd, φ fs → iprop((dst.view.loc (dvr c r : Thread nD τ) ↦[dst.view.set]{fullShare} (dst.view.write (Elt F) fd (src.view.read (Elt F) fs) Finset.univ)) ∗ FF)
      ⊢ All (Mem I (dvr c r)) (payL iR false))
    {sS sR : SemLoc sig} (hS : sS = sm iS) (hR : sR = sm iR) {hsc hsrc hdst hsem}
    {kk : PUnit → Prog (TpuEff nD τ sig (Elt F) Λ₀ .tc) α} (hk : iprop(X ∗ Cm I K c (n + 1)) ⊢ WP c (kk ⟨⟩) Q) :
    iprop(X ∗ Cm I K c n) ⊢ WP c (.op (.enqueueDma src (.remote (dvr c r : Thread nD τ) dst sS hsc) sR hsrc hdst hsem) kk) Q := by
  subst hS
  subst hR
  have hS52 : iS < 52 := by omega
  have hR52 : iR < 52 := by omega
  have hopen := Cm_open (I := I) (K := K) (c := c) hop
  rw [how, hpe, All_cons, All_one, res_tk, res_tk, dvr_zero] at hopen
  unfold Debt at hopen
  iintro ⟨HX, HC⟩
  ihave H := hopen $$ HC
  icases H with ⟨#HR, HD, ⟨Ht1, Ht2⟩, Hn, Hkeep⟩
  icases HD with ⟨%W, HO⟩
  ihave Hn := hn $$ Hn
  icases Hn with ⟨%fs, %fd, %hf, Hx, Hd, HF⟩
  iapply (Rounds.wp_send_pointsTo_with 𝒱₀ ER (Rd I) (c : Thread nD τ) none (c' := (dvr c r : Thread nD τ)) (src := src) (dst := dst)
      (κ₁ := K (c, ce iS)) (κ₂ := K (dvr c r, ce iR)) (r₁ := 0) (r₂ := 0) (d₁ := false) (d₂ := false)
      (sS := sm iS) (sem := sm iR) (q := q) (fs := fs) (fd := fd) (F := FF)
      (by rw [show ((c : Thread nD τ), sm iS) = cell c iS from rfl, duties_at I hS9 hS52, if_neg (by omega)]; exact Finset.mem_singleton_self _)
      (by rw [show ((dvr c r : Thread nD τ), sm iR) = cell (dvr c r) iR from rfl, duties_at I hR9 hR52, if_neg (by omega)]; exact Finset.mem_singleton_self _)
      () () N ((amount_sm hR51 _).trans hN) ((amount_at I hS52 _).trans haS) ((amount_at I hR52 _).trans haR)
      (due c ((ops.drop (n + 1)).flatMap owe)) (by rw [← haR]) (W := W)
      (by rw [show ((c : Thread nD τ), sm iS) = cell c iS from rfl, payload_at I hS52]; exact h1 fs hf)
      (by rw [show ((dvr c r : Thread nD τ), sm iR) = cell (dvr c r) iR from rfl, payload_at I hR52]; exact h2 fs fd hf)) $$ [HO Ht1 Ht2 Hx Hd HF]
  · isplitr
    · iapply (inv_at c hS9 hS52); iexact HR
    isplitr
    · iapply (inv_at (dvr c r) hR9 hR52); iexact HR
    isplitl [Hx]
    · iexact Hx
    isplitl [Hd HF]
    · isplitl [Hd]
      · iexact Hd
      · iexact HF
    isplitl [HO]
    · iexact HO
    isplitl [Ht1]
    · iexact Ht1
    isplitr
    · iapply (reached_at c hS9 hS52); iexact HR
    isplitl [Ht2]
    · iexact Ht2
    · iapply (reached_at (dvr c r) hR9 hR52); iexact HR
  iintro ⟨Hcr, HO⟩
  iapply hk
  isplitl [HX]
  · iexact HX
  iapply (Cm_close hop)
  isplitr
  · iexact HR
  isplitl [HO]
  · iapply owes_debt; iexact HO
  isplitr [Hkeep]
  · rw [hga, All_one, res_cr, haS]
    iexact Hcr
  · iexact Hkeep

/-- A fragment goes to the neighbour `r` further on. -/
theorem r_send {r iS iR k f sh : ℕ} (hop : ops[n]? = some (.send r iS iR k f sh)) {e : Dev nD} (he : e = dvr c r)
    {qS qR : DmaSem sig} (hS : SemLoc.dma qS = sm iS) (hR : SemLoc.dma qR = sm iR) {off : Fin 4 → ℕ} (ho : off = ![(c.val + k) % 8, f % 2, 0, 0])
    {i1 i2 h1 h2 hsc hsrc hdst hsem}
    {kk : PUnit → Prog (TpuEff nD τ sig (Elt F) Λ₀ .tc) α} (hk : iprop(X ∗ Cm I K c (n + 1)) ⊢ WP c (kk ⟨⟩) Q) :
    iprop(X ∗ Cm I K c n) ⊢ WP c (Prog.lift (.enqueueDma
      (((Memref.whole cc0_scratch0).slice (Rect.unit (s := S8x2x128x512) off S1x1x128x512.size i1) h1).squeeze S128x512 squeezes_S1x1x128x512_S128x512)
      (.remote (Dev.tc e) (((Memref.whole cc0_scratch0).slice (Rect.unit (s := S8x2x128x512) off S1x1x128x512.size i2) h2).squeeze S128x512 squeezes_S1x1x128x512_S128x512)
        (.dma qS) hsc) (.dma qR) hsrc hdst hsem) >>= kk) Q := by
  subst he
  subst ho
  rw [wp_lift_bind]
  have hok := ok_at hop
  simp only [okOp, Bool.and_eq_true, decide_eq_true_eq] at hok
  obtain ⟨⟨⟨⟨⟨⟨⟨⟨⟨hS9, hS37⟩, hR9⟩, hR37⟩, hr⟩, hk8⟩, hf⟩, hpS⟩, hpR⟩, htl⟩ := hok
  have haS : amt iS = N1 := by unfold amt; rw [if_neg (by omega), if_neg (by omega)]
  have haR : amt iR = N1 := by unfold amt; rw [if_neg (by omega), if_neg (by omega)]
  refine send_core (src := xM (c.val + k) f) (dst := xM (c.val + k) f) (φ := fun g => g = XGb I) (q := shr sh)
    (FF := All (Res I c) ((payL iR false).tail.map (Th.shift r)))
    hop rfl rfl rfl hS9 (by omega) hR9 (by omega) haS haR rfl ?_ ?_ ?_ hS hR hk
  · rw [show need (.send r iS iR k f sh) = .xs k f sh :: .xe r k f :: (payL iR false).tail.map (Th.shift r) from rfl, All_cons, All_cons, res_xs, res_xe]
    iintro ⟨⟨%g, %hg, Hx⟩, ⟨%fd, Hd⟩, HF⟩
    iexists g, fd
    isplitr
    · ipureintro; exact hg
    rw [xM_set]
    isplitl [Hx]
    · iexact Hx
    isplitl [Hd]
    · iexact Hd
    · iexact HF
  · intro fs hfs
    subst hfs
    rw [hpS, All_one, xM_set]
    exact xs_intro
  · intro fs fd hfs
    subst hfs
    rw [hpR, All_cons, ← res_mem (.xs ((k + (8 - r)) % 8) f 0) rfl, all_shift_res r _ htl]
    have hw : (loc0 (dvr c r) ↦[(xM (c.val + k) f).view.set]{fullShare} ((xM (c.val + k) f).view.write (Elt F) fd ((xM (c.val + k) f).view.read (Elt F) (XGb I)) Finset.univ) : sProp (MM F))
        = (loc0 (dvr c r) ↦[(xR ((dvr c r).val + (k + (8 - r)) % 8) f).set]{shr 0} (XGb I)) := by
      rw [xR_congr (k := (dvr c r).val + (k + (8 - r)) % 8) (k' := c.val + k) (by rw [dvr_val]; omega), ← xM_set]
      exact pointsTo_congr (write_same _ fd (XGb I))
    iintro ⟨H, HF⟩
    isplitl [H]
    · iapply (xs_intro (I := I) (c := dvr c r))
      iapply (Entails.of_eq hw)
      iexact H
    · iexact HF

theorem gM_set (t : ℕ) : (gM t).view.set = (rR t).set := by
  simp [gM, Memref.squeeze, Memref.slice]

theorem rM_set (t : ℕ) : (rM t).view.set = (rR t).set := by
  simp [rM, Memref.squeeze, Memref.slice]

theorem rs_ok : ∀ t : Fin 7, rsDev t.val + rsSlot t.val + 1 = 8 ∧ rsSlot t.val < 7 ∧ ts (rsSlot t.val) = t.val ∧ payL (37 + t.val) false = [.sg t.val 2]
    ∧ payL (44 + rsSlot t.val) false = [.ri (rsSlot t.val)] := by decide

theorem dv_back (c : Dev nD) {r s : ℕ} (h : r + s + 1 = 8) : dv ((dvr c r).val + s + 1) = c := by
  apply Fin.ext
  show ((c.val + r) % 8 + s + 1) % 8 = c.val
  have : c.val < 8 := c.isLt
  omega

/-- A part staged for a device is what that device receives. -/
theorem rg_ri {t : ℕ} (ht : t < 7) (y : (rR t).shape.Idx) : RGb I c ((rR t).emb y) = RIb I (dvr c (rsDev t)) ((rR (rsSlot t)).emb y) := by
  obtain ⟨h1, h2, h3, -, -⟩ := rs_ok ⟨t, ht⟩
  dsimp only at h1 h2 h3
  have hy : (y 0).val < 1 := (y 0).isLt
  have e1 : ((rR t).emb y 0).val = t := by
    show t % 7 + 1 * (y 0).val = t
    omega
  have e2 : ((rR (rsSlot t)).emb y 0).val = rsSlot t := by
    show rsSlot t % 7 + 1 * (y 0).val = rsSlot t
    omega
  show RG I c ((rR t).emb y 0).val ((rR t).emb y 1).val ((rR t).emb y 2).val ((rR t).emb y 3).val
    = RI I (dvr c (rsDev t)) ((rR (rsSlot t)).emb y 0).val ((rR (rsSlot t)).emb y 1).val ((rR (rsSlot t)).emb y 2).val ((rR (rsSlot t)).emb y 3).val
  rw [e1, e2]
  unfold RI
  rw [h3, dv_back c h1]
  rfl

/-- A staged part goes to its device. -/
theorem r_rs {t : ℕ} (hop : ops[n]? = some (.rs t)) {e : Dev nD} (he : e = dvr c (rsDev t))
    {qS qR : DmaSem sig} (hS : SemLoc.dma qS = sm (37 + t)) (hR : SemLoc.dma qR = sm (44 + rsSlot t)) {o1 o2 : Fin 4 → ℕ}
    (ho1 : o1 = ![t % 7, 0, 0, 0]) (ho2 : o2 = ![rsSlot t % 7, 0, 0, 0])
    {i1 i2 h1 h2 hsc hsrc hdst hsem}
    {kk : PUnit → Prog (TpuEff nD τ sig (Elt F) Λ₀ .tc) α} (hk : iprop(X ∗ Cm I K c (n + 1)) ⊢ WP c (kk ⟨⟩) Q) :
    iprop(X ∗ Cm I K c n) ⊢ WP c (Prog.lift (.enqueueDma
      (((Memref.whole cc0_scratch5).slice (Rect.unit (s := S7x2x128x512) o1 S1x2x128x512.size i1) h1).squeeze S2x128x512 squeezes_S1x2x128x512_S2x128x512)
      (.remote (Dev.tc e) (((Memref.whole cc0_scratch6).slice (Rect.unit (s := S7x2x128x512) o2 S1x2x128x512.size i2) h2).squeeze S2x128x512 squeezes_S1x2x128x512_S2x128x512)
        (.dma qS) hsc) (.dma qR) hsrc hdst hsem) >>= kk) Q := by
  subst he
  subst ho1
  subst ho2
  rw [wp_lift_bind]
  have ht : t < 7 := by
    have := ok_at hop
    simpa [okOp] using this
  obtain ⟨g1, g2, g3, g4, g5⟩ := rs_ok ⟨t, ht⟩
  have haS : amt (37 + t) = N2 := by unfold amt; rw [if_neg (by omega), if_pos (by omega)]
  have haR : amt (44 + rsSlot t) = N2 := by unfold amt; rw [if_neg (by dsimp only at g2; omega), if_pos (by omega)]
  dsimp only at g1 g2 g3 g4 g5
  refine send_core (src := gM t) (dst := rM (rsSlot t)) (φ := fun g : Buf (Elt F) (loc5 c) => ∀ i ∈ (rR t).set, g i = RGb I c i) (q := fullShare) (FF := iprop(emp))
    hop rfl rfl rfl (by omega) (by omega) (by omega) (by omega) haS haR rfl ?_ ?_ ?_ hS hR hk
  · rw [show need (.rs t) = [.sg t 2, .re (rsDev t) (rsSlot t)] from rfl, All_cons, All_one, res_sg, res_re]
    iintro ⟨⟨%g, %hg, Hx⟩, ⟨%fd, Hd⟩⟩
    iexists g, fd
    isplitr
    · ipureintro
      exact fun i hi => hg i hi (i 1).isLt
    rw [gM_set, rM_set]
    isplitl [Hx]
    · iexact Hx
    isplitl [Hd]
    · iexact Hd
    · iempintro
  · intro fs hfs
    rw [g4, All_one, gM_set]
    show _ ⊢ Res I c (.sg t 2)
    rw [res_sg]
    iintro H
    iexists fs
    isplitr
    · ipureintro
      exact fun i hi _ => hfs i hi
    · iexact H
  · intro fs fd hfs
    rw [g5, All_one]
    show _ ⊢ Res I (dvr c (rsDev t)) (.ri (rsSlot t))
    rw [res_ri]
    have hw : (loc6 (dvr c (rsDev t)) ↦[(rM (rsSlot t)).view.set]{fullShare} ((rM (rsSlot t)).view.write (Elt F) fd ((gM t).view.read (Elt F) fs) Finset.univ) : sProp (MM F))
        = (loc6 (dvr c (rsDev t)) ↦[(rR (rsSlot t)).set]{fullShare} (RIb I (dvr c (rsDev t)))) := by
      rw [← rM_set]
      refine pointsTo_congr fun i hi => ?_
      obtain ⟨x, -, rfl⟩ := Finset.mem_map.mp hi
      rw [View.write_emb_of_mem _ _ (Finset.mem_univ x)]
      have hx : fs ((gM t).view.emb x) = RGb I c ((gM t).view.emb x) := hfs _ (by rw [← gM_set]; exact Finset.mem_map_of_mem _ (Finset.mem_univ x))
      exact hx.trans (rg_ri (I := I) (c := c) ht (Shape.reshapeEquiv squeezes_S1x2x128x512_S2x128x512.numel_eq x))
    iintro ⟨H, -⟩
    iexists _
    isplitr
    · ipureintro; rfl
    · iapply (Entails.of_eq hw)
      iexact H

/-! ### Staging -/

/-- A look at a part before it is staged. -/
theorem r_sgpeek {t b b' : ℕ} (hm : (.sg t b' : Th) ∈ D n) (ht : t < 7) {inb} {hl}
    {kk : ((Rect.unit (s := S7x2x128x512) ![t, b, 0, 0] S1x1x128x512.size inb).toLoadRect.shape.Idx → Elt F cc0_scratch5.ty.elt) → Prog (TpuEff nD τ sig (Elt F) Λ₀ .tc) α}
    (hk : ∀ v, iprop(X ∗ Cm I K c n) ⊢ WP c (kk v) Q) :
    iprop(X ∗ Cm I K c n) ⊢ WP c (Prog.lift (.load (Memref.whole cc0_scratch5) (Rect.unit (s := S7x2x128x512) ![t, b, 0, 0] S1x1x128x512.size inb).toLoadRect hl) >>= kk) Q := by
  rw [Cm_take hm, ← sepA, res_sg] at hk ⊢
  refine ex_elim fun g => pure_elim' fun hg => ?_
  refine load_on (by exact fun i hi => sub_slot ht inb i hi) (fun x => rfl) ?_
  refine BIBase.Entails.trans ?_ (hk _)
  iintro ⟨HX, H⟩
  isplitl [HX]
  · iexact HX
  iexists g
  isplitr
  · ipureintro; exact hg
  · iexact H

/-- A part of a batch is staged. -/
theorem r_stg {t b : ℕ} (hop : ops[n]? = some (.stg t b)) {inb} {w : Vec F S1x1x128x512 .bf16} {hx hm} (hw : w = k0_pay572 (part I c (jt t) b))
    {k : PUnit → Prog (TpuEff nD τ sig (Elt F) Λ₀ .tc) α} (hk : iprop(X ∗ Cm I K c (n + 1)) ⊢ WP c (k ⟨⟩) Q) :
    iprop(X ∗ Cm I K c n) ⊢ WP c (Prog.lift (.store (Memref.whole cc0_scratch5) (Rect.unit (s := S7x2x128x512) ![t, b, 0, 0] S1x1x128x512.size inb) w Finset.univ hx hm) >>= k) Q := by
  have hok := ok_at hop
  simp only [okOp, Bool.and_eq_true, decide_eq_true_eq] at hok
  obtain ⟨ht, hb⟩ := hok
  have hopen := Cm_free (I := I) (K := K) (c := c) hop rfl rfl
  rw [show need (.stg t b) = [.sg t b] from rfl, show gain (.stg t b) = [.sg t (b + 1)] from rfl, All_one, All_one, res_sg] at hopen
  have hopen' : iprop(X ∗ Cm I K c n) ⊢ iprop((X ∗ (Res I c (.sg t (b + 1)) -∗ Cm I K c (n + 1))) ∗
      (∃ g : Buf (Elt F) (loc5 c), ⌜∀ i ∈ (rR t).set, (i 1).val < b → g i = RGb I c i⌝ ∗ (loc5 c ↦[(rR t).set]{fullShare} g))) := by
    iintro ⟨HX, HC⟩
    ihave H := hopen $$ HC
    icases H with ⟨H, Hk⟩
    isplitr [H]
    · isplitl [HX]
      · iexact HX
      · iexact Hk
    · iexact H
  refine hopen'.trans (ex_elim fun g => pure_elim' fun hg => ?_)
  refine store_on (by exact fun x => sub_slot ht inb _ (mem_emb _ x)) ?_
  intro g' h1 h2
  refine BIBase.Entails.trans ?_ hk
  rw [res_sg]
  iintro ⟨⟨HX, Hk⟩, H⟩
  isplitl [HX]
  · iexact HX
  iapply Hk
  iexists g'
  isplitr
  · ipureintro
    intro i hi hib
    by_cases hm' : i ∈ (Rect.unit (s := S7x2x128x512) ![t, b, 0, 0] S1x1x128x512.size inb).set
    · obtain ⟨x, rfl⟩ := emb_of_mem _ hm'
      rw [h1 x, hw]
      have e := by4_unit (n := ![7, 2, 128, 512]) (RG I c) inb x
      refine Eq.trans ?_ e.symm
      have q0 : (x 0).val < 1 := (x 0).isLt
      have q1 : (x 1).val < 1 := (x 1).isLt
      have q2 : (x 2).val < 128 := (x 2).isLt
      have q3 : (x 3).val < 512 := (x 3).isLt
      have e0 : t + (x 0).val = t := by omega
      have e1 : b + (x 1).val = b := by omega
      show _ = RG I c (t + (x 0).val) (b + (x 1).val) (0 + (x 2).val) (0 + (x 3).val)
      rw [e0, e1]
      exact (at4_of _ x (by omega) (by omega)).symm
    · rw [h2 i fun x e => hm' (e ▸ mem_emb _ x)]
      refine hg i hi ?_
      rw [Rect.mem_set_unit] at hi hm'
      by_contra hcon
      apply hm'
      have e : (i 1).val = b := by omega
      intro a
      have := hi a
      fin_cases a
      · have := hi 0; simp at this ⊢; omega
      · simp; omega
      · have := hi 2; simp at this ⊢; omega
      · have := hi 3; simp at this ⊢; omega
  · iexact H

end Cert.Rope

end
-- ==== Proof.Io.lean ====
module

public import proofs.«01_k».proof.Proof.Send
public import Idealize.ShloMosaic.Lib.Pipeline.Value

/-! The offsets the program computes; the loads of its inputs and the stores of its result. -/

@[expose] public section

noncomputable section

namespace Cert.Rope

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ### Offsets and devices -/

section Words
set_option maxRecDepth 100000

theorem off1_eq : ∀ c : Dev nD, k0_off1 c = ![c.val % 8, 0, 0, 0] := by decide +kernel
theorem off2_eq : ∀ c : Dev nD, k0_off2 c = ![(c.val + 0) % 8, 0 % 2, 0, 0] := by decide +kernel
theorem off3_eq : ∀ c : Dev nD, k0_off3 c = ![(c.val + 0) % 8, 1 % 2, 0, 0] := by decide +kernel
theorem off4_eq : ∀ c : Dev nD, k0_off4 c = ![128 * kd c 0, 0] := by decide +kernel
theorem off5_eq : ∀ c : Dev nD, k0_off5 c = ![(c.val + 0) % 8, 0 % 2, 0, 0] := by decide +kernel
theorem off6_eq : ∀ c : Dev nD, k0_off6 c = ![(c.val + 0) % 8, 1 % 2, 0, 0] := by decide +kernel
theorem off7_eq : ∀ (c : Dev nD) (s : Fin 4), k0_off7 c (BitVec.ofNat 32 s.val) = ![(c.val + (7 - s.val)) % 8, 0 % 2, 0, 0] := by decide +kernel
theorem off8_eq : ∀ (c : Dev nD) (s : Fin 3), k0_off8 c (BitVec.ofNat 32 s.val) = ![(c.val + (1 + s.val)) % 8, 0 % 2, 0, 0] := by decide +kernel
theorem off9_eq : ∀ (c : Dev nD) (s : Fin 4), k0_off9 c (BitVec.ofNat 32 s.val) = ![(c.val + (7 - s.val)) % 8, 1 % 2, 0, 0] := by decide +kernel
theorem off10_eq : ∀ (c : Dev nD) (s : Fin 3), k0_off10 c (BitVec.ofNat 32 s.val) = ![(c.val + (1 + s.val)) % 8, 1 % 2, 0, 0] := by decide +kernel
theorem off11_eq : ∀ (c : Dev nD) (s : Fin 4), k0_off11 c (BitVec.ofNat 32 s.val) = ![128 * ((c.val + (7 - s.val)) % 8), 0] := by decide +kernel
theorem off12_eq : ∀ (c : Dev nD) (s : Fin 4), k0_off12 c (BitVec.ofNat 32 s.val) = ![(c.val + (7 - s.val)) % 8, 0 % 2, 0, 0] := by decide +kernel
theorem off13_eq : ∀ (c : Dev nD) (s : Fin 4), k0_off13 c (BitVec.ofNat 32 s.val) = ![(c.val + (7 - s.val)) % 8, 1 % 2, 0, 0] := by decide +kernel
theorem off14_eq : ∀ (c : Dev nD) (s : Fin 3), k0_off14 c (BitVec.ofNat 32 s.val) = ![128 * ((c.val + (1 + s.val)) % 8), 0] := by decide +kernel
theorem off15_eq : ∀ (c : Dev nD) (s : Fin 3), k0_off15 c (BitVec.ofNat 32 s.val) = ![(c.val + (1 + s.val)) % 8, 0 % 2, 0, 0] := by decide +kernel
theorem off16_eq : ∀ (c : Dev nD) (s : Fin 3), k0_off16 c (BitVec.ofNat 32 s.val) = ![(c.val + (1 + s.val)) % 8, 1 % 2, 0, 0] := by decide +kernel

theorem dev1_eq : ∀ c : Dev nD, (⟨k0_dev1 c, k0_dev1_lt c⟩ : Dev nD) = dvr c 7 := by decide +kernel
theorem dev2_eq : ∀ c : Dev nD, (⟨k0_dev2 c, k0_dev2_lt c⟩ : Dev nD) = dvr c 1 := by decide +kernel
theorem dev3_eq : ∀ c : Dev nD, (⟨k0_dev3 c, k0_dev3_lt c⟩ : Dev nD) = dvr c 1 := by decide +kernel
theorem dev4_eq : ∀ c : Dev nD, (⟨k0_dev4 c, k0_dev4_lt c⟩ : Dev nD) = dvr c 7 := by decide +kernel
theorem dev5_eq : ∀ c : Dev nD, (⟨k0_dev5 c, k0_dev5_lt c⟩ : Dev nD) = dvr c 1 := by decide +kernel
theorem dev6_eq : ∀ c : Dev nD, (⟨k0_dev6 c, k0_dev6_lt c⟩ : Dev nD) = dvr c 7 := by decide +kernel
theorem dev7_eq : ∀ c : Dev nD, (⟨k0_dev7 c, k0_dev7_lt c⟩ : Dev nD) = dvr c 1 := by decide +kernel
theorem dev8_eq : ∀ c : Dev nD, (⟨k0_dev8 c, k0_dev8_lt c⟩ : Dev nD) = dvr c 7 := by decide +kernel
theorem dev9_eq : ∀ c : Dev nD, (⟨k0_dev9 c, k0_dev9_lt c⟩ : Dev nD) = dvr c 1 := by decide +kernel
theorem dev10_eq : ∀ c : Dev nD, (⟨k0_dev10 c, k0_dev10_lt c⟩ : Dev nD) = dvr c 7 := by decide +kernel
theorem dev11_eq : ∀ c : Dev nD, (⟨k0_dev11 c, k0_dev11_lt c⟩ : Dev nD) = dvr c 1 := by decide +kernel
theorem dev12_eq : ∀ c : Dev nD, (⟨k0_dev12 c, k0_dev12_lt c⟩ : Dev nD) = dvr c 7 := by decide +kernel
theorem dev13_eq : ∀ c : Dev nD, (⟨k0_dev13 c, k0_dev13_lt c⟩ : Dev nD) = dvr c 1 := by decide +kernel
theorem dev14_eq : ∀ c : Dev nD, (⟨k0_dev14 c, k0_dev14_lt c⟩ : Dev nD) = dvr c 7 := by decide +kernel
theorem dev15_eq : ∀ c : Dev nD, (⟨k0_dev15 c, k0_dev15_lt c⟩ : Dev nD) = dvr c 1 := by decide +kernel
theorem dev16_eq : ∀ c : Dev nD, (⟨k0_dev16 c, k0_dev16_lt c⟩ : Dev nD) = dvr c 1 := by decide +kernel
theorem dev17_eq : ∀ c : Dev nD, (⟨k0_dev17 c, k0_dev17_lt c⟩ : Dev nD) = dvr c 1 := by decide +kernel
theorem dev18_eq : ∀ c : Dev nD, (⟨k0_dev18 c, k0_dev18_lt c⟩ : Dev nD) = dvr c 2 := by decide +kernel
theorem dev19_eq : ∀ c : Dev nD, (⟨k0_dev19 c, k0_dev19_lt c⟩ : Dev nD) = dvr c 3 := by decide +kernel
theorem dev20_eq : ∀ c : Dev nD, (⟨k0_dev20 c, k0_dev20_lt c⟩ : Dev nD) = dvr c 7 := by decide +kernel
theorem dev21_eq : ∀ c : Dev nD, (⟨k0_dev21 c, k0_dev21_lt c⟩ : Dev nD) = dvr c 6 := by decide +kernel
theorem dev22_eq : ∀ c : Dev nD, (⟨k0_dev22 c, k0_dev22_lt c⟩ : Dev nD) = dvr c 5 := by decide +kernel
theorem dev23_eq : ∀ c : Dev nD, (⟨k0_dev23 c, k0_dev23_lt c⟩ : Dev nD) = dvr c 4 := by decide +kernel

end Words

variable {F : FTy → Type} [FloatOps F]
variable (I : Ins F) (c : Dev nD)

/-! ### What surrounds the four buffers -/

abbrev full (b : Ref sig .tc) (G : b.ty.Contents (Elt F)) : sProp (MM F) := Held c b (fun _ => True) G

abbrev HO (o : ℕ) : sProp (MM F) := Held c cc0_stg8_0 (fun i => ((i : S2x128x512.Idx) 0).val < o) (outAll I c)

/-- The staged inputs, by number. -/
def inp : Fin 8 → sProp (MM F)
  | 0 => full c cc0_stg0_0 (I.x c)
  | 1 => full c cc0_stg1_0 (I.wq c)
  | 2 => full c cc0_stg2_0 (I.wk c)
  | 3 => full c cc0_stg3_0 (I.wv c)
  | 4 => full c cc0_stg4_0 (I.wo c)
  | 5 => full c cc0_stg5_0 (I.cs c)
  | 6 => full c cc0_stg6_0 (I.sn c)
  | 7 => full c cc0_stg7_0 (I.pm c)

def Inp : sProp (MM F) := bigSep Finset.univ (inp I c)

variable {I c} {K : Names} {α : Type} {Q : α → sProp (MM F)} {n nq nk nv na o : ℕ} {C : sProp (MM F)} {p : Prog (TpuEff nD τ sig (Elt F) Λ₀ .tc) α}

/-- Everything, the communication `C` set apart. -/
abbrev SS (I : Ins F) (c : Dev nD) (C : sProp (MM F)) (o nq nk nv na : ℕ) : sProp (MM F) := St I c iprop((Inp I c ∗ HO I c o) ∗ C) nq nk nv na

theorem SS_C : SS I c C o nq nk nv na = iprop(((Inp I c ∗ HO I c o) ∗ HQ I c nq ∗ HK I c nk ∗ HV I c nv ∗ HA I c na) ∗ C) := by
  unfold SS St
  rw [sepA (iprop(Inp I c ∗ HO I c o)), sepC C]
  simp only [sepA]

theorem SS_in (i : Fin 8) : SS I c C o nq nk nv na
    = iprop(((bigSep (Finset.univ.erase i) (inp I c) ∗ HO I c o) ∗ (HQ I c nq ∗ HK I c nk ∗ HV I c nv ∗ HA I c na) ∗ C) ∗ inp I c i) := by
  rw [SS_C, show Inp I c = iprop(inp I c i ∗ bigSep (Finset.univ.erase i) (inp I c)) from bigSep_erase (Finset.mem_univ i)]
  rw [sepC (inp I c i)]
  simp only [sepA]
  rw [sepC (inp I c i)]
  simp only [sepA]

theorem SS_O : SS I c C o nq nk nv na
    = iprop((Inp I c ∗ (HQ I c nq ∗ HK I c nk ∗ HV I c nv ∗ HA I c na) ∗ C) ∗ HO I c o) := by
  rw [SS_C]
  simp only [sepA]
  rw [sepC (HO I c o)]
  simp only [sepA]

theorem ofC (h : SS I c C o nq nk nv na ⊢ WP c p Q) :
    iprop(((Inp I c ∗ HO I c o) ∗ HQ I c nq ∗ HK I c nk ∗ HV I c nv ∗ HA I c na) ∗ C) ⊢ WP c p Q := by
  rw [← SS_C]; exact h

theorem toC (h : iprop(((Inp I c ∗ HO I c o) ∗ HQ I c nq ∗ HK I c nk ∗ HV I c nv ∗ HA I c na) ∗ C) ⊢ WP c p Q) :
    SS I c C o nq nk nv na ⊢ WP c p Q := by
  rw [SS_C]; exact h

/-! ### Loads of the inputs -/

theorem idx_whole {s : Shape} {off : Fin s.rank → ℕ} (ho : ∀ a, off a = 0) (inb) (x : s.Idx) : (Rect.unit (s := s) off s.size inb).toLoadRect.idx x = x := by
  funext a
  refine Fin.ext ?_
  show off a + 1 * (x a).val = (x a).val
  rw [ho a]; omega

theorem in_x {off} (ho : ∀ a, off a = 0) {inb} {hl}
    {k : ((Rect.unit (s := S2x128x512) off S2x128x512.size inb).toLoadRect.shape.Idx → Elt F cc0_stg0_0.ty.elt) → Prog (TpuEff nD τ sig (Elt F) Λ₀ .tc) α}
    (hk : SS I c C o nq nk nv na ⊢ WP c (k (I.x c)) Q) :
    SS I c C o nq nk nv na ⊢ WP c (Prog.lift (.load (Memref.whole cc0_stg0_0) (Rect.unit (s := S2x128x512) off S2x128x512.size inb).toLoadRect hl) >>= k) Q := by
  rw [SS_in 0] at hk ⊢
  exact held_load _ (fun _ => trivial) (fun x => congrArg (I.x c) (idx_whole (s := S2x128x512) ho inb x)) hk

theorem in_wq {off} (ho : ∀ a, off a = 0) {inb} {hl}
    {k : ((Rect.unit (s := S512x256) off S512x256.size inb).toLoadRect.shape.Idx → Elt F cc0_stg1_0.ty.elt) → Prog (TpuEff nD τ sig (Elt F) Λ₀ .tc) α}
    (hk : SS I c C o nq nk nv na ⊢ WP c (k (I.wq c)) Q) :
    SS I c C o nq nk nv na ⊢ WP c (Prog.lift (.load (Memref.whole cc0_stg1_0) (Rect.unit (s := S512x256) off S512x256.size inb).toLoadRect hl) >>= k) Q := by
  rw [SS_in 1] at hk ⊢
  exact held_load _ (fun _ => trivial) (fun x => congrArg (I.wq c) (idx_whole (s := S512x256) ho inb x)) hk

theorem in_wk {off} (ho : ∀ a, off a = 0) {inb} {hl}
    {k : ((Rect.unit (s := S512x256) off S512x256.size inb).toLoadRect.shape.Idx → Elt F cc0_stg2_0.ty.elt) → Prog (TpuEff nD τ sig (Elt F) Λ₀ .tc) α}
    (hk : SS I c C o nq nk nv na ⊢ WP c (k (I.wk c)) Q) :
    SS I c C o nq nk nv na ⊢ WP c (Prog.lift (.load (Memref.whole cc0_stg2_0) (Rect.unit (s := S512x256) off S512x256.size inb).toLoadRect hl) >>= k) Q := by
  rw [SS_in 2] at hk ⊢
  exact held_load _ (fun _ => trivial) (fun x => congrArg (I.wk c) (idx_whole (s := S512x256) ho inb x)) hk

theorem in_wv {off} (ho : ∀ a, off a = 0) {inb} {hl}
    {k : ((Rect.unit (s := S512x256) off S512x256.size inb).toLoadRect.shape.Idx → Elt F cc0_stg3_0.ty.elt) → Prog (TpuEff nD τ sig (Elt F) Λ₀ .tc) α}
    (hk : SS I c C o nq nk nv na ⊢ WP c (k (I.wv c)) Q) :
    SS I c C o nq nk nv na ⊢ WP c (Prog.lift (.load (Memref.whole cc0_stg3_0) (Rect.unit (s := S512x256) off S512x256.size inb).toLoadRect hl) >>= k) Q := by
  rw [SS_in 3] at hk ⊢
  exact held_load _ (fun _ => trivial) (fun x => congrArg (I.wv c) (idx_whole (s := S512x256) ho inb x)) hk

theorem in_wo {off} (ho : ∀ a, off a = 0) {inb} {hl}
    {k : ((Rect.unit (s := S256x512) off S256x512.size inb).toLoadRect.shape.Idx → Elt F cc0_stg4_0.ty.elt) → Prog (TpuEff nD τ sig (Elt F) Λ₀ .tc) α}
    (hk : SS I c C o nq nk nv na ⊢ WP c (k (I.wo c)) Q) :
    SS I c C o nq nk nv na ⊢ WP c (Prog.lift (.load (Memref.whole cc0_stg4_0) (Rect.unit (s := S256x512) off S256x512.size inb).toLoadRect hl) >>= k) Q := by
  rw [SS_in 4] at hk ⊢
  exact held_load _ (fun _ => trivial) (fun x => congrArg (I.wo c) (idx_whole (s := S256x512) ho inb x)) hk

theorem in_pm {off} (ho : ∀ a, off a = 0) {inb} {hl}
    {k : ((Rect.unit (s := S256x256) off S256x256.size inb).toLoadRect.shape.Idx → Elt F cc0_stg7_0.ty.elt) → Prog (TpuEff nD τ sig (Elt F) Λ₀ .tc) α}
    (hk : SS I c C o nq nk nv na ⊢ WP c (k (I.pm c)) Q) :
    SS I c C o nq nk nv na ⊢ WP c (Prog.lift (.load (Memref.whole cc0_stg7_0) (Rect.unit (s := S256x256) off S256x256.size inb).toLoadRect hl) >>= k) Q := by
  rw [SS_in 7] at hk ⊢
  exact held_load _ (fun _ => trivial) (fun x => congrArg (I.pm c) (idx_whole (s := S256x256) ho inb x)) hk

theorem idx_tab {m : ℕ} (hm : m < 8) (t : Vec F S1024x256 .f32) (inb) (x : S128x256.Idx) :
    t ((Rect.unit (s := S1024x256) ![128 * m, 0] S128x256.size inb).toLoadRect.idx x) = tabR t m x := by
  have h0 : (x 0).val < 128 := (x 0).isLt
  have h1 : (x 1).val < 256 := (x 1).isLt
  unfold tabR
  congr 1
  funext a
  refine Fin.ext ?_
  fin_cases a
  · show 128 * m + 1 * (x 0).val = (128 * m + (x 0).val) % 1024
    omega
  · show 0 + 1 * (x 1).val = (x 1).val % 256
    omega

theorem in_cs {off} {m : ℕ} (hm : m < 8) (ho : off = ![128 * m, 0]) {inb} {hl}
    {k : ((Rect.unit (s := S1024x256) off S128x256.size inb).toLoadRect.shape.Idx → Elt F cc0_stg5_0.ty.elt) → Prog (TpuEff nD τ sig (Elt F) Λ₀ .tc) α}
    (hk : SS I c C o nq nk nv na ⊢ WP c (k (tabR (I.cs c) m)) Q) :
    SS I c C o nq nk nv na ⊢ WP c (Prog.lift (.load (Memref.whole cc0_stg5_0) (Rect.unit (s := S1024x256) off S128x256.size inb).toLoadRect hl) >>= k) Q := by
  subst ho
  rw [SS_in 5] at hk ⊢
  exact held_load _ (fun _ => trivial) (fun x => idx_tab hm (I.cs c) inb x) hk

theorem in_sn {off} {m : ℕ} (hm : m < 8) (ho : off = ![128 * m, 0]) {inb} {hl}
    {k : ((Rect.unit (s := S1024x256) off S128x256.size inb).toLoadRect.shape.Idx → Elt F cc0_stg6_0.ty.elt) → Prog (TpuEff nD τ sig (Elt F) Λ₀ .tc) α}
    (hk : SS I c C o nq nk nv na ⊢ WP c (k (tabR (I.sn c) m)) Q) :
    SS I c C o nq nk nv na ⊢ WP c (Prog.lift (.load (Memref.whole cc0_stg6_0) (Rect.unit (s := S1024x256) off S128x256.size inb).toLoadRect hl) >>= k) Q := by
  subst ho
  rw [SS_in 6] at hk ⊢
  exact held_load _ (fun _ => trivial) (fun x => idx_tab hm (I.sn c) inb x) hk

/-- What the device sends of its own chunk. -/
theorem own_eq (x : (oR c.val).shape.Idx) : k0_pay6 (I.x c) x = XGb I ((oR c.val).emb x) := by
  have q0 : (x 0).val < 1 := (x 0).isLt
  have q1 : (x 1).val < 2 := (x 1).isLt
  have q2 : (x 2).val < 128 := (x 2).isLt
  have q3 : (x 3).val < 512 := (x 3).isLt
  have hc : c.val < 8 := c.isLt
  have e0 : dv (c.val % 8 + 1 * (x 0).val) = c := by
    apply Fin.ext
    show (c.val % 8 + 1 * (x 0).val) % 8 = c.val
    omega
  show _ = XG I (c.val % 8 + 1 * (x 0).val) (0 + 1 * (x 1).val) (0 + 1 * (x 2).val) (0 + 1 * (x 3).val)
  unfold XG
  rw [e0]
  congr 1
  funext a
  refine Fin.ext ?_
  fin_cases a
  · show (x 0).val = 0
    omega
  · show (x 1).val = (0 + 1 * (x 1).val) % 2
    omega
  · show (x 2).val = (0 + 1 * (x 2).val) % 128
    omega
  · show (x 3).val = (0 + 1 * (x 3).val) % 512
    omega

/-! ### The result -/

theorem out_peek {r : LoadRect cc0_stg8_0.ty.shape} {hl} {k : (r.shape.Idx → Elt F cc0_stg8_0.ty.elt) → Prog (TpuEff nD τ sig (Elt F) Λ₀ .tc) α}
    (hk : ∀ v, SS I c C o nq nk nv na ⊢ WP c (k v) Q) :
    SS I c C o nq nk nv na ⊢ WP c (Prog.lift (.load (Memref.whole cc0_stg8_0) r hl) >>= k) Q := by
  simp only [SS_O] at hk ⊢
  exact held_peek r hk

/-- A batch of the result is stored. -/
theorem out_store (ho : o < 2) {inb} {w : Vec F S1x128x512 .f32} {hx hm} (hw : ∀ x : S1x128x512.Idx, w x = outRow I c o (fun | 0 => x 1 | 1 => x 2))
    {k : PUnit → Prog (TpuEff nD τ sig (Elt F) Λ₀ .tc) α} (hk : SS I c C (o + 1) nq nk nv na ⊢ WP c (k ⟨⟩) Q) :
    SS I c C o nq nk nv na ⊢ WP c (Prog.lift (.store (Memref.whole cc0_stg8_0) (Rect.unit (s := S2x128x512) ![o, 0, 0] S1x128x512.size inb) w Finset.univ hx hm) >>= k) Q := by
  rw [SS_O] at hk ⊢
  refine held_store _ (fun x _ => ?_) (fun i hi hi' => ?_) hk
  · have q0 : (x 0).val < 1 := (x 0).isLt
    rw [hw x]
    unfold outAll
    have e : ((Rect.unit (s := S2x128x512) ![o, 0, 0] S1x128x512.size inb).emb x 0).val = o := by
      show o + 1 * (x 0).val = o
      omega
    show outRow I c ((Rect.unit (s := S2x128x512) ![o, 0, 0] S1x128x512.size inb).emb x 0).val _ = _
    rw [e]
    congr 1
    funext a
    refine Fin.ext ?_
    fin_cases a
    · show 0 + 1 * (x 1).val = (x 1).val
      omega
    · show 0 + 1 * (x 2).val = (x 2).val
      omega
  · refine ⟨?_, rfl⟩
    have hi : ((i : S2x128x512.Idx) 0).val < o + 1 := hi
    show ((i : S2x128x512.Idx) 0).val < o
    by_contra hcon
    have hmem : (i : S2x128x512.Idx) ∈ (Rect.unit (s := S2x128x512) ![o, 0, 0] S1x128x512.size inb).set := by
      rw [Rect.mem_set_unit]
      intro a
      have h1 : ((i : S2x128x512.Idx) 1).val < 128 := ((i : S2x128x512.Idx) 1).isLt
      have h2 : ((i : S2x128x512.Idx) 2).val < 512 := ((i : S2x128x512.Idx) 2).isLt
      fin_cases a
      · simp; omega
      · simp; omega
      · simp; omega
    obtain ⟨x, hx⟩ := emb_of_mem _ hmem
    exact hi' x hx

/-- Such a batch, as the program writes it. -/
theorem out_batch (ho : o < 2) {inb} {v : FVec F S128x512 .f32} {hs} {hx hm} (hv : v = outRow I c o)
    {k : PUnit → Prog (TpuEff nD τ sig (Elt F) Λ₀ .tc) α} (hk : SS I c C (o + 1) nq nk nv na ⊢ WP c (k ⟨⟩) Q) :
    SS I c C o nq nk nv na ⊢ WP c (Prog.lift (.store (Memref.whole cc0_stg8_0) (Rect.unit (s := S2x128x512) ![o, 0, 0] S1x128x512.size inb)
      (shapeCast S1x128x512 v hs) Finset.univ hx hm) >>= k) Q :=
  out_store ho (fun x => by
    subst hv
    rw [shapeCast_addUnit_apply (![128, 512]) _ hs x]
    congr 1
    funext a
    fin_cases a <;> rfl) hk

end Cert.Rope

end
-- ==== Proof.Steps.lean ====
module

public import proofs.«01_k».proof.Proof.Io

/-! The rules, on everything a device holds. -/

@[expose] public section

noncomputable section

namespace Cert.Rope

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {I : Ins F} {c : Dev nD} {K : Names} {α β : Type} {Q : α → sProp (MM F)} {n nq nk nv na o : ℕ}

theorem bnd {S : sProp (MM F)} {p : Prog (TpuEff nD τ sig (Elt F) Λ₀ .tc) β} {k : β → Prog (TpuEff nD τ sig (Elt F) Λ₀ .tc) α}
    (h : S ⊢ WP c p fun r => WP c (k r) Q) : S ⊢ WP c (p >>= k) Q :=
  h.trans (Entails.of_eq (wp_bind _ _ _ p k Q).symm)

theorem ret {S : sProp (MM F)} {a : α} (h : S ⊢ Q a) : S ⊢ WP c (pure a) Q := h.trans (le_wp_ret _ _ _ _ _)

theorem s_dev {S : sProp (MM F)} {k : Dev nD → Prog (TpuEff nD τ sig (Elt F) Λ₀ .tc) α} (h : S ⊢ WP c (k c) Q) :
    S ⊢ WP c (Prog.lift .deviceId >>= k) Q := by
  rw [wp_lift_bind]
  exact h.trans (Entails.of_eq (Idealize.ShloMosaic.wp_deviceId (c := Dev.tc c) (k := k) _ _ _).symm)

/-- The share of a fragment that stays with the device. -/
def shOf : ℕ → ℕ
  | 0 => 3 | 3 => 0 | 4 => 0 | _ => 4

abbrev SC (I : Ins F) (K : Names) (c : Dev nD) (n o nq nk nv na : ℕ) : sProp (MM F) := SS I c (Cm I K c n) o nq nk nv na

variable {p : Prog (TpuEff nD τ sig (Elt F) Λ₀ .tc) α}

theorem c_sig {b : Bool} (hop : ops[n]? = some (.sig b)) {e : Dev nD} (he : e = dvr c (if b then 7 else 1))
    {k : PUnit → Prog (TpuEff nD τ sig (Elt F) Λ₀ .tc) α} (hk : SC I K c (n + 1) o nq nk nv na ⊢ WP c (k ⟨⟩) Q) :
    SC I K c n o nq nk nv na ⊢ WP c (semSignalWord e barS 1#32 >>= k) Q := toC (r_sig hop he (ofC hk))

theorem c_bar (hop : ops[n]? = some (.wait 51))
    {k : PUnit → Prog (TpuEff nD τ sig (Elt F) Λ₀ .tc) α} (hk : SC I K c (n + 1) o nq nk nv na ⊢ WP c (k ⟨⟩) Q) :
    SC I K c n o nq nk nv na ⊢ WP c (semWaitWord barS 2#32 >>= k) Q := toC (r_bar hop (ofC hk))

theorem c_wait {i : ℕ} (hop : ops[n]? = some (.wait i)) {q : DmaSem sig} (hq : SemLoc.dma q = sm i) {sp sp' : Space} {s s' : Shape} {e e' : EltTy}
    {src : Memref sig .tc sp' s' e'} {dst : Memref sig .tc sp s e} {hsrc : src.view.WordExact} {hdst : dst.view.WordExact}
    (ha : dst.view.dmaCredit = tot i) {k : PUnit → Prog (TpuEff nD τ sig (Elt F) Λ₀ .tc) α} (hk : SC I K c (n + 1) o nq nk nv na ⊢ WP c (k ⟨⟩) Q) :
    SC I K c n o nq nk nv na ⊢ WP c (Prog.lift (.waitDma2 q src dst hsrc hdst) >>= k) Q := toC (r_wait hop hq ha (ofC hk))

theorem c_split {k f : ℕ} (hop : ops[n]? = some (.split k f)) (hk : SC I K c (n + 1) o nq nk nv na ⊢ WP c p Q) :
    SC I K c n o nq nk nv na ⊢ WP c p Q := toC (r_split hop (ofC hk))

theorem c_peek (hm : .xown ∈ D n) {inb} {hl}
    {kk : ((Rect.unit (s := S8x2x128x512) (k0_off1 c) S1x2x128x512.size inb).toLoadRect.shape.Idx → Elt F cc0_scratch0.ty.elt) → Prog (TpuEff nD τ sig (Elt F) Λ₀ .tc) α}
    (hk : ∀ v, SC I K c n o nq nk nv na ⊢ WP c (kk v) Q) :
    SC I K c n o nq nk nv na ⊢ WP c (Prog.lift (.load (Memref.whole cc0_scratch0) (Rect.unit (s := S8x2x128x512) (k0_off1 c) S1x2x128x512.size inb).toLoadRect hl) >>= kk) Q :=
  toC (r_peek hm (off1_eq c) fun v => ofC (hk v))

theorem c_own (hop : ops[n]? = some .own) {inb} {hx hm}
    {k : PUnit → Prog (TpuEff nD τ sig (Elt F) Λ₀ .tc) α} (hk : SC I K c (n + 1) o nq nk nv na ⊢ WP c (k ⟨⟩) Q) :
    SC I K c n o nq nk nv na ⊢ WP c (Prog.lift (.store (Memref.whole cc0_scratch0) (Rect.unit (s := S8x2x128x512) (k0_off1 c) S1x2x128x512.size inb) (k0_pay6 (I.x c)) Finset.univ hx hm) >>= k) Q :=
  toC (r_own hop (off1_eq c) own_eq (ofC hk))

theorem c_send {r iS iR k f sh : ℕ} (hop : ops[n]? = some (.send r iS iR k f sh)) {e : Dev nD} (he : e = dvr c r)
    {qS qR : DmaSem sig} (hS : SemLoc.dma qS = sm iS) (hR : SemLoc.dma qR = sm iR) {off : Fin 4 → ℕ} (ho : off = ![(c.val + k) % 8, f % 2, 0, 0])
    {i1 i2 h1 h2 hsc hsrc hdst hsem}
    {kk : PUnit → Prog (TpuEff nD τ sig (Elt F) Λ₀ .tc) α} (hk : SC I K c (n + 1) o nq nk nv na ⊢ WP c (kk ⟨⟩) Q) :
    SC I K c n o nq nk nv na ⊢ WP c (Prog.lift (.enqueueDma
      (((Memref.whole cc0_scratch0).slice (Rect.unit (s := S8x2x128x512) off S1x1x128x512.size i1) h1).squeeze S128x512 squeezes_S1x1x128x512_S128x512)
      (.remote (Dev.tc e) (((Memref.whole cc0_scratch0).slice (Rect.unit (s := S8x2x128x512) off S1x1x128x512.size i2) h2).squeeze S128x512 squeezes_S1x1x128x512_S128x512)
        (.dma qS) hsc) (.dma qR) hsrc hdst hsem) >>= kk) Q := toC (r_send hop he hS hR ho (ofC hk))

theorem c_rs {t : ℕ} (hop : ops[n]? = some (.rs t)) {e : Dev nD} (he : e = dvr c (rsDev t))
    {qS qR : DmaSem sig} (hS : SemLoc.dma qS = sm (37 + t)) (hR : SemLoc.dma qR = sm (44 + rsSlot t)) {o1 o2 : Fin 4 → ℕ}
    (ho1 : o1 = ![t % 7, 0, 0, 0]) (ho2 : o2 = ![rsSlot t % 7, 0, 0, 0])
    {i1 i2 h1 h2 hsc hsrc hdst hsem}
    {kk : PUnit → Prog (TpuEff nD τ sig (Elt F) Λ₀ .tc) α} (hk : SC I K c (n + 1) o nq nk nv na ⊢ WP c (kk ⟨⟩) Q) :
    SC I K c n o nq nk nv na ⊢ WP c (Prog.lift (.enqueueDma
      (((Memref.whole cc0_scratch5).slice (Rect.unit (s := S7x2x128x512) o1 S1x2x128x512.size i1) h1).squeeze S2x128x512 squeezes_S1x2x128x512_S2x128x512)
      (.remote (Dev.tc e) (((Memref.whole cc0_scratch6).slice (Rect.unit (s := S7x2x128x512) o2 S1x2x128x512.size i2) h2).squeeze S2x128x512 squeezes_S1x2x128x512_S2x128x512)
        (.dma qS) hsc) (.dma qR) hsrc hdst hsem) >>= kk) Q := toC (r_rs hop he hS hR ho1 ho2 (ofC hk))

/-- The part sent, by the operations done. -/
theorem c_rn (hop : ops[n]? = some (.rs ((n - 42) / 3))) {e : Dev nD} (he : e = dvr c (rsDev ((n - 42) / 3)))
    {qS qR : DmaSem sig} (hS : SemLoc.dma qS = sm (37 + (n - 42) / 3)) (hR : SemLoc.dma qR = sm (44 + rsSlot ((n - 42) / 3))) {o1 o2 : Fin 4 → ℕ}
    (ho1 : o1 = ![(n - 42) / 3 % 7, 0, 0, 0]) (ho2 : o2 = ![rsSlot ((n - 42) / 3) % 7, 0, 0, 0])
    {i1 i2 h1 h2 hsc hsrc hdst hsem}
    {kk : PUnit → Prog (TpuEff nD τ sig (Elt F) Λ₀ .tc) α} (hk : SC I K c (n + 1) o nq nk nv na ⊢ WP c (kk ⟨⟩) Q) :
    SC I K c n o nq nk nv na ⊢ WP c (Prog.lift (.enqueueDma
      (((Memref.whole cc0_scratch5).slice (Rect.unit (s := S7x2x128x512) o1 S1x2x128x512.size i1) h1).squeeze S2x128x512 squeezes_S1x2x128x512_S2x128x512)
      (.remote (Dev.tc e) (((Memref.whole cc0_scratch6).slice (Rect.unit (s := S7x2x128x512) o2 S1x2x128x512.size i2) h2).squeeze S2x128x512 squeezes_S1x2x128x512_S2x128x512)
        (.dma qS) hsc) (.dma qR) hsrc hdst hsem) >>= kk) Q := c_rs hop he hS hR ho1 ho2 hk

theorem c_x {k f : ℕ} {off} (ho : off = ![(c.val + k) % 8, f % 2, 0, 0]) (hm : (.xs k f (shOf k) : Th) ∈ D n) {inb} {hl}
    {kk : ((Rect.unit (s := S8x2x128x512) off S1x1x128x512.size inb).toLoadRect.shape.Idx → Elt F cc0_scratch0.ty.elt) → Prog (TpuEff nD τ sig (Elt F) Λ₀ .tc) α}
    (hk : SC I K c n o nq nk nv na ⊢ WP c (kk (rd4 ![1, 1, 128, 512] (XG I) ((c.val + k) % 8) (f % 2) 0 0)) Q) :
    SC I K c n o nq nk nv na ⊢ WP c (Prog.lift (.load (Memref.whole cc0_scratch0) (Rect.unit (s := S8x2x128x512) off S1x1x128x512.size inb).toLoadRect hl) >>= kk) Q :=
  toC (r_x hm ho (ofC hk))

theorem c_ri {s b : ℕ} (hm : (.ri s : Th) ∈ D n ∧ s < 7) {inb} {hl}
    {kk : ((Rect.unit (s := S7x2x128x512) ![s, b, 0, 0] S1x1x128x512.size inb).toLoadRect.shape.Idx → Elt F cc0_scratch6.ty.elt) → Prog (TpuEff nD τ sig (Elt F) Λ₀ .tc) α}
    (hk : SC I K c n o nq nk nv na ⊢ WP c (kk (rd4 ![1, 1, 128, 512] (RI I c) s b 0 0)) Q) :
    SC I K c n o nq nk nv na ⊢ WP c (Prog.lift (.load (Memref.whole cc0_scratch6) (Rect.unit (s := S7x2x128x512) ![s, b, 0, 0] S1x1x128x512.size inb).toLoadRect hl) >>= kk) Q :=
  toC (r_ri hm.1 hm.2 (ofC hk))

theorem c_sgpeek {t b : ℕ} (hm : (.sg t b : Th) ∈ D n ∧ t < 7) {inb} {hl}
    {kk : ((Rect.unit (s := S7x2x128x512) ![t, b, 0, 0] S1x1x128x512.size inb).toLoadRect.shape.Idx → Elt F cc0_scratch5.ty.elt) → Prog (TpuEff nD τ sig (Elt F) Λ₀ .tc) α}
    (hk : ∀ v, SC I K c n o nq nk nv na ⊢ WP c (kk v) Q) :
    SC I K c n o nq nk nv na ⊢ WP c (Prog.lift (.load (Memref.whole cc0_scratch5) (Rect.unit (s := S7x2x128x512) ![t, b, 0, 0] S1x1x128x512.size inb).toLoadRect hl) >>= kk) Q :=
  toC (r_sgpeek hm.1 hm.2 fun v => ofC (hk v))

theorem c_stg {t b : ℕ} (hop : ops[n]? = some (.stg t b)) {inb} {w : Vec F S1x1x128x512 .bf16} {hx hm} (hw : w = k0_pay572 (part I c (jt t) b))
    {k : PUnit → Prog (TpuEff nD τ sig (Elt F) Λ₀ .tc) α} (hk : SC I K c (n + 1) o nq nk nv na ⊢ WP c (k ⟨⟩) Q) :
    SC I K c n o nq nk nv na ⊢ WP c (Prog.lift (.store (Memref.whole cc0_scratch5) (Rect.unit (s := S7x2x128x512) ![t, b, 0, 0] S1x1x128x512.size inb) w Finset.univ hx hm) >>= k) Q :=
  toC (r_stg hop hw (ofC hk))

/-- The fragment a device turns to next, by the heads of queries it has stored. -/
theorem c_xn {off} (ho : off = ![(c.val + arr (nq / 8)) % 8, nq % 8 / 4 % 2, 0, 0]) (hm : (.xs (arr (nq / 8)) (nq % 8 / 4) (shOf (arr (nq / 8))) : Th) ∈ D n) {inb} {hl}
    {kk : ((Rect.unit (s := S8x2x128x512) off S1x1x128x512.size inb).toLoadRect.shape.Idx → Elt F cc0_scratch0.ty.elt) → Prog (TpuEff nD τ sig (Elt F) Λ₀ .tc) α}
    (hk : SC I K c n o nq nk nv na ⊢ WP c (kk (rd4 ![1, 1, 128, 512] (XG I) (kd c (nq / 8)) (nq % 8 / 4 % 2) 0 0)) Q) :
    SC I K c n o nq nk nv na ⊢ WP c (Prog.lift (.load (Memref.whole cc0_scratch0) (Rect.unit (s := S8x2x128x512) off S1x1x128x512.size inb).toLoadRect hl) >>= kk) Q :=
  c_x ho hm hk

theorem c_cs {off} (ho : off = ![128 * kd c (nq / 8), 0]) {inb} {hl}
    {kk : ((Rect.unit (s := S1024x256) off S128x256.size inb).toLoadRect.shape.Idx → Elt F cc0_stg5_0.ty.elt) → Prog (TpuEff nD τ sig (Elt F) Λ₀ .tc) α}
    (hk : SC I K c n o nq nk nv na ⊢ WP c (kk (tabR (I.cs c) (kd c (nq / 8)))) Q) :
    SC I K c n o nq nk nv na ⊢ WP c (Prog.lift (.load (Memref.whole cc0_stg5_0) (Rect.unit (s := S1024x256) off S128x256.size inb).toLoadRect hl) >>= kk) Q :=
  in_cs (Nat.mod_lt _ (by decide)) ho hk

theorem c_sn {off} (ho : off = ![128 * kd c (nq / 8), 0]) {inb} {hl}
    {kk : ((Rect.unit (s := S1024x256) off S128x256.size inb).toLoadRect.shape.Idx → Elt F cc0_stg6_0.ty.elt) → Prog (TpuEff nD τ sig (Elt F) Λ₀ .tc) α}
    (hk : SC I K c n o nq nk nv na ⊢ WP c (kk (tabR (I.sn c) (kd c (nq / 8)))) Q) :
    SC I K c n o nq nk nv na ⊢ WP c (Prog.lift (.load (Memref.whole cc0_stg6_0) (Rect.unit (s := S1024x256) off S128x256.size inb).toLoadRect hl) >>= kk) Q :=
  in_sn (Nat.mod_lt _ (by decide)) ho hk

/-- Of one operation. -/
theorem lifted {S : sProp (MM F)} {e : TpuEff nD τ sig (Elt F) Λ₀ .tc α} (h : S ⊢ WP c (Prog.lift e) Q) : S ⊢ WP c (Prog.lift e) Q := h

/-- Of a wait. -/
theorem at_wait {S : sProp (MM F)} {i : DmaSem sig} {sp sp' : Space} {s s' : Shape} {e e' : EltTy}
    {src : Memref sig .tc sp' s' e'} {dst : Memref sig .tc sp s e} {hsrc : src.view.WordExact} {hdst : dst.view.WordExact}
    {k : PUnit → Prog (TpuEff nD τ sig (Elt F) Λ₀ .tc) α}
    (h : S ⊢ WP c (Prog.lift (.waitDma2 i src dst hsrc hdst) >>= k) Q) : S ⊢ WP c (Prog.lift (.waitDma2 i src dst hsrc hdst) >>= k) Q := h

/-- Of a send of a fragment. -/
theorem at_send {S : sProp (MM F)} {r h} {s : Shape} {hs} {sp : Space} {tgt : DmaTarget nD τ sig .tc sp s .bf16} {qR hsrc hdst hsem}
    {k : PUnit → Prog (TpuEff nD τ sig (Elt F) Λ₀ .tc) α}
    (hh : S ⊢ WP c (Prog.lift (.enqueueDma (((Memref.whole cc0_scratch0).slice r h).squeeze s hs) tgt qR hsrc hdst hsem) >>= k) Q) :
    S ⊢ WP c (Prog.lift (.enqueueDma (((Memref.whole cc0_scratch0).slice r h).squeeze s hs) tgt qR hsrc hdst hsem) >>= k) Q := hh

/-- Of a send of a part. -/
theorem at_rs {S : sProp (MM F)} {r h} {s : Shape} {hs} {sp : Space} {tgt : DmaTarget nD τ sig .tc sp s .bf16} {qR hsrc hdst hsem}
    {k : PUnit → Prog (TpuEff nD τ sig (Elt F) Λ₀ .tc) α}
    (hh : S ⊢ WP c (Prog.lift (.enqueueDma (((Memref.whole cc0_scratch5).slice r h).squeeze s hs) tgt qR hsrc hdst hsem) >>= k) Q) :
    S ⊢ WP c (Prog.lift (.enqueueDma (((Memref.whole cc0_scratch5).slice r h).squeeze s hs) tgt qR hsrc hdst hsem) >>= k) Q := hh

/-- Of a store to the result. -/
theorem at_out {S : sProp (MM F)} {r : Rect S2x128x512} {w : r.shape.Idx → Elt F .f32} {hx hm}
    {k : PUnit → Prog (TpuEff nD τ sig (Elt F) Λ₀ .tc) α}
    (h : S ⊢ WP c (Prog.lift (.store (Memref.whole cc0_stg8_0) r w Finset.univ hx hm) >>= k) Q) :
    S ⊢ WP c (Prog.lift (.store (Memref.whole cc0_stg8_0) r w Finset.univ hx hm) >>= k) Q := h

/-- An operation that ends a part. -/
theorem tail {S : sProp (MM F)} {e : TpuEff nD τ sig (Elt F) Λ₀ .tc α}
    (h : S ⊢ WP c (Prog.lift e >>= fun x => pure x) Q) : S ⊢ WP c (Prog.lift e) Q := h

end Cert.Rope

end
-- ==== Proof.Window1.lean ====
module

public import proofs.«01_k».proof.Proof.Steps

/-! The first window of the body: the weights, the barrier, and the chunks that arrive as numbers 0 to 3. -/

@[expose] public section

noncomputable section

namespace Cert.Rope

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (I : Ins F) (c : Dev nD) (K : Names)

set_option maxHeartbeats 0 in
set_option maxRecDepth 20000 in
theorem window1 {Q : _ → sProp (MM F)}
    (hQ : ∀ v2 v14 v25, SC I K c 32 0 36 36 72 48 ⊢ Q ⟨c, v2, v14, v25, k0_pay1 (I.wq c), k0_pay2 (I.wk c), k0_pay3 (I.wv c), k0_pay4 (I.wo c), k0_pay5 (I.pm c),
      k0_pay273 (tabR (I.cs c) (kd c 4)), k0_pay274 (tabR (I.sn c) (kd c 4)), k0_pay296 (xbk I c 4 1), constant S128x256 .f32 0x00000000#32⟩) :
    SC I K c 0 0 0 0 0 0 ⊢ WP c (k0_part174 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12) Q := by
  rw [k0_part174_eq_skeleton]
  unfold k0_part174_skel
  refine bnd ?_
  rw [k0_part1_eq_skeleton]
  unfold k0_part1_skel
  refine s_dev ?_
  refine c_sig rfl (by clear * - c; revert c; decide +kernel) ?_
  refine c_sig rfl (by clear * - c; revert c; decide +kernel) ?_
  refine c_bar rfl ?_
  refine ret ?_
  refine bnd ?_
  rw [k0_part2_eq_skeleton]
  unfold k0_part2_skel
  refine in_wq (by decide) ?_
  refine in_wk (by decide) ?_
  refine in_wv (by decide) ?_
  refine in_wo (by decide) ?_
  refine in_pm (by decide) ?_
  refine in_x (by decide) ?_
  refine c_peek (by decide +kernel) fun _ => ?_
  refine c_own rfl ?_
  repeat (first
    | ((with_reducible refine ld_q ?_ ?_); exact (by decide))
    | ((with_reducible refine peek_q fun x => ?_); try clear x)
    | ((with_reducible refine st_q ?_ ?_ ?_ ?_ ?_); exact rfl; exact rfl; exact rfl; exact rfl)
    | ((with_reducible refine ld_k ?_ ?_); exact (by decide))
    | ((with_reducible refine peek_k fun x => ?_); try clear x)
    | ((with_reducible refine st_k ?_ ?_ ?_ ?_ ?_); exact rfl; exact rfl; exact rfl; exact rfl)
    | ((with_reducible refine ld_v ?_ ?_); exact (by decide))
    | ((with_reducible refine peek_v fun x => ?_); try clear x)
    | ((with_reducible refine st_v ?_ ?_ ?_ ?_ ?_ ?_); exact rfl; exact rfl; exact rfl; exact rfl; exact rfl)
    | ((with_reducible refine st_skip ?_ ?_ ?_); exact rfl; exact (by decide))
    | ((with_reducible refine ld_a ?_ ?_); exact (by decide))
    | ((with_reducible refine peek_a fun x => ?_); try clear x)
    | ((with_reducible refine st_a0 ?_ ?_ ?_ ?_ ?_ ?_); exact rfl; exact rfl; exact rfl; exact rfl; exact rfl)
    | ((with_reducible refine st_a1 ?_ ?_ ?_ ?_ ?_ ?_); exact rfl; exact rfl; exact rfl; exact rfl; exact rfl)
    | (with_reducible refine ret ?_)
    | (with_reducible refine tail ?_)
    | ((with_reducible refine c_cs ?_ ?_); (clear * - c; revert c; decide +kernel))
    | ((with_reducible refine c_sn ?_ ?_); (clear * - c; revert c; decide +kernel))
    | ((with_reducible refine c_xn ?_ ?_ ?_); (clear * - c; revert c; decide +kernel); (decide +kernel))
    | refine c_split rfl ?_
    | ((with_reducible refine bnd ?_)
       fail_if_success (with_reducible refine lifted ?_)
       first
         | (rw [k0_part3_eq_skeleton]; unfold k0_part3_skel)
         | (rw [k0_part4_eq_skeleton]; unfold k0_part4_skel)
         | (rw [k0_part5_eq_skeleton]; unfold k0_part5_skel)
         | (rw [k0_part6_eq_skeleton]; unfold k0_part6_skel)
         | (rw [k0_part7_eq_skeleton]; unfold k0_part7_skel)
         | (rw [k0_part8_eq_skeleton]; unfold k0_part8_skel)
         | (rw [k0_part9_eq_skeleton]; unfold k0_part9_skel)
         | (rw [k0_part10_eq_skeleton]; unfold k0_part10_skel)
         | (rw [k0_part11_eq_skeleton]; unfold k0_part11_skel)
         | (rw [k0_part12_eq_skeleton]; unfold k0_part12_skel)
         | (rw [k0_part13_eq_skeleton]; unfold k0_part13_skel)
         | (rw [k0_part14_eq_skeleton]; unfold k0_part14_skel)
         | (rw [k0_part15_eq_skeleton]; unfold k0_part15_skel)
         | (rw [k0_part16_eq_skeleton]; unfold k0_part16_skel)
         | (rw [k0_part17_eq_skeleton]; unfold k0_part17_skel)
         | (rw [k0_part18_eq_skeleton]; unfold k0_part18_skel)
         | (rw [k0_part19_eq_skeleton]; unfold k0_part19_skel)
         | (rw [k0_part20_eq_skeleton]; unfold k0_part20_skel)
         | (rw [k0_part21_eq_skeleton]; unfold k0_part21_skel)
         | (rw [k0_part22_eq_skeleton]; unfold k0_part22_skel)
         | (rw [k0_part23_eq_skeleton]; unfold k0_part23_skel)
         | (rw [k0_part24_eq_skeleton]; unfold k0_part24_skel)
         | (rw [k0_part25_eq_skeleton]; unfold k0_part25_skel)
         | (rw [k0_part26_eq_skeleton]; unfold k0_part26_skel)
         | (rw [k0_part27_eq_skeleton]; unfold k0_part27_skel)
         | (rw [k0_part28_eq_skeleton]; unfold k0_part28_skel)
         | (rw [k0_part29_eq_skeleton]; unfold k0_part29_skel)
         | (rw [k0_part30_eq_skeleton]; unfold k0_part30_skel)
         | (rw [k0_part31_eq_skeleton]; unfold k0_part31_skel)
         | (rw [k0_part32_eq_skeleton]; unfold k0_part32_skel)
         | (rw [k0_part33_eq_skeleton]; unfold k0_part33_skel)
         | (rw [k0_part34_eq_skeleton]; unfold k0_part34_skel)
         | (rw [k0_part35_eq_skeleton]; unfold k0_part35_skel)
         | (rw [k0_part36_eq_skeleton]; unfold k0_part36_skel)
         | (rw [k0_part37_eq_skeleton]; unfold k0_part37_skel)
         | (rw [k0_part38_eq_skeleton]; unfold k0_part38_skel)
         | (rw [k0_part39_eq_skeleton]; unfold k0_part39_skel)
         | (rw [k0_part40_eq_skeleton]; unfold k0_part40_skel)
         | (rw [k0_part41_eq_skeleton]; unfold k0_part41_skel)
         | (rw [k0_part42_eq_skeleton]; unfold k0_part42_skel)
         | (rw [k0_part43_eq_skeleton]; unfold k0_part43_skel)
         | (rw [k0_part44_eq_skeleton]; unfold k0_part44_skel)
         | (rw [k0_part45_eq_skeleton]; unfold k0_part45_skel)
         | (rw [k0_part46_eq_skeleton]; unfold k0_part46_skel)
         | (rw [k0_part47_eq_skeleton]; unfold k0_part47_skel)
         | (rw [k0_part48_eq_skeleton]; unfold k0_part48_skel)
         | (rw [k0_part49_eq_skeleton]; unfold k0_part49_skel)
         | (rw [k0_part50_eq_skeleton]; unfold k0_part50_skel)
         | (rw [k0_part51_eq_skeleton]; unfold k0_part51_skel)
         | (rw [k0_part52_eq_skeleton]; unfold k0_part52_skel)
         | (rw [k0_part53_eq_skeleton]; unfold k0_part53_skel)
         | (rw [k0_part54_eq_skeleton]; unfold k0_part54_skel)
         | (rw [k0_part55_eq_skeleton]; unfold k0_part55_skel)
         | (rw [k0_part56_eq_skeleton]; unfold k0_part56_skel)
         | (rw [k0_part57_eq_skeleton]; unfold k0_part57_skel)
         | (rw [k0_part58_eq_skeleton]; unfold k0_part58_skel)
         | (rw [k0_part59_eq_skeleton]; unfold k0_part59_skel)
         | (rw [k0_part60_eq_skeleton]; unfold k0_part60_skel))
    | ((with_reducible refine at_wait ?_); refine c_wait rfl rfl rfl ?_)
    | ((with_reducible refine at_send ?_); refine c_send rfl (by clear * - c; revert c; decide +kernel) rfl rfl (by clear * - c; revert c; decide +kernel) ?_))
  exact hQ _ _ _

end Cert.Rope
-- ==== Proof.Window2.lean ====
module

public import proofs.«01_k».proof.Proof.Steps

/-! The second window of the body: the later chunks, and the first part sent out. -/

@[expose] public section

noncomputable section

namespace Cert.Rope

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (I : Ins F) (c : Dev nD) (K : Names)

set_option maxHeartbeats 0 in
set_option maxRecDepth 20000 in
theorem window2 {v2 v14 v25 : BitVec 32} {Q : _ → sProp (MM F)}
    (hQ : ∀ w, SC I K c 45 0 64 64 128 128 ⊢ Q ⟨w, ctx I c 4 0 0, ctx I c 4 0 1, ctx I c 4 0 2, k0_pay564 (rq I c 128 0 3 512), rk I c 512 0 3 512⟩) :
    SC I K c 32 0 36 36 72 48 ⊢ WP c (k0_part175 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c v2 v14 v25 (k0_pay1 (I.wq c)) (k0_pay2 (I.wk c)) (k0_pay3 (I.wv c)) (k0_pay4 (I.wo c)) (k0_pay5 (I.pm c))
      (k0_pay273 (tabR (I.cs c) (kd c 4))) (k0_pay274 (tabR (I.sn c) (kd c 4))) (k0_pay296 (xbk I c 4 1)) (constant S128x256 .f32 0x00000000#32)) Q := by
  rw [k0_part175_eq_skeleton]
  unfold k0_part175_skel
  repeat (first
    | ((with_reducible refine ld_q ?_ ?_); exact (by decide))
    | ((with_reducible refine peek_q fun x => ?_); try clear x)
    | ((with_reducible refine st_q ?_ ?_ ?_ ?_ ?_); exact rfl; exact rfl; exact rfl; exact rfl)
    | ((with_reducible refine ld_k ?_ ?_); exact (by decide))
    | ((with_reducible refine peek_k fun x => ?_); try clear x)
    | ((with_reducible refine st_k ?_ ?_ ?_ ?_ ?_); exact rfl; exact rfl; exact rfl; exact rfl)
    | ((with_reducible refine ld_v ?_ ?_); exact (by decide))
    | ((with_reducible refine peek_v fun x => ?_); try clear x)
    | ((with_reducible refine st_v ?_ ?_ ?_ ?_ ?_ ?_); exact rfl; exact rfl; exact rfl; exact rfl; exact rfl)
    | ((with_reducible refine st_skip ?_ ?_ ?_); exact rfl; exact (by decide))
    | ((with_reducible refine ld_a ?_ ?_); exact (by decide))
    | ((with_reducible refine peek_a fun x => ?_); try clear x)
    | ((with_reducible refine st_a0 ?_ ?_ ?_ ?_ ?_ ?_); exact rfl; exact rfl; exact rfl; exact rfl; exact rfl)
    | ((with_reducible refine st_a1 ?_ ?_ ?_ ?_ ?_ ?_); exact rfl; exact rfl; exact rfl; exact rfl; exact rfl)
    | (with_reducible refine ret ?_)
    | (with_reducible refine tail ?_)
    | ((with_reducible refine c_cs ?_ ?_); (clear * - c; revert c; decide +kernel))
    | ((with_reducible refine c_sn ?_ ?_); (clear * - c; revert c; decide +kernel))
    | ((with_reducible refine c_xn ?_ ?_ ?_); (clear * - c; revert c; decide +kernel); (decide +kernel))
    | ((with_reducible refine c_sgpeek ?_ fun x => ?_); exact (by decide +kernel); try clear x)
    | refine c_split rfl ?_
    | ((with_reducible refine bnd ?_)
       fail_if_success (with_reducible refine lifted ?_)
       first
         | (rw [k0_part61_eq_skeleton]; unfold k0_part61_skel)
         | (rw [k0_part62_eq_skeleton]; unfold k0_part62_skel)
         | (rw [k0_part63_eq_skeleton]; unfold k0_part63_skel)
         | (rw [k0_part64_eq_skeleton]; unfold k0_part64_skel)
         | (rw [k0_part65_eq_skeleton]; unfold k0_part65_skel)
         | (rw [k0_part66_eq_skeleton]; unfold k0_part66_skel)
         | (rw [k0_part67_eq_skeleton]; unfold k0_part67_skel)
         | (rw [k0_part68_eq_skeleton]; unfold k0_part68_skel)
         | (rw [k0_part69_eq_skeleton]; unfold k0_part69_skel)
         | (rw [k0_part70_eq_skeleton]; unfold k0_part70_skel)
         | (rw [k0_part71_eq_skeleton]; unfold k0_part71_skel)
         | (rw [k0_part72_eq_skeleton]; unfold k0_part72_skel)
         | (rw [k0_part73_eq_skeleton]; unfold k0_part73_skel)
         | (rw [k0_part74_eq_skeleton]; unfold k0_part74_skel)
         | (rw [k0_part75_eq_skeleton]; unfold k0_part75_skel)
         | (rw [k0_part76_eq_skeleton]; unfold k0_part76_skel)
         | (rw [k0_part77_eq_skeleton]; unfold k0_part77_skel)
         | (rw [k0_part78_eq_skeleton]; unfold k0_part78_skel)
         | (rw [k0_part79_eq_skeleton]; unfold k0_part79_skel)
         | (rw [k0_part80_eq_skeleton]; unfold k0_part80_skel)
         | (rw [k0_part81_eq_skeleton]; unfold k0_part81_skel)
         | (rw [k0_part82_eq_skeleton]; unfold k0_part82_skel)
         | (rw [k0_part83_eq_skeleton]; unfold k0_part83_skel)
         | (rw [k0_part84_eq_skeleton]; unfold k0_part84_skel)
         | (rw [k0_part85_eq_skeleton]; unfold k0_part85_skel)
         | (rw [k0_part86_eq_skeleton]; unfold k0_part86_skel)
         | (rw [k0_part87_eq_skeleton]; unfold k0_part87_skel)
         | (rw [k0_part88_eq_skeleton]; unfold k0_part88_skel)
         | (rw [k0_part89_eq_skeleton]; unfold k0_part89_skel)
         | (rw [k0_part90_eq_skeleton]; unfold k0_part90_skel)
         | (rw [k0_part91_eq_skeleton]; unfold k0_part91_skel)
         | (rw [k0_part92_eq_skeleton]; unfold k0_part92_skel)
         | (rw [k0_part93_eq_skeleton]; unfold k0_part93_skel)
         | (rw [k0_part94_eq_skeleton]; unfold k0_part94_skel)
         | (rw [k0_part95_eq_skeleton]; unfold k0_part95_skel)
         | (rw [k0_part96_eq_skeleton]; unfold k0_part96_skel)
         | (rw [k0_part97_eq_skeleton]; unfold k0_part97_skel)
         | (rw [k0_part98_eq_skeleton]; unfold k0_part98_skel)
         | (rw [k0_part99_eq_skeleton]; unfold k0_part99_skel)
         | (rw [k0_part100_eq_skeleton]; unfold k0_part100_skel)
         | (rw [k0_part101_eq_skeleton]; unfold k0_part101_skel)
         | (rw [k0_part102_eq_skeleton]; unfold k0_part102_skel)
         | (rw [k0_part103_eq_skeleton]; unfold k0_part103_skel)
         | (rw [k0_part104_eq_skeleton]; unfold k0_part104_skel)
         | (rw [k0_part105_eq_skeleton]; unfold k0_part105_skel)
         | (rw [k0_part106_eq_skeleton]; unfold k0_part106_skel)
         | (rw [k0_part107_eq_skeleton]; unfold k0_part107_skel)
         | (rw [k0_part108_eq_skeleton]; unfold k0_part108_skel)
         | (rw [k0_part109_eq_skeleton]; unfold k0_part109_skel)
         | (rw [k0_part110_eq_skeleton]; unfold k0_part110_skel)
         | (rw [k0_part111_eq_skeleton]; unfold k0_part111_skel)
         | (rw [k0_part112_eq_skeleton]; unfold k0_part112_skel)
         | (rw [k0_part113_eq_skeleton]; unfold k0_part113_skel)
         | (rw [k0_part114_eq_skeleton]; unfold k0_part114_skel)
         | (rw [k0_part115_eq_skeleton]; unfold k0_part115_skel)
         | (rw [k0_part116_eq_skeleton]; unfold k0_part116_skel)
         | (rw [k0_part117_eq_skeleton]; unfold k0_part117_skel))
    | ((with_reducible refine at_wait ?_); refine c_wait rfl rfl rfl ?_)
    | ((with_reducible refine at_send ?_); refine c_send rfl (by clear * - c; revert c; decide +kernel) rfl rfl (by clear * - c; revert c; decide +kernel) ?_))
  repeat (first
    | ((with_reducible refine ld_q ?_ ?_); exact (by decide))
    | ((with_reducible refine ld_k ?_ ?_); exact (by decide))
    | ((with_reducible refine ld_v ?_ ?_); exact (by decide))
    | ((with_reducible refine ld_a ?_ ?_); exact (by decide))
    | (with_reducible refine ret ?_)
    | (with_reducible refine tail ?_)
    | ((with_reducible refine c_sgpeek ?_ fun x => ?_); exact (by decide +kernel); try clear x)
    | ((with_reducible refine c_stg ?_ ?_ ?_); exact rfl; (unfold part ctx thru; exact rfl))
    | ((with_reducible refine bnd ?_)
       fail_if_success (with_reducible refine lifted ?_)
       first
         | (rw [k0_part118_eq_skeleton]; unfold k0_part118_skel)
         | (rw [k0_part119_eq_skeleton]; unfold k0_part119_skel)
         | (rw [k0_part120_eq_skeleton]; unfold k0_part120_skel))
    | ((with_reducible refine at_rs ?_); refine c_rn rfl (by clear * - c; revert c; decide +kernel) rfl rfl rfl rfl ?_))
  unfold ctx at hQ
  exact hQ _

end Cert.Rope
-- ==== Proof.Window3.lean ====
module

public import proofs.«01_k».proof.Proof.Steps

/-! The third window of the body: the parts sent out, the parts received, and the result. -/

@[expose] public section

noncomputable section

namespace Cert.Rope

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (I : Ins F) (c : Dev nD) (K : Names)

set_option maxHeartbeats 0 in
set_option maxRecDepth 20000 in
theorem window3 {v2 v25 w : BitVec 32} {Q : _ → sProp (MM F)}
    (hQ : SC I K c 88 2 64 64 128 128 ⊢ Q ⟨⟩) :
    SC I K c 45 0 64 64 128 128 ⊢ WP c (k0_part176 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 c v2 v25 (k0_pay4 (I.wo c)) w (ctx I c 4 0 0) (ctx I c 4 0 1) (ctx I c 4 0 2) (k0_pay564 (rq I c 128 0 3 512)) (rk I c 512 0 3 512)) Q := by
  unfold ctx
  rw [k0_part176_eq_skeleton]
  unfold k0_part176_skel
  repeat (first
    | ((with_reducible refine ld_q ?_ ?_); exact (by decide))
    | ((with_reducible refine ld_k ?_ ?_); exact (by decide))
    | ((with_reducible refine ld_v ?_ ?_); exact (by decide))
    | ((with_reducible refine ld_a ?_ ?_); exact (by decide))
    | (with_reducible refine ret ?_)
    | (with_reducible refine tail ?_)
    | ((with_reducible refine c_ri ?_ ?_); exact (by decide +kernel))
    | ((with_reducible refine c_sgpeek ?_ fun x => ?_); exact (by decide +kernel); try clear x)
    | ((with_reducible refine c_stg ?_ ?_ ?_); exact rfl; (unfold part ctx thru; exact rfl))
    | ((with_reducible refine out_peek fun x => ?_); try clear x)
    | ((with_reducible refine bnd ?_)
       fail_if_success (with_reducible refine lifted ?_)
       first
         | (rw [k0_part121_eq_skeleton]; unfold k0_part121_skel)
         | (rw [k0_part122_eq_skeleton]; unfold k0_part122_skel)
         | (rw [k0_part123_eq_skeleton]; unfold k0_part123_skel)
         | (rw [k0_part124_eq_skeleton]; unfold k0_part124_skel)
         | (rw [k0_part125_eq_skeleton]; unfold k0_part125_skel)
         | (rw [k0_part126_eq_skeleton]; unfold k0_part126_skel)
         | (rw [k0_part127_eq_skeleton]; unfold k0_part127_skel)
         | (rw [k0_part128_eq_skeleton]; unfold k0_part128_skel)
         | (rw [k0_part129_eq_skeleton]; unfold k0_part129_skel)
         | (rw [k0_part130_eq_skeleton]; unfold k0_part130_skel)
         | (rw [k0_part131_eq_skeleton]; unfold k0_part131_skel)
         | (rw [k0_part132_eq_skeleton]; unfold k0_part132_skel)
         | (rw [k0_part133_eq_skeleton]; unfold k0_part133_skel)
         | (rw [k0_part134_eq_skeleton]; unfold k0_part134_skel)
         | (rw [k0_part135_eq_skeleton]; unfold k0_part135_skel)
         | (rw [k0_part136_eq_skeleton]; unfold k0_part136_skel)
         | (rw [k0_part137_eq_skeleton]; unfold k0_part137_skel)
         | (rw [k0_part138_eq_skeleton]; unfold k0_part138_skel)
         | (rw [k0_part139_eq_skeleton]; unfold k0_part139_skel)
         | (rw [k0_part140_eq_skeleton]; unfold k0_part140_skel)
         | (rw [k0_part141_eq_skeleton]; unfold k0_part141_skel)
         | (rw [k0_part142_eq_skeleton]; unfold k0_part142_skel)
         | (rw [k0_part143_eq_skeleton]; unfold k0_part143_skel)
         | (rw [k0_part144_eq_skeleton]; unfold k0_part144_skel)
         | (rw [k0_part145_eq_skeleton]; unfold k0_part145_skel)
         | (rw [k0_part146_eq_skeleton]; unfold k0_part146_skel)
         | (rw [k0_part147_eq_skeleton]; unfold k0_part147_skel)
         | (rw [k0_part148_eq_skeleton]; unfold k0_part148_skel)
         | (rw [k0_part149_eq_skeleton]; unfold k0_part149_skel)
         | (rw [k0_part150_eq_skeleton]; unfold k0_part150_skel)
         | (rw [k0_part151_eq_skeleton]; unfold k0_part151_skel)
         | (rw [k0_part152_eq_skeleton]; unfold k0_part152_skel)
         | (rw [k0_part153_eq_skeleton]; unfold k0_part153_skel)
         | (rw [k0_part154_eq_skeleton]; unfold k0_part154_skel)
         | (rw [k0_part155_eq_skeleton]; unfold k0_part155_skel)
         | (rw [k0_part156_eq_skeleton]; unfold k0_part156_skel)
         | (rw [k0_part157_eq_skeleton]; unfold k0_part157_skel)
         | (rw [k0_part158_eq_skeleton]; unfold k0_part158_skel)
         | (rw [k0_part159_eq_skeleton]; unfold k0_part159_skel)
         | (rw [k0_part160_eq_skeleton]; unfold k0_part160_skel)
         | (rw [k0_part161_eq_skeleton]; unfold k0_part161_skel)
         | (rw [k0_part162_eq_skeleton]; unfold k0_part162_skel)
         | (rw [k0_part163_eq_skeleton]; unfold k0_part163_skel)
         | (rw [k0_part164_eq_skeleton]; unfold k0_part164_skel)
         | (rw [k0_part165_eq_skeleton]; unfold k0_part165_skel)
         | (rw [k0_part166_eq_skeleton]; unfold k0_part166_skel)
         | (rw [k0_part167_eq_skeleton]; unfold k0_part167_skel)
         | (rw [k0_part168_eq_skeleton]; unfold k0_part168_skel)
         | (rw [k0_part169_eq_skeleton]; unfold k0_part169_skel)
         | (rw [k0_part170_eq_skeleton]; unfold k0_part170_skel)
         | (rw [k0_part171_eq_skeleton]; unfold k0_part171_skel)
         | (rw [k0_part172_eq_skeleton]; unfold k0_part172_skel)
         | (rw [k0_part173_eq_skeleton]; unfold k0_part173_skel))
    | ((with_reducible refine at_out ?_); refine out_batch (by decide) ?_ ?_; (unfold outRow addIn part ctx thru; exact rfl))
    | ((with_reducible refine at_wait ?_); refine c_wait rfl rfl rfl ?_)
    | ((with_reducible refine at_rs ?_); refine c_rn rfl (by clear * - c; revert c; decide +kernel) rfl rfl rfl rfl ?_))
  exact hQ

end Cert.Rope
-- ==== Proof.Body.lean ====
module

public import proofs.«01_k».proof.Proof.Window1
public import proofs.«01_k».proof.Proof.Window2
public import proofs.«01_k».proof.Proof.Window3

/-! The whole body of the kernel, from its first step to its last. -/

@[expose] public section

noncomputable section

namespace Cert.Rope

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (I : Ins F) (c : Dev nD) (K : Names)

set_option maxHeartbeats 0 in
set_option maxRecDepth 20000 in
theorem body {Q : _ → sProp (MM F)} (hQ : SC I K c 91 2 64 64 128 128 ⊢ Q ⟨⟩) :
    SC I K c 0 0 0 0 0 0 ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12) Q := by
  rw [cc0_body_eq_skeleton]
  unfold cc0_body_skel
  refine bnd ?_
  refine window1 I c K fun v2 v14 v25 => ?_
  refine bnd ?_
  refine window2 I c K fun w => ?_
  refine bnd ?_
  refine window3 I c K ?_
  refine c_wait rfl rfl rfl ?_
  refine c_wait rfl rfl rfl ?_
  refine c_wait rfl rfl rfl ?_
  exact ret hQ

end Cert.Rope

end
-- ==== Proof.Launch.lean ====
module

public import proofs.«01_k».proof.Proof.Slots
public import proofs.«01_k».proof.Proof.Body
public import Idealize.ShloMosaic.Lib.Pipeline.CollectiveSegs

/-! The launch: what each device starts from, what it ends with, and the run of the whole program. -/

@[expose] public section

noncomputable section

namespace Cert.Rope

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ) (ρ : Dev nD → PrngReg)

/-- The memory the program starts from. -/
def s₀ : MemSt nD τ sig (Elt F) := ⟨m, fun _ => 0, ρ⟩

/-- The inputs, as the staging buffers receive them. -/
def insOf : Ins F where
  x c := (win0_0.blk (0 : Fin 1)).view.read (Elt F) (m ((c : Thread nD τ).loc main_arg0))
  wq c := (win0_1.blk (0 : Fin 1)).view.read (Elt F) (m ((c : Thread nD τ).loc main_arg1))
  wk c := (win0_2.blk (0 : Fin 1)).view.read (Elt F) (m ((c : Thread nD τ).loc main_arg2))
  wv c := (win0_3.blk (0 : Fin 1)).view.read (Elt F) (m ((c : Thread nD τ).loc main_arg3))
  wo c := (win0_4.blk (0 : Fin 1)).view.read (Elt F) (m ((c : Thread nD τ).loc main_arg4))
  cs c := (win0_5.blk (0 : Fin 1)).view.read (Elt F) (m ((c : Thread nD τ).loc main_arg5))
  sn c := (win0_6.blk (0 : Fin 1)).view.read (Elt F) (m ((c : Thread nD τ).loc main_arg6))
  pm c := (win0_7.blk (0 : Fin 1)).view.read (Elt F) (m ((c : Thread nD τ).loc main_arg7))

def t₀ : Fin cfg0.N := t0_0
theorem fin_N (t : Fin cfg0.N) : t = t₀ := fin_N0 t

/-- What the launch gives a device besides its buffers. -/
def start (c : Dev nD) : sProp (MM F) :=
  iprop(∃ K : Names, records (insOf m) K ∗ All (Res (insOf m) c) (ops.flatMap pend))

def Φ₀ (c : Dev nD) : sProp (MM F) :=
  iprop(start m c ∗ All (Res (insOf m) c) (D 0) ∗ HQ (insOf m) c 0 ∗ HK (insOf m) c 0 ∗ HV (insOf m) c 0 ∗ HA (insOf m) c 0)

def Φ₁ (c : Dev nD) : sProp (MM F) :=
  iprop(All (Res (insOf m) c) (D 91) ∗ HQ (insOf m) c 64 ∗ HK (insOf m) c 64 ∗ HV (insOf m) c 128 ∗ HA (insOf m) c 128)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m).x c
    | ⟨1, _⟩ => (insOf m).wq c
    | ⟨2, _⟩ => (insOf m).wk c
    | ⟨3, _⟩ => (insOf m).wv c
    | ⟨4, _⟩ => (insOf m).wo c
    | ⟨5, _⟩ => (insOf m).cs c
    | ⟨6, _⟩ => (insOf m).sn c
    | ⟨7, _⟩ => (insOf m).pm c
    | ⟨8, _⟩ => outAll (insOf m) c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ### The staging buffers around the body -/

/-- A staging buffer whole at given contents. -/
def stg (c : Dev nD) (b : Ref sig .tc) (X : b.ty.Contents (Elt F)) : sProp (MM F) :=
  iprop(∃ f : Buf (Elt F) ((c : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp (MM F)) = stg c b X := by
  unfold owns stg; simp only [Memref.view_whole, View.read_whole, View.set_whole]

theorem stg_held (c : Dev nD) (b : Ref sig .tc) {P : b.ty.Idx → Prop} {X G : b.ty.Contents (Elt F)} (h : ∀ i, P i → X i = G i) :
    stg c b X ⊢ Held c b P G := by
  unfold stg Held
  iintro ⟨%f, %hf, H⟩
  iexists f
  isplitr
  · ipureintro; subst hf; exact h
  · iexact H

theorem held_stg (c : Dev nD) (b : Ref sig .tc) {P : b.ty.Idx → Prop} {G : b.ty.Contents (Elt F)} (h : ∀ i, P i) :
    Held c b P G ⊢ stg c b G := by
  unfold stg Held
  iintro ⟨%f, %hf, H⟩
  iexists f
  isplitr
  · ipureintro; exact funext fun i => hf i (h i)
  · iexact H

/-- What is held of a buffer of which nothing is known. -/
theorem held_of (c : Dev nD) (b : Ref sig .tc) {P : b.ty.Idx → Prop} {G : b.ty.Contents (Elt F)} (h : ∀ i, ¬ P i) :
    (iprop(∃ f : Buf (Elt F) ((c : Thread nD τ).loc b), (((c : Thread nD τ).loc b) ↦{fullShare} f)) : sProp (MM F)) ⊢ Held c b P G := by
  unfold Held
  iintro ⟨%f, H⟩
  iexists f
  isplitr
  · ipureintro; exact fun i hi => absurd hi (h i)
  · iexact H

theorem held_any (c : Dev nD) (b : Ref sig .tc) {P : b.ty.Idx → Prop} {G : b.ty.Contents (Elt F)} :
    Held c b P G ⊢ (iprop(∃ f : Buf (Elt F) ((c : Thread nD τ).loc b), (((c : Thread nD τ).loc b) ↦{fullShare} f)) : sProp (MM F)) := by
  unfold Held
  iintro ⟨%f, -, H⟩
  iexists f
  iexact H

theorem bef_in (c : Dev nD) (b : Ref sig .tc) {B : b.ty.Contents (Elt F) → b.ty.Contents (Elt F)} {X : b.ty.Contents (Elt F)} (h : ∀ d, B d = X) :
    (iprop(∃ d, stg c b (B d)) : sProp (MM F)) ⊢ full c b X := by
  iintro ⟨%d, H⟩
  rw [h d]
  iapply (stg_held c b (fun _ _ => rfl)); iexact H

theorem bef_out (c : Dev nD) (b : Ref sig .tc) {B : b.ty.Contents (Elt F) → b.ty.Contents (Elt F)} {P : b.ty.Idx → Prop} {G : b.ty.Contents (Elt F)} (h : ∀ i, ¬ P i) :
    (iprop(∃ d, stg c b (B d)) : sProp (MM F)) ⊢ Held c b P G := by
  iintro ⟨%d, H⟩
  iapply (stg_held c b (fun i hi => absurd hi (h i))); iexact H

theorem Inp_eq (I : Ins F) (c : Dev nD) : Inp I c = iprop(full c cc0_stg0_0 (I.x c) ∗ full c cc0_stg1_0 (I.wq c) ∗ full c cc0_stg2_0 (I.wk c) ∗ full c cc0_stg3_0 (I.wv c) ∗ full c cc0_stg4_0 (I.wo c) ∗ full c cc0_stg5_0 (I.cs c) ∗ full c cc0_stg6_0 (I.sn c) ∗ full c cc0_stg7_0 (I.pm c)) :=
  bigSep_univ_eq_bigSepL [(0 : Fin 8), 1, 2, 3, 4, 5, 6, 7] (by decide) (by decide) (inp I c)

theorem bef_0 (c : Dev nD) (d) : (dats m ρ 0 c).before (0 : Fin 9) t₀ d = (insOf m).x c := by
  unfold Dat.before; rw [if_pos (show (cfg0.win (0 : Fin 9)).fetch t₀ = true from rfl)]; rfl
theorem bef_1 (c : Dev nD) (d) : (dats m ρ 0 c).before (1 : Fin 9) t₀ d = (insOf m).wq c := by
  unfold Dat.before; rw [if_pos (show (cfg0.win (1 : Fin 9)).fetch t₀ = true from rfl)]; rfl
theorem bef_2 (c : Dev nD) (d) : (dats m ρ 0 c).before (2 : Fin 9) t₀ d = (insOf m).wk c := by
  unfold Dat.before; rw [if_pos (show (cfg0.win (2 : Fin 9)).fetch t₀ = true from rfl)]; rfl
theorem bef_3 (c : Dev nD) (d) : (dats m ρ 0 c).before (3 : Fin 9) t₀ d = (insOf m).wv c := by
  unfold Dat.before; rw [if_pos (show (cfg0.win (3 : Fin 9)).fetch t₀ = true from rfl)]; rfl
theorem bef_4 (c : Dev nD) (d) : (dats m ρ 0 c).before (4 : Fin 9) t₀ d = (insOf m).wo c := by
  unfold Dat.before; rw [if_pos (show (cfg0.win (4 : Fin 9)).fetch t₀ = true from rfl)]; rfl
theorem bef_5 (c : Dev nD) (d) : (dats m ρ 0 c).before (5 : Fin 9) t₀ d = (insOf m).cs c := by
  unfold Dat.before; rw [if_pos (show (cfg0.win (5 : Fin 9)).fetch t₀ = true from rfl)]; rfl
theorem bef_6 (c : Dev nD) (d) : (dats m ρ 0 c).before (6 : Fin 9) t₀ d = (insOf m).sn c := by
  unfold Dat.before; rw [if_pos (show (cfg0.win (6 : Fin 9)).fetch t₀ = true from rfl)]; rfl
theorem bef_7 (c : Dev nD) (d) : (dats m ρ 0 c).before (7 : Fin 9) t₀ d = (insOf m).pm c := by
  unfold Dat.before; rw [if_pos (show (cfg0.win (7 : Fin 9)).fetch t₀ = true from rfl)]; rfl

theorem SC_eq {I : Ins F} {K : Names} {c : Dev nD} {n o nq nk nv na : ℕ} : SC I K c n o nq nk nv na
    = iprop(((Inp I c ∗ HO I c o) ∗ HQ I c nq ∗ HK I c nk ∗ HV I c nv ∗ HA I c na) ∗ Cm I K c n) := SS_C

/-- The body's own start and end, the staging buffers one by one. -/
def bodyPre (c : Dev nD) : sProp (MM F) :=
  iprop(Φ₀ m c ∗ (dats m ρ 0 c).owesAt () t₀.castSucc ∗ (∃ d, stg c cc0_stg0_0 ((dats m ρ 0 c).before (0 : Fin 9) t₀ d)) ∗ (∃ d, stg c cc0_stg1_0 ((dats m ρ 0 c).before (1 : Fin 9) t₀ d)) ∗ (∃ d, stg c cc0_stg2_0 ((dats m ρ 0 c).before (2 : Fin 9) t₀ d)) ∗ (∃ d, stg c cc0_stg3_0 ((dats m ρ 0 c).before (3 : Fin 9) t₀ d)) ∗ (∃ d, stg c cc0_stg4_0 ((dats m ρ 0 c).before (4 : Fin 9) t₀ d)) ∗ (∃ d, stg c cc0_stg5_0 ((dats m ρ 0 c).before (5 : Fin 9) t₀ d)) ∗ (∃ d, stg c cc0_stg6_0 ((dats m ρ 0 c).before (6 : Fin 9) t₀ d)) ∗ (∃ d, stg c cc0_stg7_0 ((dats m ρ 0 c).before (7 : Fin 9) t₀ d)) ∗ (∃ d, stg c cc0_stg8_0 ((dats m ρ 0 c).before (8 : Fin 9) t₀ d)))

def bodyPost (c : Dev nD) : sProp (MM F) :=
  iprop(Φ₁ m c ∗ (dats m ρ 0 c).owesAt () t₀.succ ∗ stg c cc0_stg0_0 ((insOf m).x c) ∗ stg c cc0_stg1_0 ((insOf m).wq c) ∗ stg c cc0_stg2_0 ((insOf m).wk c) ∗ stg c cc0_stg3_0 ((insOf m).wv c) ∗ stg c cc0_stg4_0 ((insOf m).wo c) ∗ stg c cc0_stg5_0 ((insOf m).cs c) ∗ stg c cc0_stg6_0 ((insOf m).sn c) ∗ stg c cc0_stg7_0 ((insOf m).pm c) ∗ stg c cc0_stg8_0 (outAll (insOf m) c))

theorem pre_open (c : Dev nD) : bodyPre m ρ c ⊢ iprop(∃ K : Names, SC (insOf m) K c 0 0 0 0 0 0) := by
  unfold bodyPre Φ₀ start Dat.owesAt Pipeline.owesWithin
  iintro ⟨⟨⟨%K, HR, HP⟩, HD, H1, H2, H3, H4⟩, ⟨%W, -, HO⟩, I0, I1, I2, I3, I4, I5, I6, I7, I8⟩
  iexists K
  rw [SC_eq, Inp_eq]
  unfold Cm Debt
  isplitr [HR HP HD HO]
  · isplitl [I0 I1 I2 I3 I4 I5 I6 I7 I8]
    · isplitr [I8]
      · isplitl [I0]; · iapply (bef_in c cc0_stg0_0 (bef_0 m ρ c)); iexact I0
        isplitl [I1]; · iapply (bef_in c cc0_stg1_0 (bef_1 m ρ c)); iexact I1
        isplitl [I2]; · iapply (bef_in c cc0_stg2_0 (bef_2 m ρ c)); iexact I2
        isplitl [I3]; · iapply (bef_in c cc0_stg3_0 (bef_3 m ρ c)); iexact I3
        isplitl [I4]; · iapply (bef_in c cc0_stg4_0 (bef_4 m ρ c)); iexact I4
        isplitl [I5]; · iapply (bef_in c cc0_stg5_0 (bef_5 m ρ c)); iexact I5
        isplitl [I6]; · iapply (bef_in c cc0_stg6_0 (bef_6 m ρ c)); iexact I6
        iapply (bef_in c cc0_stg7_0 (bef_7 m ρ c)); iexact I7
      · iapply (bef_out c _ (fun _ => Nat.not_lt_zero _)); iexact I8
    isplitl [H1]; · iexact H1
    isplitl [H2]; · iexact H2
    isplitl [H3]; · iexact H3
    iexact H4
  isplitl [HR]; · iexact HR
  isplitl [HO]; · iexists W; iexact HO
  isplitl [HP]; · iexact HP
  iexact HD

theorem post_close (K : Names) (c : Dev nD) : SC (insOf m) K c 91 2 64 64 128 128 ⊢ bodyPost m ρ c := by
  rw [SC_eq, Inp_eq]
  unfold bodyPost Φ₁ Cm Debt Dat.owesAt Pipeline.owesWithin
  rw [show (dats m ρ 0 c).owed t₀.succ = 0 from rfl, show (ops.drop 91).flatMap owe = [] from rfl]
  iintro ⟨⟨⟨⟨I0, I1, I2, I3, I4, I5, I6, I7⟩, I8⟩, H1, H2, H3, H4⟩, -, ⟨%W, HO⟩, -, HD⟩
  isplitl [HD H1 H2 H3 H4]
  · isplitl [HD]; · iexact HD
    isplitl [H1]; · iexact H1
    isplitl [H2]; · iexact H2
    isplitl [H3]; · iexact H3
    iexact H4
  isplitl [HO]
  · iexists W
    isplitr; · ipureintro; exact fun _ _ => Or.inl trivial
    iexact HO
  isplitl [I0]; · iapply (held_stg c _ (fun _ => trivial)); iexact I0
  isplitl [I1]; · iapply (held_stg c _ (fun _ => trivial)); iexact I1
  isplitl [I2]; · iapply (held_stg c _ (fun _ => trivial)); iexact I2
  isplitl [I3]; · iapply (held_stg c _ (fun _ => trivial)); iexact I3
  isplitl [I4]; · iapply (held_stg c _ (fun _ => trivial)); iexact I4
  isplitl [I5]; · iapply (held_stg c _ (fun _ => trivial)); iexact I5
  isplitl [I6]; · iapply (held_stg c _ (fun _ => trivial)); iexact I6
  isplitl [I7]; · iapply (held_stg c _ (fun _ => trivial)); iexact I7
  iapply (held_stg c cc0_stg8_0 (fun i => ((i : S2x128x512.Idx) 0).isLt)); iexact I8

theorem bigSep_W (Φ : Fin cfg0.W → sProp (MM F)) : bigSep Finset.univ Φ = iprop(Φ (0 : Fin 9) ∗ Φ (1 : Fin 9) ∗ Φ (2 : Fin 9) ∗ Φ (3 : Fin 9) ∗ Φ (4 : Fin 9) ∗ Φ (5 : Fin 9) ∗ Φ (6 : Fin 9) ∗ Φ (7 : Fin 9) ∗ Φ (8 : Fin 9)) := bigSep_W0 Φ

set_option maxRecDepth 100000 in
/-- The body, as the launch asks for it. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12) (fun _ => bodyPost m ρ c)
  refine (pre_open m ρ c).trans ?_
  iintro ⟨%K, H⟩
  iapply (body (insOf m) c K (post_close m ρ K c)); iexact H

/-! ### The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lev
        ∗ Pipeline.launchCred O₀ c ∗ prngReg c (ρ c) ∗ G' (insOf m) c)
      ⊢ |={Set.univ}=> iprop(start m c ∗ emp) := by
  unfold start G' records
  rw [All_perm _ pend_perm, All_append _ (toks ++ ixs.map Th.ap) (rcvs.map Th.cc)]
  iintro ⟨-, Hlev, Hcr, -, ⟨%K, ⟨HI, HR⟩, HT⟩⟩
  ihave Hc := (creds (insOf m) c) $$ Hcr
  imodintro
  isplitl
  · iexists K
    isplitl [HI HR Hlev]
    · isplitl [HI]; · iexact HI
      isplitl [HR]; · iexact HR
      iexact Hlev
    isplitl [HT]; · iexact HT
    iexact Hc
  · iempintro

theorem no_PA (b h row col : ℕ) : ¬ PA 0 b h row col := by
  unfold PA lv; omega

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  rw [D_zero, All_append, All_append]
  iintro ⟨Hs, -, ⟨%f0, H0⟩, H1, H2, H3, H4, ⟨%f5, H5⟩, ⟨%f6, H6⟩⟩
  isplitl [Hs]; · iexact Hs
  isplitl [H0 H5 H6]
  · isplitl [H0 H6]
    · isplitl [H0]; · iapply (split0 f0); iexact H0
      iapply (split6 f6); iexact H6
    iapply (split5 f5); iexact H5
  isplitl [H1]; · iapply (held_of c _ (fun _ => Nat.not_lt_zero _)); iexact H1
  isplitl [H2]; · iapply (held_of c _ (fun _ => Nat.not_lt_zero _)); iexact H2
  isplitl [H3]; · iapply (held_of c _ (fun _ => Nat.not_lt_zero _)); iexact H3
  iapply (held_of c _ (fun i => no_PA _ _ _ _)); iexact H4

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq]
  unfold Φ₁
  rw [All_perm _ D_end, All_append, All_append, All_append, ← sems_eq (insOf m) c]
  iintro ⟨⟨⟨⟨⟨Ho, Hu⟩, H0⟩, H6⟩, H5⟩, H1, H2, H3, H4⟩
  isplitl [Hu]; · iexact Hu
  isplitl [Ho]; · iexact Ho
  isplitl [H0]; · iapply (join0 (I := insOf m)); iexact H0
  isplitl [H1]; · iapply (held_any c); iexact H1
  isplitl [H2]; · iapply (held_any c); iexact H2
  isplitl [H3]; · iapply (held_any c); iexact H3
  isplitl [H4]; · iapply (held_any c); iexact H4
  isplitl [H5]; · iapply (join5 (I := insOf m)); iexact H5
  iapply (join6 (I := insOf m)); iexact H6

theorem wait_stage (c : Dev nD) (s : SemLoc sig) (hs : levN (ixOf s) = 0) (O : CellTallies nD τ sig Unit) (hO : O = O₀ c ∨ O = 0) :
    (levAts L lev : sProp (MM F)) ⊢ MayWait (c : Thread nD τ) s () O := by
  rcases hO with rfl | rfl
  · exact mayWait c s owes₀ fun p hp => by rw [hs]; exact owes_lev p hp
  · exact mayWait c s [] fun p hp => absurd hp (List.not_mem_nil)

theorem waits (c : Dev nD) : (levAts L lev : sProp (MM F)) ⊢ Pipeline.cellsWaits cfgs (dats m ρ) () 0 c :=
  Pipeline.cellsWaits_intro cfgs (dats m ρ) () 0 c fun w s t =>
    wait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with zero counters: every weakly fair execution of the program on the eight
    devices ends, each device's arrays at the contents `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lev) (hL := L_of_ne) (hwaits := waits m ρ)
    (G := G (insOf m)) (G' := G' (insOf m)) (u₀ := u₀)
    (hu₀ := by
      unfold u₀
      iintro Hu
      ihave H := (ownU_pair _ _) $$ Hu
      icases H with ⟨HP, HX⟩
      imod (fund (insOf m)) $$ HX with HG
      imodintro
      isplitl [HP] <;> iassumption)
    (hglob := glob (insOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array after the run holds what it held. -/
theorem finalA_in (c : Dev nD) (w : Fin cfg0.W) (hw : (cfg0.win w).isOut = false) :
    finalA m ρ c w = m ((cfg0.win w).arr.view.loc (c : Thread nD τ)) :=
  (dats (F := F) m ρ 0 c).arrAt_in w hw _

/-- The run leaves every argument as it was, and every counter at zero. -/
theorem run_args : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨(h.1 c (0 : Fin 9)).trans (finalA_in m ρ c (0 : Fin 9) rfl), (h.1 c (1 : Fin 9)).trans (finalA_in m ρ c (1 : Fin 9) rfl), (h.1 c (2 : Fin 9)).trans (finalA_in m ρ c (2 : Fin 9) rfl), (h.1 c (3 : Fin 9)).trans (finalA_in m ρ c (3 : Fin 9) rfl), (h.1 c (4 : Fin 9)).trans (finalA_in m ρ c (4 : Fin 9) rfl), (h.1 c (5 : Fin 9)).trans (finalA_in m ρ c (5 : Fin 9) rfl), (h.1 c (6 : Fin 9)).trans (finalA_in m ρ c (6 : Fin 9) rfl), (h.1 c (7 : Fin 9)).trans (finalA_in m ρ c (7 : Fin 9) rfl)⟩, h.2⟩) (run_main m ρ)

end Cert.Rope

end
-- ==== Proof.Same.lean ====
module

public import proofs.«01_k».proof.KernelIdeal
public import proofs.«01_k».proof.Kernel
public import proofs.«01_k».proof.Proof.Gen.KernelIdeal
public import proofs.«01_k».proof.Proof.Gen.Kernel

/-! The two readings of the program have the same bodies, over any float values. -/

@[expose] public section

noncomputable section

namespace Cert.Rope

open Idealize.ShloMosaic

variable {F : FTy → Type} [FloatOps F]

set_option maxRecDepth 100000 in
theorem body_same : Cert.Kernel.cc0_body (F := F) = Cert.KernelIdeal.cc0_body (F := F) := rfl

set_option maxRecDepth 100000 in
/-- Label by label: there is one. -/
theorem table_same : Cert.Kernel.defs₀ (F := F) = Cert.KernelIdeal.defs₀ (F := F) := by
  funext p l a
  cases p with
  | scScalar _ => rfl
  | scVector _ _ => rfl
  | tc =>
    obtain ⟨n, hn⟩ := l
    cases n with
    | succ n => exact absurd hn (Nat.not_lt.2 (Nat.le_add_left _ _))
    | zero => rfl

set_option maxRecDepth 100000 in
theorem defs_same : Cert.Kernel.defs (F := F) = Cert.KernelIdeal.defs (F := F) :=
  congrArg (Pipeline.defs (Cert.Kernel.pcfgs (F := F))) table_same

end Cert.Rope

end
-- ==== Proof.ValEnd.lean ====
module

public import proofs.«01_k».proof.Proof.Launch
public import Idealize.ShloMosaic.Lib.Pipeline.ValueKit.Geometry

/-! The run's result, and the inputs as the memory holds them. -/

@[expose] public section

noncomputable section

namespace Cert.Rope

open Cert.KernelIdeal Cert.KernelIdeal.Gen
open Idealize.ShloMosaic
open Idealize.ShloMosaic.TcCoe
open Idealize.SL.Sem Pipeline

variable {F : FTy → Type} [FloatOps F] (m : (ℓ : Loc nD τ sig) → Buf (Elt F) ℓ) (ρ : Dev nD → PrngReg)

theorem ins_x (c : Dev nD) (i) : (insOf m).x c i = m ((c : Thread nD τ).loc main_arg0) i := by
  dsimp only [insOf]; blk_simp
  exact congrArg _ (funext fun a => Fin.ext (Window.rect_emb_val_of_index_zero win0_0 (0 : Fin 1) a ((by decide +kernel : ∀ a, win0_0.index (0 : Fin 1) a = 0) a) i))
theorem ins_wq (c : Dev nD) (i) : (insOf m).wq c i = m ((c : Thread nD τ).loc main_arg1) i := by
  dsimp only [insOf]; blk_simp
  exact congrArg _ (funext fun a => Fin.ext (Window.rect_emb_val_of_index_zero win0_1 (0 : Fin 1) a ((by decide +kernel : ∀ a, win0_1.index (0 : Fin 1) a = 0) a) i))
theorem ins_wk (c : Dev nD) (i) : (insOf m).wk c i = m ((c : Thread nD τ).loc main_arg2) i := by
  dsimp only [insOf]; blk_simp
  exact congrArg _ (funext fun a => Fin.ext (Window.rect_emb_val_of_index_zero win0_2 (0 : Fin 1) a ((by decide +kernel : ∀ a, win0_2.index (0 : Fin 1) a = 0) a) i))
theorem ins_wv (c : Dev nD) (i) : (insOf m).wv c i = m ((c : Thread nD τ).loc main_arg3) i := by
  dsimp only [insOf]; blk_simp
  exact congrArg _ (funext fun a => Fin.ext (Window.rect_emb_val_of_index_zero win0_3 (0 : Fin 1) a ((by decide +kernel : ∀ a, win0_3.index (0 : Fin 1) a = 0) a) i))
theorem ins_wo (c : Dev nD) (i) : (insOf m).wo c i = m ((c : Thread nD τ).loc main_arg4) i := by
  dsimp only [insOf]; blk_simp
  exact congrArg _ (funext fun a => Fin.ext (Window.rect_emb_val_of_index_zero win0_4 (0 : Fin 1) a ((by decide +kernel : ∀ a, win0_4.index (0 : Fin 1) a = 0) a) i))
theorem ins_cs (c : Dev nD) (i) : (insOf m).cs c i = m ((c : Thread nD τ).loc main_arg5) i := by
  dsimp only [insOf]; blk_simp
  exact congrArg _ (funext fun a => Fin.ext (Window.rect_emb_val_of_index_zero win0_5 (0 : Fin 1) a ((by decide +kernel : ∀ a, win0_5.index (0 : Fin 1) a = 0) a) i))
theorem ins_sn (c : Dev nD) (i) : (insOf m).sn c i = m ((c : Thread nD τ).loc main_arg6) i := by
  dsimp only [insOf]; blk_simp
  exact congrArg _ (funext fun a => Fin.ext (Window.rect_emb_val_of_index_zero win0_6 (0 : Fin 1) a ((by decide +kernel : ∀ a, win0_6.index (0 : Fin 1) a = 0) a) i))
theorem ins_pm (c : Dev nD) (i) : (insOf m).pm c i = m ((c : Thread nD τ).loc main_arg7) i := by
  dsimp only [insOf]; blk_simp
  exact congrArg _ (funext fun a => Fin.ext (Window.rect_emb_val_of_index_zero win0_7 (0 : Fin 1) a ((by decide +kernel : ∀ a, win0_7.index (0 : Fin 1) a = 0) a) i))

/-- The output's array after the run. -/
theorem finalA_out (c : Dev nD) : finalA m ρ c (8 : Fin 9) = outAll (insOf m) c := by
  unfold finalA
  refine (dats m ρ 0 c).arrAt_eq_of_covers (8 : Fin 9) _ (by decide +kernel) fun t hf y => ?_
  dsimp only [dats]
  blk_simp
  exact congrArg _ (funext fun a => (Fin.ext (Window.rect_emb_val_of_index_zero win0_8 t a ((by decide +kernel : ∀ t a, win0_8.index t a = 0) t a) y)).symm)

/-- The run leaves the result at `outAll`, and every argument as it was. -/
theorem run_out : θ_run defs (onTc (τ := τ) (main (F := F))) (s₀ m ρ) (fun r => ∀ c : Dev nD,
      r.2.mem ((c.tc : Thread nD τ).loc main_v1) = outAll (insOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h.1 c (8 : Fin 9)).trans (finalA_out m ρ c), (h.1 c (0 : Fin 9)).trans (finalA_in m ρ c (0 : Fin 9) rfl), (h.1 c (1 : Fin 9)).trans (finalA_in m ρ c (1 : Fin 9) rfl), (h.1 c (2 : Fin 9)).trans (finalA_in m ρ c (2 : Fin 9) rfl), (h.1 c (3 : Fin 9)).trans (finalA_in m ρ c (3 : Fin 9) rfl), (h.1 c (4 : Fin 9)).trans (finalA_in m ρ c (4 : Fin 9) rfl), (h.1 c (5 : Fin 9)).trans (finalA_in m ρ c (5 : Fin 9) rfl), (h.1 c (6 : Fin 9)).trans (finalA_in m ρ c (6 : Fin 9) rfl), (h.1 c (7 : Fin 9)).trans (finalA_in m ρ c (7 : Fin 9) rfl)⟩) (run_main m ρ)

end Cert.Rope

end
-- ==== Proof.ValDef.lean ====
module

public import Idealize.ShloMosaic.Lib.Pointwise
public import Idealize.ShloMosaic.Lib.IdealHost

/-! The attention, as sums over the reals, and the two forms of the softmax. -/

@[expose] public section

noncomputable section

namespace Cert.RopeV

open Idealize.ShloMosaic
open scoped BigOperators
open Finset

/-- A projection's element. -/
def P (x : ℕ → ℕ → ℕ → ℝ) (w : ℕ → ℕ → ℝ) (b i n : ℕ) : ℝ := ∑ d ∈ range 512, x b i d * w d n

/-- The projection rotated by the tables. -/
def R (x : ℕ → ℕ → ℕ → ℝ) (w : ℕ → ℕ → ℝ) (cs sn : ℕ → ℕ → ℝ) (b i n : ℕ) : ℝ :=
  P x w b i n * cs i (n % 256) + (if n % 2 = 0 then -P x w b i (n + 1) else P x w b i (n - 1)) * sn i (n % 256)

/-- A scaled score of a head. -/
def sc (x : ℕ → ℕ → ℕ → ℝ) (wq wk cs sn : ℕ → ℕ → ℝ) (b h i j : ℕ) : ℝ :=
  ∑ d ∈ range 64, (1 / 8 * R x wq cs sn b i (64 * h + d)) * R x wk cs sn b j (64 * h + d)

/-- A value's element. -/
def V (x : ℕ → ℕ → ℕ → ℝ) (wv : ℕ → ℕ → EReal) (b j n : ℕ) : EReal := ∑ d ∈ range 512, (x b j d : EReal) * wv d n

/-- The context of row `i` at column `n`. -/
def CT (x : ℕ → ℕ → ℕ → ℝ) (wq wk cs sn : ℕ → ℕ → ℝ) (wv : ℕ → ℕ → EReal) (b i n : ℕ) : EReal :=
  (∑ j ∈ range 1024, Ideal.exp (sc x wq wk cs sn b (n / 64) i j : EReal) * V x wv b j n)
    * Ideal.div 1 (∑ j ∈ range 1024, Ideal.exp (sc x wq wk cs sn b (n / 64) i j : EReal))

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite nonnegative factor goes into a sum. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem fold_max {n : ℕ} (hn : 0 < n) (s : Fin n → ℝ) : ∃ M : ℝ, Finset.fold max (⊥ : EReal) (fun j => (s j : EReal)) univ = (M : EReal) := by
  haveI : Nonempty (Fin n) := ⟨⟨0, hn⟩⟩
  obtain ⟨j, _, hj⟩ := Finset.exists_mem_eq_sup univ (Finset.univ_nonempty (α := Fin n)) (fun j => (s j : EReal))
  exact ⟨s j, hj⟩

/-- The softmax, with and without the greatest score subtracted. -/
theorem softmax {n : ℕ} (hn : 0 < n) (s : ℕ → ℝ) (v : ℕ → EReal) (M : ℝ) :
    ∑ j ∈ range n, v j * Ideal.div (Ideal.exp ((s j : EReal) - (M : EReal))) (∑ k ∈ range n, Ideal.exp ((s k : EReal) - (M : EReal)))
      = (∑ j ∈ range n, Ideal.exp (s j : EReal) * v j) * Ideal.div 1 (∑ j ∈ range n, Ideal.exp (s j : EReal)) := by
  have hne : (range n).Nonempty := ⟨0, by simpa using hn⟩
  have hp : 0 < ∑ k ∈ range n, Real.exp (s k) := Finset.sum_pos (fun _ _ => Real.exp_pos _) hne
  have hq : 0 < ∑ k ∈ range n, Real.exp (s k - M) := Finset.sum_pos (fun _ _ => Real.exp_pos _) hne
  have e : ∑ k ∈ range n, Real.exp (s k - M) = (∑ k ∈ range n, Real.exp (s k)) * Real.exp (-M) := by
    rw [Finset.sum_mul]; exact Finset.sum_congr rfl fun k _ => by rw [sub_eq_add_neg, Real.exp_add]
  simp only [← EReal.coe_sub, Ideal.exp_coe, ← coe_sum]
  rw [Ideal.div_coe hp.ne', one_mul, sum_mul_coe _ _ _ (by positivity)]
  refine Finset.sum_congr rfl fun j _ => ?_
  rw [Ideal.div_coe hq.ne', ← EReal.coe_mul, mul_comm, mul_assoc, mul_comm (v j), ← mul_assoc, ← EReal.coe_mul]
  congr 2
  rw [e, sub_eq_add_neg, Real.exp_add]
  have := (Real.exp_pos (-M)).ne'
  field_simp

theorem ofBits_eighth_bf16 : Ideal.ofBits .bf16 0x3E00#16 = (((1 : ℝ) / 8 : ℝ) : EReal) := by
  simp [Ideal.ofBits, Ideal.ieee, -EReal.coe_mul]; norm_num

theorem ofBits_eighth_f32 : Ideal.ofBits .f32 0x3E000000#32 = (((1 : ℝ) / 8 : ℝ) : EReal) := by
  simp [Ideal.ofBits, Ideal.ieee, -EReal.coe_mul]; norm_num

theorem ofBits_bot_f32 : Ideal.ofBits .f32 0xFF800000#32 = ⊥ := by
  simp [Ideal.ofBits, Ideal.ieee]

theorem ofBits_top_f32 : Ideal.ofBits .f32 0x7F800000#32 = ⊤ := by
  simp [Ideal.ofBits, Ideal.ieee]

end Cert.RopeV

end
-- ==== Proof.ValK.lean ====
module

public import proofs.«01_k».proof.Proof.Contents
public import proofs.«01_k».proof.Proof.ValDef

/-! The kernel's payloads at an index, over the extended reals. -/

@[expose] public section

noncomputable section

namespace Cert.Rope

open Cert.KernelIdeal Cert.KernelIdeal.Gen
open Idealize.ShloMosaic hiding ix4
open Idealize.ShloMosaic.TcCoe
open scoped BigOperators

/-- An index of a one-by-one block. -/
abbrev jx {n2 n3 : ℕ} (r : Fin n2) (c : Fin n3) : (⟨4, ![1, 1, n2, n3]⟩ : Shape).Idx := Idealize.ShloMosaic.ix4 0 0 r c

theorem at4_eq {n2 n3 : ℕ} [NeZero n2] [NeZero n3] {α : Type} (v : (⟨4, ![1, 1, n2, n3]⟩ : Shape).Idx → α) (r c : ℕ) :
    at4 v r c = v (jx (Fin.ofNat n2 r) (Fin.ofNat n3 c)) := by
  unfold at4; congr 1; funext a; match a with | 0 => rfl | 1 => rfl | 2 => rfl | 3 => rfl

theorem rd4_jx {n2 n3 : ℕ} {α : Type} (G : ℕ → ℕ → ℕ → ℕ → α) (a b r c : ℕ) (i : Fin n2) (j : Fin n3) :
    rd4 ![1, 1, n2, n3] G a b r c (jx i j) = G a b (r + i.val) (c + j.val) := rfl

theorem new0 (q k v) (r c : Fin 128) : k0_pay55 (F := Ideal) q k v (Idealize.ShloMosaic.ix4 0 0 r c)
    = ∑ t : Fin 128, Ideal.exp (∑ d : Fin 64, q (Idealize.ShloMosaic.ix4 0 0 r d) * k (Idealize.ShloMosaic.ix4 0 0 t d)) * v (Idealize.ShloMosaic.ix4 0 0 t c) := by
  pointwise [k0_pay55]
theorem new1 (q k v) (r c : Fin 128) : k0_pay184 (F := Ideal) q k v (Idealize.ShloMosaic.ix4 0 0 r c)
    = ∑ t : Fin 256, Ideal.exp (∑ d : Fin 64, q (Idealize.ShloMosaic.ix4 0 0 r d) * k (Idealize.ShloMosaic.ix4 0 0 t d)) * v (Idealize.ShloMosaic.ix4 0 0 t c) := by
  pointwise [k0_pay184]
theorem new2 (q k v) (r c : Fin 128) : k0_pay209 (F := Ideal) q k v (Idealize.ShloMosaic.ix4 0 0 r c)
    = ∑ t : Fin 384, Ideal.exp (∑ d : Fin 64, q (Idealize.ShloMosaic.ix4 0 0 r d) * k (Idealize.ShloMosaic.ix4 0 0 t d)) * v (Idealize.ShloMosaic.ix4 0 0 t c) := by
  pointwise [k0_pay209]
theorem new3 (q k v) (r c : Fin 128) : k0_pay329 (F := Ideal) q k v (Idealize.ShloMosaic.ix4 0 0 r c)
    = ∑ t : Fin 512, Ideal.exp (∑ d : Fin 64, q (Idealize.ShloMosaic.ix4 0 0 r d) * k (Idealize.ShloMosaic.ix4 0 0 t d)) * v (Idealize.ShloMosaic.ix4 0 0 t c) := by
  pointwise [k0_pay329]
theorem old1 (q k A v) (r c : Fin 128) : k0_pay180 (F := Ideal) q k A v (Idealize.ShloMosaic.ix4 0 0 r c)
    = A (Idealize.ShloMosaic.ix4 0 0 r c) + ∑ t : Fin 128, Ideal.exp (∑ d : Fin 64, q (Idealize.ShloMosaic.ix4 0 0 r d) * k (Idealize.ShloMosaic.ix4 0 0 t d)) * v (Idealize.ShloMosaic.ix4 0 0 t c) := by
  pointwise [k0_pay180]
theorem old2 (q k A v) (r : Fin 256) (c : Fin 128) : k0_pay210 (F := Ideal) q k A v (Idealize.ShloMosaic.ix4 0 0 r c)
    = A (Idealize.ShloMosaic.ix4 0 0 r c) + ∑ t : Fin 128, Ideal.exp (∑ d : Fin 64, q (Idealize.ShloMosaic.ix4 0 0 r d) * k (Idealize.ShloMosaic.ix4 0 0 t d)) * v (Idealize.ShloMosaic.ix4 0 0 t c) := by
  pointwise [k0_pay210]
theorem old3 (q k A v) (r : Fin 384) (c : Fin 128) : k0_pay321 (F := Ideal) q k A v (Idealize.ShloMosaic.ix4 0 0 r c)
    = A (Idealize.ShloMosaic.ix4 0 0 r c) + ∑ t : Fin 128, Ideal.exp (∑ d : Fin 64, q (Idealize.ShloMosaic.ix4 0 0 r d) * k (Idealize.ShloMosaic.ix4 0 0 t d)) * v (Idealize.ShloMosaic.ix4 0 0 t c) := by
  pointwise [k0_pay321]

/-- A head's row of weighted values, with what the accumulator held. -/
theorem fin0 (q k A v) (r : Fin 128) (c : Fin 64) : k0_pay563 (F := Ideal) q k A v (ix2 r c)
    = (A (Idealize.ShloMosaic.ix4 0 0 r ⟨c.val, by omega⟩) + ∑ t : Fin 512, Ideal.exp (∑ d : Fin 64, q (Idealize.ShloMosaic.ix4 0 0 r d) * k (Idealize.ShloMosaic.ix4 0 0 t d)) * v (Idealize.ShloMosaic.ix4 0 0 t ⟨c.val, by omega⟩))
      * Ideal.div 1 (A (Idealize.ShloMosaic.ix4 0 0 r 64) + ∑ t : Fin 512, Ideal.exp (∑ d : Fin 64, q (Idealize.ShloMosaic.ix4 0 0 r d) * k (Idealize.ShloMosaic.ix4 0 0 t d)) * v (Idealize.ShloMosaic.ix4 0 0 t 64)) := by
  pointwise [k0_pay563]

theorem q0 (w p cs sn x) (r : Fin 128) (c : Fin 256) : k0_pay10 (F := Ideal) w p cs sn x (ix2 r c)
    = (∑ k : Fin 512, x (Idealize.ShloMosaic.ix4 0 0 r k) * w (ix2 k c)) * cs (ix2 r c)
      + (∑ m : Fin 256, (∑ k : Fin 512, x (Idealize.ShloMosaic.ix4 0 0 r k) * w (ix2 k m)) * p (ix2 m c)) * sn (ix2 r c) := by
  pointwise [k0_pay10, k0_pay9, k0_pay7, k0_pay8]
theorem k0 (w p cs sn x) (r : Fin 128) (c : Fin 256) : k0_pay11 (F := Ideal) w p cs sn x (ix2 r c)
    = (∑ k : Fin 512, x (Idealize.ShloMosaic.ix4 0 0 r k) * w (ix2 k c)) * cs (ix2 r c)
      + (∑ m : Fin 256, (∑ k : Fin 512, x (Idealize.ShloMosaic.ix4 0 0 r k) * w (ix2 k m)) * p (ix2 m c)) * sn (ix2 r c) := by
  pointwise [k0_pay11, k0_pay9, k0_pay7, k0_pay8]
theorem v0 (w x) (r : Fin 128) (c : Fin 256) : k0_pay12 (F := Ideal) w x (ix2 r c)
    = ∑ k : Fin 512, x (Idealize.ShloMosaic.ix4 0 0 r k) * w (ix2 k c) := by
  pointwise [k0_pay12, k0_pay9]
theorem x0 (x) (b : Fin 2) (r : Fin 128) (c : Fin 512) : k0_pay6 (F := Ideal) x (Idealize.ShloMosaic.ix4 0 b r c) = x (ix3 b r c) := by
  pointwise [k0_pay6]
theorem w1 (w) (k : Fin 512) (c : Fin 256) : k0_pay1 (F := Ideal) w (ix2 k c) = w (ix2 k c) * Ideal.ofBits .bf16 0x3E00#16 := by
  pointwise [k0_pay1]
theorem w2 (w) (k : Fin 512) (c : Fin 256) : k0_pay2 (F := Ideal) w (ix2 k c) = w (ix2 k c) := by
  pointwise [k0_pay2]
theorem w3 (w) (k : Fin 512) (c : Fin 256) : k0_pay3 (F := Ideal) w (ix2 k c) = w (ix2 k c) := by
  pointwise [k0_pay3]
theorem w4 (w) (k : Fin 256) (c : Fin 512) : k0_pay4 (F := Ideal) w (ix2 k c) = w (ix2 k c) := by
  pointwise [k0_pay4]
theorem p5 (w) (k c : Fin 256) : k0_pay5 (F := Ideal) w (ix2 k c) = w (ix2 k c) := by
  pointwise [k0_pay5]

/-- A head's columns. -/
theorem head_at (v : FVec Ideal S128x256 .bf16) (h : ℕ) (hh : h < 4) (r : Fin 128) (c : Fin 64) :
    headOf v h (Idealize.ShloMosaic.ix4 0 0 r c) = v (ix2 r ⟨64 * h + c.val, by omega⟩) := by
  obtain rfl | rfl | rfl | rfl : h = 0 ∨ h = 1 ∨ h = 2 ∨ h = 3 := by omega
  · simp only [headOf]; pointwise [k0_pay17]
  · simp only [headOf]; pointwise [k0_pay19]
  · simp only [headOf]; pointwise [k0_pay25]
  · simp only [headOf]; pointwise [k0_pay28]

theorem ones_at (r : Fin 128) : ones (F := Ideal) (Idealize.ShloMosaic.ix4 0 0 r 0) = 1 := by
  pointwise [ones, k0_pay18, k0_pay13]
  show ((_ : ℝ) : EReal) = 1
  simp [IntOp.cmpi]

theorem thru_at (w v) (r : Fin 128) (c : Fin 512) : thru (F := Ideal) w v (ix2 r c) = ∑ d : Fin 64, v (ix2 r d) * w (ix2 d c) := by
  pointwise [thru]

theorem part_at (I : Ins Ideal) (c : Dev nD) (j b : ℕ) (r : Fin 128) (e : Fin 512) : part I c j b (ix2 r e)
    = (∑ d : Fin 64, ctx I c j b 0 (ix2 r d) * I.wo c (ix2 ⟨d.val, by omega⟩ e)) + (∑ d : Fin 64, ctx I c j b 1 (ix2 r d) * I.wo c (ix2 ⟨64 + d.val, by omega⟩ e))
      + (∑ d : Fin 64, ctx I c j b 2 (ix2 r d) * I.wo c (ix2 ⟨128 + d.val, by omega⟩ e)) + (∑ d : Fin 64, ctx I c j b 3 (ix2 r d) * I.wo c (ix2 ⟨192 + d.val, by omega⟩ e)) := by
  pointwise [part, thru, k0_pay4]

theorem send_at (v) (r : Fin 128) (e : Fin 512) : k0_pay572 (F := Ideal) v (Idealize.ShloMosaic.ix4 0 0 r e) = v (ix2 r e) := by
  pointwise [k0_pay572]

theorem addIn_at (I : Ins Ideal) (c : Dev nD) (s b : ℕ) (v) (r : Fin 128) (e : Fin 512) : addIn I c s b v (ix2 r e) = v (ix2 r e) + RI I c s b r e := by
  pointwise [addIn]
  simp only [rd4, Nat.zero_add]
  rfl

end Cert.Rope

end
-- ==== Proof.ValA.lean ====
module

public import proofs.«01_k».proof.Proof.ValK

/-! The accumulator's rows as sums over the keys, in order of arrival. -/

@[expose] public section

noncomputable section

namespace Cert.Rope

open Cert.KernelIdeal Cert.KernelIdeal.Gen
open Idealize.ShloMosaic hiding ix4
open Idealize.ShloMosaic.TcCoe
open scoped BigOperators
open Finset

variable (I : Ins Ideal) (c : Dev nD)

/-- A row's weight of a key. -/
def E (b h row key : ℕ) : EReal := Ideal.exp (∑ d : Fin 64, QG I c b h row d * KG I c b h key d)

/-- A row's weighted values over the first keys. -/
def S (b h n row col : ℕ) : EReal := ∑ t ∈ range n, E I c b h row t * VG I c b h t col

theorem S_add (b h n k row col : ℕ) : S I c b h (n + k) row col = S I c b h n row col + ∑ t : Fin k, E I c b h row (n + t) * VG I c b h (n + t) col := by
  rw [S, Finset.sum_range_add, ← S, Finset.sum_range (n := k)]

theorem S_fin (b h n row col : ℕ) : S I c b h n row col = ∑ t : Fin n, E I c b h row t * VG I c b h t col := by
  rw [S, Finset.sum_range]

theorem new_at (b h j row col : ℕ) (hr : row / 128 = j) (hc : col < 128) :
    at4 (accNew I c b h j) row col = S I c b h (min 512 (128 * (j + 1))) row col := by
  have er : (Fin.ofNat 128 row).val = row % 128 := rfl
  have ec : (Fin.ofNat 128 col).val = col := Nat.mod_eq_of_lt hc
  have e : 128 * j + row % 128 = row := by omega
  rw [at4_eq, S_fin]
  match j, e with
  | 0, e =>
    have e0 : row % 128 = row := by omega
    rw [accNew, new0]; simp only [rd4_jx, er, ec, E, Nat.zero_add, e0]; rfl
  | 1, e => rw [accNew, new1]; simp only [rd4_jx, er, ec, E]; norm_num at e ⊢; simp only [e]; rfl
  | 2, e => rw [accNew, new2]; simp only [rd4_jx, er, ec, E]; norm_num at e ⊢; simp only [e]; rfl
  | j + 3, e =>
    have em : min 512 (128 * (j + 3 + 1)) = 512 := by omega
    rw [accNew, new3, em]; simp only [rd4_jx, er, ec, E, e, Nat.zero_add]
    all_goals omega

theorem old_at (A : ℕ → ℕ → ℕ → ℕ → EReal) (b h j row col : ℕ) (hj : 0 < j) (hj4 : j < 4) (hr : row / 128 < j) (hc : col < 128) :
    accOld I c A b h j row col = A b h row col + ∑ t : Fin 128, E I c b h row (128 * j + t) * VG I c b h (128 * j + t) col := by
  have ec : (Fin.ofNat 128 col).val = col := Nat.mod_eq_of_lt hc
  obtain rfl | rfl | rfl : j = 1 ∨ j = 2 ∨ j = 3 := by omega
  · have er : (Fin.ofNat 128 row).val = row := Nat.mod_eq_of_lt (by omega)
    rw [accOld, at4_eq, old1]; simp only [rd4_jx, er, ec, E, Nat.zero_add]
  · have er : (Fin.ofNat 256 row).val = row := Nat.mod_eq_of_lt (by omega)
    rw [accOld, at4_eq, old2]; simp only [rd4_jx, er, ec, E, Nat.zero_add]
  · have er : (Fin.ofNat 384 row).val = row := Nat.mod_eq_of_lt (by omega)
    rw [accOld, at4_eq, old3]; simp only [rd4_jx, er, ec, E, Nat.zero_add]

/-- How many keys a row of chunk `j` has met after `n` stores. -/
def met (n j : ℕ) : ℕ := 128 * max (min 4 (j + 1)) (min 4 (n / 2))

theorem AG_at (b h row col : ℕ) (hc : col < 128) : ∀ n, 2 * (row / 128) < n → AG I c n b h row col = S I c b h (met n (row / 128)) row col
  | 0, hn => absurd hn (by omega)
  | n + 1, hn => by
    have ih := AG_at b h row col hc n
    simp only [AG]
    by_cases h0 : n % 2 = 0
    · rw [if_pos h0]
      by_cases h1 : row / 128 = n / 2
      · rw [if_pos h1, new_at I c b h (n / 2) row col h1 hc]
        congr 1; unfold met; omega
      · rw [if_neg h1, ih (by omega)]
        congr 1; unfold met; omega
    · rw [if_neg h0]
      by_cases h1 : row / 128 < n / 2
      · rw [if_pos h1]
        by_cases h4 : n / 2 < 4
        · rw [old_at I c _ b h (n / 2) row col (by omega) h4 h1 hc, ih (by omega)]
          have e1 : met n (row / 128) = 128 * (n / 2) := by unfold met; omega
          have e2 : met (n + 1) (row / 128) = 128 * (n / 2) + 128 := by unfold met; omega
          rw [e1, e2, S_add]
        · have : accOld I c (AG I c n) b h (n / 2) row col = AG I c n b h row col := by
            obtain ⟨k, hk⟩ : ∃ k, n / 2 = k + 4 := ⟨n / 2 - 4, by omega⟩
            rw [hk]; rfl
          rw [this, ih (by omega)]
          congr 1; unfold met; omega
      · rw [if_neg h1, ih (by omega)]
        congr 1; unfold met; omega

/-- A context row over all the keys. -/
theorem ctx_at (j b h : ℕ) (hj : j < 8) (r : Fin 128) (d : Fin 64) : ctx I c j b h (ix2 r d)
    = S I c b h 1024 (128 * j + r) d * Ideal.div 1 (S I c b h 1024 (128 * j + r) 64) := by
  have er : (128 * j + r.val) / 128 = j := by omega
  have em : met 16 j = 512 := by unfold met; omega
  have k : ∀ col, col < 128 → AG I c 16 b h (128 * j + r) col + ∑ t : Fin 512, E I c b h (128 * j + r) (512 + t) * VG I c b h (512 + t) col = S I c b h 1024 (128 * j + r) col := by
    intro col hc
    rw [AG_at I c b h _ col hc 16 (by omega), er, em, ← S_add]
  rw [ctx, fin0, ← k d (by omega), ← k 64 (by omega)]
  simp only [rd4_jx, E, Nat.zero_add]
  rfl

end Cert.Rope

end
-- ==== Proof.ValO.lean ====
module

public import proofs.«01_k».proof.Proof.ValA

/-! The kernel's result, element by element, as the attention's sums. -/

@[expose] public section

noncomputable section

namespace Cert.Rope

open Cert.KernelIdeal Cert.KernelIdeal.Gen
open Idealize.ShloMosaic hiding ix4
open Idealize.ShloMosaic.TcCoe
open scoped BigOperators
open Finset Cert.RopeV

/-- The devices' inputs are the blocks of whole arrays, and the pair matrix turns each pair of columns. -/
structure Whole (I : Ins Ideal) (x : ℕ → ℕ → ℕ → ℝ) (wq wk : ℕ → ℕ → ℝ) (wv wo : ℕ → ℕ → EReal) (cs sn : ℕ → ℕ → ℝ) : Prop where
  hx : ∀ c b r d, I.x c (ix3 b r d) = (x b.val (128 * c.val + r.val) d.val : EReal)
  hq : ∀ c d n, I.wq c (ix2 d n) = (wq d.val (256 * c.val + n.val) : EReal)
  hk : ∀ c d n, I.wk c (ix2 d n) = (wk d.val (256 * c.val + n.val) : EReal)
  hv : ∀ c d n, I.wv c (ix2 d n) = wv d.val (256 * c.val + n.val)
  ho : ∀ c n e, I.wo c (ix2 n e) = wo (256 * c.val + n.val) e.val
  hc : ∀ c i n, I.cs c (ix2 i n) = (cs i.val n.val : EReal)
  hs : ∀ c i n, I.sn c (ix2 i n) = (sn i.val n.val : EReal)
  hp : ∀ c i j, I.pm c (ix2 i j) = ((if i.val = j.val + 1 ∧ j.val % 2 = 0 then -1 else if j.val = i.val + 1 ∧ i.val % 2 = 0 then 1 else 0 : ℝ) : EReal)

variable {I : Ins Ideal} {x : ℕ → ℕ → ℕ → ℝ} {wq wk : ℕ → ℕ → ℝ} {wv wo : ℕ → ℕ → EReal} {cs sn : ℕ → ℕ → ℝ}

theorem kd_lt (c : Dev nD) (j : ℕ) : kd c j < 8 := Nat.mod_lt _ (by decide)

theorem XG_at (H : Whole I x wq wk wv wo cs sn) (k b : ℕ) (hk : k < 8) (hb : b < 2) (r : Fin 128) (d : Fin 512) :
    XG I k b r d = (x b (128 * k + r.val) d.val : EReal) := by
  have e : (fun | 0 => (0 : Fin 1) | 1 => Fin.ofNat 2 b | 2 => Fin.ofNat 128 r.val | 3 => Fin.ofNat 512 d.val : S1x2x128x512.Idx)
      = Idealize.ShloMosaic.ix4 0 ⟨b, hb⟩ r d := by
    funext a
    match a with
    | 0 => rfl
    | 1 => exact Fin.ext (Nat.mod_eq_of_lt hb)
    | 2 => exact Fin.ext (Nat.mod_eq_of_lt r.isLt)
    | 3 => exact Fin.ext (Nat.mod_eq_of_lt d.isLt)
  refine (congrArg (k0_pay6 (I.x (dv k))) e).trans ?_
  rw [x0, H.hx]
  show ((x b (128 * (k % 8) + r.val) d.val : ℝ) : EReal) = _
  rw [Nat.mod_eq_of_lt hk]

theorem xbk_at (H : Whole I x wq wk wv wo cs sn) (c : Dev nD) (j b : ℕ) (hb : b < 2) (r : Fin 128) (d : Fin 512) :
    xbk I c j b (jx r d) = (x b (128 * kd c j + r.val) d.val : EReal) := by
  unfold xbk
  rw [rd4_jx, Nat.zero_add, Nat.zero_add, XG_at H _ _ (kd_lt c j) hb]

theorem tab_at (t : Vec Ideal S1024x256 .f32) (k : ℕ) (hk : k < 8) (r : Fin 128) (n : Fin 256) :
    tabR t k (ix2 r n) = t (ix2 ⟨128 * k + r.val, by omega⟩ n) := by
  unfold tabR
  congr 1
  funext a
  match a with
  | 0 => exact Fin.ext (Nat.mod_eq_of_lt (by show 128 * k + r.val < 1024; omega))
  | 1 => exact Fin.ext (Nat.mod_eq_of_lt n.isLt)

/-- The pair matrix turns each pair of columns. -/
theorem turn (p : ℕ → ℝ) (n : ℕ) (hn : n < 256) :
    ∑ m : Fin 256, p m * (if m.val = n + 1 ∧ n % 2 = 0 then -1 else if n = m.val + 1 ∧ m.val % 2 = 0 then 1 else 0)
      = if n % 2 = 0 then -p (n + 1) else p (n - 1) := by
  by_cases h : n % 2 = 0
  · rw [if_pos h, Finset.sum_eq_single (⟨n + 1, by omega⟩ : Fin 256)]
    · simp [h]
    · intro m _ hm
      have : m.val ≠ n + 1 := fun e => hm (Fin.ext e)
      rw [if_neg (by omega), if_neg (by omega), mul_zero]
    · intro h'; exact absurd (Finset.mem_univ _) h'
  · rw [if_neg h, Finset.sum_eq_single (⟨n - 1, by omega⟩ : Fin 256)]
    · show p (n - 1) * (if n - 1 = n + 1 ∧ n % 2 = 0 then -1 else if n = n - 1 + 1 ∧ (n - 1) % 2 = 0 then 1 else 0) = _
      rw [if_neg (by omega), if_pos (by omega), mul_one]
    · intro m _ hm
      have : m.val ≠ n - 1 := fun e => hm (Fin.ext e)
      rw [if_neg (by omega), if_neg (by omega), mul_zero]
    · intro h'; exact absurd (Finset.mem_univ _) h'

/-- The rotation of a block of rows, its projection scaled by `s`. -/
theorem rot_block (q : ℕ → ℝ) (s cv sv : ℝ) (n : ℕ) (hn : n < 256) :
    ((s * q n : ℝ) : EReal) * (cv : EReal) + (∑ m : Fin 256, ((s * q m : ℝ) : EReal)
      * ((if m.val = n + 1 ∧ n % 2 = 0 then -1 else if n = m.val + 1 ∧ m.val % 2 = 0 then 1 else 0 : ℝ) : EReal)) * (sv : EReal)
      = ((s * (q n * cv + (if n % 2 = 0 then -q (n + 1) else q (n - 1)) * sv) : ℝ) : EReal) := by
  simp only [← EReal.coe_mul, ← coe_sum, ← EReal.coe_add]
  rw [turn (fun m => s * q m) n hn]
  congr 1
  split <;> ring

theorem P_block (w : ℕ → ℕ → ℝ) (s : ℝ) (b i n : ℕ) :
    ∑ k : Fin 512, (x b i k.val : EReal) * ((w k.val n * s : ℝ) : EReal) = ((s * P x w b i n : ℝ) : EReal) := by
  simp only [← EReal.coe_mul, ← coe_sum]
  rw [P, Finset.sum_range, Finset.mul_sum]
  congr 1
  exact Finset.sum_congr rfl fun _ _ => by ring

theorem R_block (w : ℕ → ℕ → ℝ) (b i n : ℕ) (c : Dev nD) (hn : n < 256) : R x w cs sn b i (256 * c.val + n)
    = P x w b i (256 * c.val + n) * cs i n + (if n % 2 = 0 then -P x w b i (256 * c.val + (n + 1)) else P x w b i (256 * c.val + (n - 1))) * sn i n := by
  unfold R
  have e1 : (256 * c.val + n) % 256 = n := by omega
  have e2 : (256 * c.val + n) % 2 = n % 2 := by omega
  rw [e1, e2]
  by_cases h : n % 2 = 0
  · rw [if_pos h, if_pos h, Nat.add_assoc]
  · rw [if_neg h, if_neg h, show 256 * c.val + n - 1 = 256 * c.val + (n - 1) by omega]

theorem qrow_at (H : Whole I x wq wk wv wo cs sn) (c : Dev nD) (j b : ℕ) (hb : b < 2) (r : Fin 128) (n : Fin 256) :
    qrow I c j b (ix2 r n) = ((1 / 8 * R x wq cs sn b (128 * kd c j + r.val) (256 * c.val + n.val) : ℝ) : EReal) := by
  rw [qrow, q0, tab_at _ _ (kd_lt c j), tab_at _ _ (kd_lt c j), H.hc, H.hs]
  simp only [xbk_at H c j b hb, w1, p5, H.hq, H.hp, ofBits_eighth_bf16, ← EReal.coe_mul (wq _ _), P_block]
  rw [R_block _ _ _ _ _ n.isLt]
  exact rot_block (fun m => P x wq b (128 * kd c j + r.val) (256 * c.val + m)) (1 / 8) _ _ n.val n.isLt

theorem krow_at (H : Whole I x wq wk wv wo cs sn) (c : Dev nD) (j b : ℕ) (hb : b < 2) (r : Fin 128) (n : Fin 256) :
    krow I c j b (ix2 r n) = ((R x wk cs sn b (128 * kd c j + r.val) (256 * c.val + n.val) : ℝ) : EReal) := by
  have e : ∀ i m, ∑ k : Fin 512, (x b i k.val : EReal) * (wk k.val m : EReal) = ((1 * P x wk b i m : ℝ) : EReal) := fun i m => by
    rw [← P_block]; simp only [mul_one]
  rw [krow, k0, tab_at _ _ (kd_lt c j), tab_at _ _ (kd_lt c j), H.hc, H.hs]
  simp only [xbk_at H c j b hb, w2, p5, H.hk, H.hp, e]
  rw [R_block _ _ _ _ _ n.isLt]
  exact (rot_block (fun m => P x wk b (128 * kd c j + r.val) (256 * c.val + m)) 1 _ _ n.val n.isLt).trans (by rw [one_mul])

theorem vrow_at (H : Whole I x wq wk wv wo cs sn) (c : Dev nD) (j b : ℕ) (hb : b < 2) (r : Fin 128) (n : Fin 256) :
    vrow I c j b (ix2 r n) = V x wv b (128 * kd c j + r.val) (256 * c.val + n.val) := by
  rw [vrow, v0, V, Finset.sum_range]
  simp only [xbk_at H c j b hb, w3, H.hv]

/-- The row of the whole arrays that device `c` keeps at `row`. -/
def gr (c : Dev nD) (row : ℕ) : ℕ := 128 * kd c (row / 128) + row % 128

theorem of_col {n col : ℕ} [NeZero n] (h : col < n) : (Fin.ofNat n col) = ⟨col, h⟩ := Fin.ext (Nat.mod_eq_of_lt h)

theorem QG_at (H : Whole I x wq wk wv wo cs sn) (c : Dev nD) (b h row : ℕ) (hb : b < 2) (hh : h < 4) (d : Fin 64) :
    QG I c b h row d = ((1 / 8 * R x wq cs sn b (gr c row) (64 * (4 * c.val + h) + d.val) : ℝ) : EReal) := by
  unfold QG
  rw [at4_eq, of_col d.isLt, head_at _ _ hh, qrow_at H _ _ _ hb]
  rw [show 64 * (4 * c.val + h) + d.val = 256 * c.val + (64 * h + d.val) by ring]
  rfl

theorem KG_at (H : Whole I x wq wk wv wo cs sn) (c : Dev nD) (b h row : ℕ) (hb : b < 2) (hh : h < 4) (d : Fin 64) :
    KG I c b h row d = ((R x wk cs sn b (gr c row) (64 * (4 * c.val + h) + d.val) : ℝ) : EReal) := by
  unfold KG
  rw [at4_eq, of_col d.isLt, head_at _ _ hh, krow_at H _ _ _ hb]
  rw [show 64 * (4 * c.val + h) + d.val = 256 * c.val + (64 * h + d.val) by ring]
  rfl

theorem VG_at (H : Whole I x wq wk wv wo cs sn) (c : Dev nD) (b h row : ℕ) (hb : b < 2) (hh : h < 4) (d : Fin 64) :
    VG I c b h row d = V x wv b (gr c row) (64 * (4 * c.val + h) + d.val) := by
  unfold VG
  rw [if_pos d.isLt, at4_eq, of_col d.isLt, head_at _ _ hh, vrow_at H _ _ _ hb]
  rw [show 64 * (4 * c.val + h) + d.val = 256 * c.val + (64 * h + d.val) by ring]
  rfl

theorem VG_one (c : Dev nD) (b h row : ℕ) : VG I c b h row 64 = 1 := by
  unfold VG
  rw [if_neg (by decide), at4_eq]
  exact ones_at _

theorem E_at (H : Whole I x wq wk wv wo cs sn) (c : Dev nD) (b h row key : ℕ) (hb : b < 2) (hh : h < 4) :
    E I c b h row key = Ideal.exp (sc x wq wk cs sn b (4 * c.val + h) (gr c row) (gr c key) : EReal) := by
  unfold E
  simp only [QG_at H c b h _ hb hh, KG_at H c b h _ hb hh, ← EReal.coe_mul, ← coe_sum]
  rw [sc, Finset.sum_range]

/-- A sum over the keys does not depend on their order. -/
theorem sum_gr {M : Type} [AddCommMonoid M] (c : Dev nD) (f : ℕ → M) : ∑ t ∈ range 1024, f (gr c t) = ∑ t ∈ range 1024, f t := by
  have e : ∀ g : ℕ → M, ∑ t ∈ range 1024, g t = ∑ j ∈ range 8, ∑ r ∈ range 128, g (128 * j + r) := by
    intro g
    have : ∀ n, ∑ t ∈ range (128 * n), g t = ∑ j ∈ range n, ∑ r ∈ range 128, g (128 * j + r) := by
      intro n
      induction n with
      | zero => simp
      | succ n ih => rw [Nat.mul_succ, Finset.sum_range_add, ih, Finset.sum_range_succ _ n]
    exact this 8
  rw [e, e]
  have e2 : ∀ j ∈ range 8, ∑ r ∈ range 128, f (gr c (128 * j + r)) = ∑ r ∈ range 128, f (128 * kd c j + r) := by
    intro j _
    refine Finset.sum_congr rfl fun r hr => ?_
    have := Finset.mem_range.mp hr
    unfold gr
    rw [show (128 * j + r) / 128 = j by omega, show (128 * j + r) % 128 = r by omega]
  rw [Finset.sum_congr rfl e2]
  have e3 : ∀ c : Dev nD, (range 8).image (kd c) = range 8 := by decide
  have e4 : ∀ c : Dev nD, Set.InjOn (kd c) (range 8) := by
    intro c a ha b' hb' h
    have : ∀ c : Dev nD, ∀ a < 8, ∀ b' < 8, kd c a = kd c b' → a = b' := by decide
    exact this c a (Finset.mem_range.mp ha) b' (Finset.mem_range.mp hb') h
  rw [← Finset.sum_image (f := fun k => ∑ r ∈ range 128, f (128 * k + r)) (e4 c), e3]

theorem ctx_val (H : Whole I x wq wk wv wo cs sn) (c : Dev nD) (j b h : ℕ) (hj : j < 8) (hb : b < 2) (hh : h < 4) (r : Fin 128) (d : Fin 64) :
    ctx I c j b h (ix2 r d) = CT x wq wk cs sn wv b (128 * kd c j + r.val) (64 * (4 * c.val + h) + d.val) := by
  have eg : gr c (128 * j + r.val) = 128 * kd c j + r.val := by
    unfold gr; rw [show (128 * j + r.val) / 128 = j by omega, show (128 * j + r.val) % 128 = r.val by omega]
  have en : (64 * (4 * c.val + h) + d.val) / 64 = 4 * c.val + h := by omega
  rw [ctx_at I c j b h hj, CT, en]
  unfold S
  simp only [VG_one, VG_at H c b h _ hb hh, E_at H c b h _ _ hb hh, eg, mul_one]
  rw [sum_gr c fun t => Ideal.exp (sc x wq wk cs sn b (4 * c.val + h) (128 * kd c j + r.val) t : EReal),
    sum_gr c fun t => Ideal.exp (sc x wq wk cs sn b (4 * c.val + h) (128 * kd c j + r.val) t : EReal) * V x wv b t (64 * (4 * c.val + h) + d.val)]

/-- What a device adds to an output element: the columns of its four heads. -/
theorem part_val (H : Whole I x wq wk wv wo cs sn) (c : Dev nD) (j b : ℕ) (hj : j < 8) (hb : b < 2) (r : Fin 128) (e : Fin 512) :
    part I c j b (ix2 r e) = ∑ n ∈ range 256, CT x wq wk cs sn wv b (128 * kd c j + r.val) (256 * c.val + n) * wo (256 * c.val + n) e := by
  have k : ∀ g : ℕ → EReal, ∑ n ∈ range 256, g n = (∑ d : Fin 64, g d.val) + (∑ d : Fin 64, g (64 + d.val)) + (∑ d : Fin 64, g (128 + d.val)) + (∑ d : Fin 64, g (192 + d.val)) := by
    intro g
    rw [show 256 = 64 + 64 + 64 + 64 from rfl, Finset.sum_range_add, Finset.sum_range_add, Finset.sum_range_add]
    simp only [Finset.sum_range]
  rw [part_at, k]
  simp only [ctx_val H c j b _ hj hb (by decide : 0 < 4), ctx_val H c j b _ hj hb (by decide : 1 < 4), ctx_val H c j b _ hj hb (by decide : 2 < 4),
    ctx_val H c j b _ hj hb (by decide : 3 < 4), H.ho]
  have e0 : ∀ d, 64 * (4 * c.val + 0) + d = 256 * c.val + d := fun d => by ring
  have e1 : ∀ d, 64 * (4 * c.val + 1) + d = 256 * c.val + (64 + d) := fun d => by ring
  have e2 : ∀ d, 64 * (4 * c.val + 2) + d = 256 * c.val + (128 + d) := fun d => by ring
  have e3 : ∀ d, 64 * (4 * c.val + 3) + d = 256 * c.val + (192 + d) := fun d => by ring
  simp only [e0, e1, e2, e3]

/-- A device's share of an output element. -/
def sh (x : ℕ → ℕ → ℕ → ℝ) (wq wk cs sn : ℕ → ℕ → ℝ) (wv wo : ℕ → ℕ → EReal) (b i e k : ℕ) : EReal :=
  ∑ n ∈ range 256, CT x wq wk cs sn wv b i (256 * k + n) * wo (256 * k + n) e

theorem RI_val (H : Whole I x wq wk wv wo cs sn) (c : Dev nD) (s b : ℕ) (hs : s < 7) (hb : b < 2) (r : Fin 128) (e : Fin 512) :
    RI I c s b r e = sh x wq wk cs sn wv wo b (128 * c.val + r.val) e ((c.val + s + 1) % 8) := by
  have h1 : ∀ c : Dev nD, ∀ s < 7, kd (dv (c.val + s + 1)) (jt (ts s)) = c.val ∧ jt (ts s) < 8 := by decide
  unfold RI RG
  rw [at4_eq, of_col e.isLt, of_col r.isLt, send_at, part_val H _ _ _ (h1 c s hs).2 hb, (h1 c s hs).1]
  rfl

/-- The kernel's result, element by element. -/
theorem out_val (H : Whole I x wq wk wv wo cs sn) (c : Dev nD) (b : Fin 2) (r : Fin 128) (e : Fin 512) :
    outAll I c (ix3 b r e) = ∑ n ∈ range 2048, CT x wq wk cs sn wv b (128 * c.val + r.val) n * wo n e := by
  have h0 : ∀ c : Dev nD, kd c 0 = c.val := by decide
  have k : ∀ g : ℕ → EReal, ∑ n ∈ range 2048, g n = ∑ k ∈ range 8, ∑ n ∈ range 256, g (256 * k + n) := by
    intro g
    have : ∀ n, ∑ t ∈ range (256 * n), g t = ∑ j ∈ range n, ∑ r ∈ range 256, g (256 * j + r) := by
      intro n
      induction n with
      | zero => simp
      | succ n ih => rw [Nat.mul_succ, Finset.sum_range_add, ih, Finset.sum_range_succ _ n]
    exact this 8
  have hi : (fun | 0 => r | 1 => e : S128x512.Idx) = ix2 r e := by funext a; match a with | 0 => rfl | 1 => rfl
  rw [k]
  show outRow I c b.val (fun | 0 => r | 1 => e) = _
  rw [hi, outRow]
  simp only [addIn_at]
  rw [RI_val H c 0 _ (by decide) b.isLt, RI_val H c 1 _ (by decide) b.isLt, RI_val H c 2 _ (by decide) b.isLt, RI_val H c 3 _ (by decide) b.isLt,
    RI_val H c 4 _ (by decide) b.isLt, RI_val H c 5 _ (by decide) b.isLt, RI_val H c 6 _ (by decide) b.isLt, part_val H c 0 _ (by decide) b.isLt, h0]
  have hp : ∀ f : ℕ → EReal, f c.val + f ((c.val + 6 + 1) % 8) + f ((c.val + 5 + 1) % 8) + f ((c.val + 4 + 1) % 8) + f ((c.val + 0 + 1) % 8)
      + f ((c.val + 1 + 1) % 8) + f ((c.val + 2 + 1) % 8) + f ((c.val + 3 + 1) % 8) = ∑ k ∈ range 8, f k := by
    intro f
    simp only [Finset.sum_range_succ, Finset.sum_range_zero]
    obtain ⟨cv, hc⟩ := c
    have hc' : cv < 8 := hc
    obtain rfl | rfl | rfl | rfl | rfl | rfl | rfl | rfl : cv = 0 ∨ cv = 1 ∨ cv = 2 ∨ cv = 3 ∨ cv = 4 ∨ cv = 5 ∨ cv = 6 ∨ cv = 7 := by omega
    all_goals (norm_num; abel)
  exact hp (sh x wq wk cs sn wv wo b (128 * c.val + r.val) e)

end Cert.Rope

end
-- ==== Proof.ValR.lean ====
module

public import proofs.«01_k».proof.Proof.Gen.ReferenceIdeal
public import proofs.«01_k».proof.Proof.Gen.ReferenceIdeal.Run
public import proofs.«01_k».proof.Proof.ValDef

/-! The reference's result at an index, over the extended reals. -/

@[expose] public section

noncomputable section

namespace Cert.RopeRef

open Cert.ReferenceIdeal Cert.ReferenceIdeal.Gen Cert.ReferenceIdeal.Value
open Idealize.ShloMosaic
open Idealize.ShloMosaic.TcCoe
open scoped BigOperators

/-- A projection, split in heads. -/
def prj (x : FVec Ideal S2x1024x512 .bf16) (w : FVec Ideal S512x2048 .bf16) : FVec Ideal S2x1024x32x64 .f32 :=
  extf .f32 (shapeCast _ (truncf .bf16 (Host.dotGeneral dot_S2x1024x512_S512x2048_S2x1024x2048_2_0_01_1_n_n none x w) bitsLt_bf16_f32) shapeCasts_S2x1024x2048_S2x1024x32x64) bitsLt_bf16_f32

/-- A table, one copy a device. -/
def tab (t : FVec Ideal S1024x256 .f32) : FVec Ideal S2x1024x32x64 .f32 :=
  broadcastInDim S2x1024x32x64 ![0, 1, 2, 3] bcast_S1x1024x32x64_S2x1024x32x64_0_1_2_3 (broadcastInDim S1x1024x32x64 ![1, 2, 3] bcast_S1024x32x64_S1x1024x32x64_1_2_3 (shapeCast _ (shapeCast _ (broadcastInDim S1x1024x8x256 ![0, 1, 2, 3] bcast_S1x1024x1x256_S1x1024x8x256_0_1_2_3 (shapeCast _ t shapeCasts_S1024x256_S1x1024x1x256)) shapeCasts_S1x1024x8x256_S1024x2048) shapeCasts_S1024x2048_S1024x32x64))

/-- The pairs turned. -/
def trn (p : FVec Ideal S2x1024x32x64 .f32) : FVec Ideal S2x1024x32x64 .f32 :=
  shapeCast _ (concatenate S2x1024x32x32x2 4 [⟨S2x1024x32x32x1, (broadcastInDim S2x1024x32x32x1 ![0, 1, 2, 3] bcast_S2x1024x32x32_S2x1024x32x32x1_0_1_2_3 (Host.negf (shapeCast _ (extractStridedSlice S2x1024x32x32x1 ![0, 0, 0, 0, 1] (shapeCast _ p shapeCasts_S2x1024x32x64_S2x1024x32x32x2) slices_S2x1024x32x32x2_S2x1024x32x32x1_0_0_0_0_1) shapeCasts_S2x1024x32x32x1_S2x1024x32x32)))⟩, ⟨S2x1024x32x32x1, (broadcastInDim S2x1024x32x32x1 ![0, 1, 2, 3] bcast_S2x1024x32x32_S2x1024x32x32x1_0_1_2_3 (shapeCast _ (extractStridedSlice S2x1024x32x32x1 ![0, 0, 0, 0, 0] (shapeCast _ p shapeCasts_S2x1024x32x64_S2x1024x32x32x2) slices_S2x1024x32x32x2_S2x1024x32x32x1_0_0_0_0_0) shapeCasts_S2x1024x32x32x1_S2x1024x32x32))⟩] concatenates_S2x1024x32x32x1_S2x1024x32x32x1_S2x1024x32x32x2_d4) shapeCasts_S2x1024x32x32x2_S2x1024x32x64

def rot (p : FVec Ideal S2x1024x32x64 .f32) (cs sn : FVec Ideal S1024x256 .f32) : FVec Ideal S2x1024x32x64 .f32 :=
  addf (mulf p (tab cs)) (mulf (trn p) (tab sn))

/-- The scaled scores. -/
def sco (q k : FVec Ideal S2x1024x32x64 .f32) : FVec Ideal S2x32x1024x1024 .f32 :=
  mulf (Host.dotGeneral dot_S2x1024x32x64_S2x1024x32x64_S2x32x1024x1024_3_3_1_1_02_02 none q k) (broadcastInDim S2x32x1024x1024 ![] bcast_S_S2x32x1024x1024 (constant S_ .f32 0x3E000000#32))

/-- The exponentials, each row's greatest score subtracted. -/
def wts (s : FVec Ideal S2x32x1024x1024 .f32) : FVec Ideal S2x32x1024x1024 .f32 :=
  Host.exp (subf s (broadcastInDim S2x32x1024x1024 ![0, 1, 2, 3] bcast_S2x32x1024x1_S2x32x1024x1024_0_1_2_3 (broadcastInDim S2x32x1024x1 ![0, 1, 2] bcast_S2x32x1024_S2x32x1024x1_0_1_2 (Host.reduce FloatOps.maximumf s (constant S_ .f32 0xFF800000#32) reducesTo_S2x32x1024x1024_S2x32x1024_d3 h_S_))))

def nrm (w : FVec Ideal S2x32x1024x1024 .f32) : FVec Ideal S2x32x1024x1024 .f32 :=
  Host.divf w (broadcastInDim S2x32x1024x1024 ![0, 1, 2, 3] bcast_S2x32x1024x1_S2x32x1024x1024_0_1_2_3 (broadcastInDim S2x32x1024x1 ![0, 1, 2] bcast_S2x32x1024_S2x32x1024x1_0_1_2 (Host.reduceAdd w (constant S_ .f32 0x00000000#32) reducesTo_S2x32x1024x1024_S2x32x1024_d3 h_S_)))

def fin (v : FVec Ideal S2x1024x32x64 .f32) (w : FVec Ideal S2x32x1024x1024 .f32) (o : FVec Ideal S2048x512 .bf16) : FVec Ideal S2x1024x512 .f32 :=
  Host.dotGeneral dot_S2x1024x2048_S2048x512_S2x1024x512_2_0_01_1_n_n none (shapeCast S2x1024x2048 (transpose S2x1024x32x64 [0, 3, 1, 2] (Host.dotGeneral dot_S2x1024x32x64_S2x32x1024x1024_S2x32x64x1024_1_3_3_2_02_01 none v w) transposes_S2x32x64x1024_S2x1024x32x64_0_3_1_2) shapeCasts_S2x1024x32x64_S2x1024x2048) (extf .f32 o bitsLt_bf16_f32)

def refOut (x : FVec Ideal S2x1024x512 .bf16) (wq wk wv : FVec Ideal S512x2048 .bf16) (wo : FVec Ideal S2048x512 .bf16) (cs sn : FVec Ideal S1024x256 .f32) : FVec Ideal S2x1024x512 .f32 :=
  fin (prj x wv) (nrm (wts (sco (rot (prj x wq) cs sn) (rot (prj x wk) cs sn)))) wo

theorem prj_at (x w) (b : Fin 2) (i : Fin 1024) (h : Fin 32) (d : Fin 64) :
    prj x w (ix4 b i h d) = ∑ k : Fin 512, x (ix3 b i k) * w (ix2 k ⟨h.val * 64 + d.val, by omega⟩) := by
  pointwise [prj]
theorem tab_at (t) (b : Fin 2) (i : Fin 1024) (h : Fin 32) (d : Fin 64) :
    tab t (ix4 b i h d) = t (ix2 i ⟨h.val % 4 * 64 + d.val, by omega⟩) := by
  pointwise [tab]
theorem trn_at (t) (b : Fin 2) (i : Fin 1024) (h : Fin 32) (d : Fin 64) : trn t (ix4 b i h d)
    = if d.val % 2 < 1 then -t (ix4 b i h ⟨d.val / 2 * 2 + 1, by omega⟩) else t (ix4 b i h ⟨d.val / 2 * 2, by omega⟩) := by
  pointwise [trn]
  split <;> rfl
theorem rot_at (p cs sn) (b : Fin 2) (i : Fin 1024) (h : Fin 32) (d : Fin 64) : rot p cs sn (ix4 b i h d)
    = p (ix4 b i h d) * tab cs (ix4 b i h d) + trn p (ix4 b i h d) * tab sn (ix4 b i h d) := by
  pointwise [rot]
theorem sco_at (q k) (b : Fin 2) (h : Fin 32) (i j : Fin 1024) :
    sco q k (ix4 b h i j) = (∑ d : Fin 64, q (ix4 b i h d) * k (ix4 b j h d)) * Ideal.ofBits .f32 0x3E000000#32 := by
  pointwise [sco]
theorem wts_at (s) (b : Fin 2) (h : Fin 32) (i j : Fin 1024) : wts s (ix4 b h i j)
    = Ideal.exp (s (ix4 b h i j) - Finset.fold max (Ideal.ofBits .f32 0xFF800000#32) (fun k => s (ix4 b h i k)) Finset.univ) := by
  pointwise [wts]
theorem nrm_at (w) (b : Fin 2) (h : Fin 32) (i j : Fin 1024) :
    nrm w (ix4 b h i j) = Ideal.div (w (ix4 b h i j)) (∑ k : Fin 1024, w (ix4 b h i k)) := by
  pointwise [nrm]
theorem fin_at (v w o) (b : Fin 2) (i : Fin 1024) (e : Fin 512) : fin v w o (ix3 b i e)
    = ∑ n : Fin 2048, (∑ j : Fin 1024, v (ix4 b j ⟨n.val / 64, by omega⟩ ⟨n.val % 64, by omega⟩) * w (ix4 b ⟨n.val / 64, by omega⟩ i j)) * o (ix2 n e) := by
  pointwise [fin]

open Cert.RopeV Finset

variable {X : FVec Ideal S2x1024x512 .bf16} {WQ WK WV : FVec Ideal S512x2048 .bf16} {WO : FVec Ideal S2048x512 .bf16} {CS SN : FVec Ideal S1024x256 .f32}
variable {x : ℕ → ℕ → ℕ → ℝ} {wq wk : ℕ → ℕ → ℝ} {wv wo : ℕ → ℕ → EReal} {cs sn : ℕ → ℕ → ℝ}

theorem prj_real (hx : ∀ b i d, X (ix3 b i d) = (x b.val i.val d.val : EReal)) (hw : ∀ d n, WQ (ix2 d n) = (wq d.val n.val : EReal))
    (b : Fin 2) (i : Fin 1024) (h : Fin 32) (d : Fin 64) : prj X WQ (ix4 b i h d) = (P x wq b i (64 * h.val + d.val) : EReal) := by
  rw [prj_at, P, Finset.sum_range, coe_sum]
  refine Finset.sum_congr rfl fun k _ => ?_
  rw [hx, hw, EReal.coe_mul, mul_comm 64]

theorem rot_real (hx : ∀ b i d, X (ix3 b i d) = (x b.val i.val d.val : EReal)) (hw : ∀ d n, WQ (ix2 d n) = (wq d.val n.val : EReal))
    (hc : ∀ i n, CS (ix2 i n) = (cs i.val n.val : EReal)) (hs : ∀ i n, SN (ix2 i n) = (sn i.val n.val : EReal))
    (b : Fin 2) (i : Fin 1024) (h : Fin 32) (d : Fin 64) : rot (prj X WQ) CS SN (ix4 b i h d) = (R x wq cs sn b i (64 * h.val + d.val) : EReal) := by
  have e : h.val % 4 * 64 + d.val = (64 * h.val + d.val) % 256 := by omega
  have e2 : (64 * h.val + d.val) % 2 = d.val % 2 := by omega
  rw [rot_at, trn_at, tab_at, tab_at, hc, hs, R, prj_real hx hw, prj_real hx hw, prj_real hx hw]
  simp only [e, e2]
  by_cases hd : d.val % 2 = 0
  · rw [if_pos (by omega), if_pos hd, show 64 * h.val + (d.val / 2 * 2 + 1) = 64 * h.val + d.val + 1 by omega]
    push_cast; rfl
  · rw [if_neg (by omega), if_neg hd, show 64 * h.val + d.val / 2 * 2 = 64 * h.val + d.val - 1 by omega]
    push_cast; rfl

theorem sco_real (hx : ∀ b i d, X (ix3 b i d) = (x b.val i.val d.val : EReal)) (hq : ∀ d n, WQ (ix2 d n) = (wq d.val n.val : EReal))
    (hk : ∀ d n, WK (ix2 d n) = (wk d.val n.val : EReal))
    (hc : ∀ i n, CS (ix2 i n) = (cs i.val n.val : EReal)) (hs : ∀ i n, SN (ix2 i n) = (sn i.val n.val : EReal))
    (b : Fin 2) (h : Fin 32) (i j : Fin 1024) :
    sco (rot (prj X WQ) CS SN) (rot (prj X WK) CS SN) (ix4 b h i j) = (sc x wq wk cs sn b h i j : EReal) := by
  rw [sco_at, ofBits_eighth_f32]
  simp only [rot_real hx hq hc hs, rot_real hx hk hc hs, ← EReal.coe_mul, ← coe_sum]
  rw [sc, Finset.sum_range, Finset.sum_mul]
  congr 1
  exact Finset.sum_congr rfl fun d _ => by ring

end Cert.RopeRef

end
-- ==== Proof.ValR2.lean ====
module

public import proofs.«01_k».proof.Proof.Gen.ReferenceIdeal
public import proofs.«01_k».proof.Proof.Gen.ReferenceIdeal.Run
public import proofs.«01_k».proof.Proof.ValR

/-! The reference's result at an index, over the extended reals. -/

@[expose] public section

noncomputable section

namespace Cert.RopeRef

open Cert.ReferenceIdeal Cert.ReferenceIdeal.Gen Cert.ReferenceIdeal.Value
open Idealize.ShloMosaic
open Idealize.ShloMosaic.TcCoe
open scoped BigOperators

open Cert.RopeV Finset

variable {X : FVec Ideal S2x1024x512 .bf16} {WQ WK WV : FVec Ideal S512x2048 .bf16} {WO : FVec Ideal S2048x512 .bf16} {CS SN : FVec Ideal S1024x256 .f32}
variable {x : ℕ → ℕ → ℕ → ℝ} {wq wk : ℕ → ℕ → ℝ} {wv wo : ℕ → ℕ → EReal} {cs sn : ℕ → ℕ → ℝ}

/-- The reference's result, element by element. -/
theorem ref_at (hx : ∀ b i d, X (ix3 b i d) = (x b.val i.val d.val : EReal)) (hq : ∀ d n, WQ (ix2 d n) = (wq d.val n.val : EReal))
    (hk : ∀ d n, WK (ix2 d n) = (wk d.val n.val : EReal)) (hv : ∀ d n, WV (ix2 d n) = wv d.val n.val) (ho : ∀ n e, WO (ix2 n e) = wo n.val e.val)
    (hc : ∀ i n, CS (ix2 i n) = (cs i.val n.val : EReal)) (hs : ∀ i n, SN (ix2 i n) = (sn i.val n.val : EReal))
    (b : Fin 2) (i : Fin 1024) (e : Fin 512) :
    refOut X WQ WK WV WO CS SN (ix3 b i e) = ∑ n ∈ range 2048, CT x wq wk cs sn wv b i n * wo n e := by
  rw [refOut, fin_at, Finset.sum_range (n := 2048)]
  refine Finset.sum_congr rfl fun n _ => ?_
  rw [ho]
  refine congrArg (· * _) ?_
  obtain ⟨M, hM⟩ := fold_max (n := 1024) (by omega) fun j => sc x wq wk cs sn b (n.val / 64) i j
  rw [CT, ← softmax (by omega) (fun j => sc x wq wk cs sn b (n.val / 64) i j) _ M, Finset.sum_range (n := 1024)]
  refine Finset.sum_congr rfl fun j _ => ?_
  have hV : prj X WV (ix4 b j ⟨n.val / 64, by omega⟩ ⟨n.val % 64, by omega⟩) = V x wv b j n := by
    have en : n.val / 64 * 64 + n.val % 64 = n.val := by omega
    rw [prj_at, V, Finset.sum_range]
    refine Finset.sum_congr rfl fun k _ => ?_
    rw [hx, hv]
    simp only [en]
  rw [nrm_at, hV, Finset.sum_range]
  simp only [wts_at, sco_real hx hq hk hc hs, ofBits_bot_f32, hM]

end Cert.RopeRef

end
-- ==== Proof.ValRes.lean ====
module

public import proofs.«01_k».proof.Proof.Gen.ReferenceIdeal
public import proofs.«01_k».proof.Proof.Gen.ReferenceIdeal.Run
public import proofs.«01_k».proof.Proof.ValR

/-! The reference's result is `refOut` of its arguments. -/

@[expose] public section

noncomputable section

namespace Cert.RopeRef

open Cert.ReferenceIdeal Cert.ReferenceIdeal.Gen Cert.ReferenceIdeal.Value
open Idealize.ShloMosaic
open Idealize.ShloMosaic.TcCoe
open scoped BigOperators

set_option maxHeartbeats 2000000 in
set_option maxRecDepth 8192 in
theorem res_eq (m : (ℓ : Loc nD τ sig) → Buf (Elt Ideal) ℓ) (c : Dev nD) :
    res_main_v70 (F := Ideal) m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

end Cert.RopeRef

end
-- ==== Proof.ValPre.lean ====
module

public import proofs.«01_k».proof.Defs
public import Idealize.ShloMosaic.Lib.Pointwise
public import Idealize.ShloMosaic.Init
public import proofs.«01_k».proof.Proof.ValDef

/-! What the precondition says of the inputs. -/

@[expose] public section

noncomputable section

namespace Cert.Pre_rope_inputs_KernelIdeal

open Idealize.ShloMosaic
open Cert.RopeV

instance facts : Facts := ⟨by decide, by decide, by decide, by decide, by decide⟩

theorem fin_of (a : EReal) (h : Ideal.cmp .olt (max a (-a)) (Ideal.ofBits .f32 0x7F800000#32) = 1#1) : a = ((a.toReal : ℝ) : EReal) := by
  rw [ofBits_top_f32] at h
  have h' : max a (-a) < ⊤ := by
    by_contra hn
    simp [Ideal.cmp, hn] at h
  refine (EReal.coe_toReal (fun e => ?_) (fun e => ?_)).symm <;> subst e <;> simp at h'

section
variable (x : FVec Ideal S2x128x512 .bf16) (q k v : FVec Ideal S512x256 .bf16) (o : FVec Ideal S256x512 .bf16) (c s : FVec Ideal S1024x256 .f32) (p : FVec Ideal S256x256 .f32)

theorem at_x (i) : (fn x q k v o c s p).1 i = Ideal.cmp .olt (max (x i) (-(x i))) (Ideal.ofBits .f32 0x7F800000#32) := rfl
theorem at_q (i) : (fn x q k v o c s p).2.1 i = Ideal.cmp .olt (max (q i) (-(q i))) (Ideal.ofBits .f32 0x7F800000#32) := rfl
theorem at_k (i) : (fn x q k v o c s p).2.2.1 i = Ideal.cmp .olt (max (k i) (-(k i))) (Ideal.ofBits .f32 0x7F800000#32) := rfl
theorem at_c (i) : (fn x q k v o c s p).2.2.2.1 i = Ideal.cmp .olt (max (c i) (-(c i))) (Ideal.ofBits .f32 0x7F800000#32) := rfl
theorem at_s (i) : (fn x q k v o c s p).2.2.2.2.1 i = Ideal.cmp .olt (max (s i) (-(s i))) (Ideal.ofBits .f32 0x7F800000#32) := rfl

theorem at_p (i) : (fn x q k v o c s p).2.2.2.2.2 i = Ideal.cmp .oeq (p i)
    (if (BitVec.ofBool (BitVec.ofNat 32 (i 0).val == BitVec.ofNat 32 (i 1).val + 1#32) &&& BitVec.ofBool ((BitVec.ofNat 32 (i 1).val &&& 1#32) == 0#32)) = 1 then Ideal.ofBits .f32 0xBF800000#32
     else if (BitVec.ofBool (BitVec.ofNat 32 (i 1).val == BitVec.ofNat 32 (i 0).val + 1#32) &&& BitVec.ofBool ((BitVec.ofNat 32 (i 0).val &&& 1#32) == 0#32)) = 1 then Ideal.ofBits .f32 0x3F800000#32
     else Ideal.ofBits .f32 0x00000000#32) := rfl
end

theorem bit_eq (i j : ℕ) (hi : i < 256) (hj : j < 256) :
    ((BitVec.ofBool (BitVec.ofNat 32 i == BitVec.ofNat 32 j + 1#32) &&& BitVec.ofBool ((BitVec.ofNat 32 j &&& 1#32) == 0#32)) = 1) ↔ (i = j + 1 ∧ j % 2 = 0) := by
  have e1 : (BitVec.ofNat 32 i == BitVec.ofNat 32 j + 1#32) = decide (i = j + 1) := by
    rw [Bool.eq_iff_iff, beq_iff_eq, decide_eq_true_iff, ← BitVec.toNat_inj]
    simp only [BitVec.toNat_add, BitVec.toNat_ofNat]
    omega
  have e2 : ((BitVec.ofNat 32 j &&& 1#32) == 0#32) = decide (j % 2 = 0) := by
    rw [Bool.eq_iff_iff, beq_iff_eq, decide_eq_true_iff, ← BitVec.toNat_inj]
    simp only [BitVec.toNat_and, BitVec.toNat_ofNat]
    rw [show 1 % 2 ^ 32 = 1 from rfl, Nat.and_one_is_mod, show 0 % 2 ^ 32 = 0 from rfl]
    omega
  rw [e1, e2]
  by_cases h1 : i = j + 1 <;> by_cases h2 : j % 2 = 0 <;> simp [h1, h2]

theorem ofBits_one : Ideal.ofBits .f32 0x3F800000#32 = ((1 : ℝ) : EReal) := by
  simp [Ideal.ofBits, Ideal.ieee, -EReal.coe_mul] <;> norm_num
theorem ofBits_neg_one : Ideal.ofBits .f32 0xBF800000#32 = ((-1 : ℝ) : EReal) := by
  simp [Ideal.ofBits, Ideal.ieee, -EReal.coe_mul] <;> norm_num
theorem ofBits_zero : Ideal.ofBits .f32 0x00000000#32 = ((0 : ℝ) : EReal) := by
  simp [Ideal.ofBits, Ideal.ieee, -EReal.coe_mul] <;> norm_num

/-- The precondition's pair matrix. -/
theorem pm_of (x q k v o c s p) (h : (fn (F := Ideal) x q k v o c s p).2.2.2.2.2 = fun _ => 1#1) (i j : Fin 256) :
    p (ix2 i j) = ((if i.val = j.val + 1 ∧ j.val % 2 = 0 then -1 else if j.val = i.val + 1 ∧ i.val % 2 = 0 then 1 else 0 : ℝ) : EReal) := by
  have h1 := (at_p x q k v o c s p (ix2 i j)).symm.trans (congrFun h _)
  have e : ∀ a b : EReal, Ideal.cmp .oeq a b = 1#1 → a = b := fun a b hab => by
    by_contra hn
    simp [Ideal.cmp, hn] at hab
  rw [e _ _ h1]
  show (if (BitVec.ofBool (BitVec.ofNat 32 i.val == BitVec.ofNat 32 j.val + 1#32) &&& BitVec.ofBool ((BitVec.ofNat 32 j.val &&& 1#32) == 0#32)) = 1 then Ideal.ofBits .f32 0xBF800000#32
     else if (BitVec.ofBool (BitVec.ofNat 32 j.val == BitVec.ofNat 32 i.val + 1#32) &&& BitVec.ofBool ((BitVec.ofNat 32 i.val &&& 1#32) == 0#32)) = 1 then Ideal.ofBits .f32 0x3F800000#32
     else Ideal.ofBits .f32 0x00000000#32) = _
  simp only [bit_eq i.val j.val i.isLt j.isLt, bit_eq j.val i.val j.isLt i.isLt, ofBits_one, ofBits_neg_one, ofBits_zero]
  split_ifs <;> rfl

end Cert.Pre_rope_inputs_KernelIdeal

instance Cert.Pre_rope_inputs_ReferenceIdeal.facts : Cert.Pre_rope_inputs_ReferenceIdeal.Facts := ⟨by decide, by decide, by decide, by decide, by decide⟩

end
-- ==== Proof.ValMain.lean ====
module

public import proofs.«01_k».proof.Proof.ValEnd
public import proofs.«01_k».proof.Proof.ValO
public import proofs.«01_k».proof.Proof.ValR2
public import proofs.«01_k».proof.Proof.ValRes
public import proofs.«01_k».proof.Proof.ValPre
public import Idealize.ShloMosaic.Lib.LayoutAt

/-! The kernel's result is the reference's, block by block. -/

@[expose] public section

noncomputable section

namespace Cert.RopeMain

open Idealize.ShloMosaic
open Idealize.ShloMosaic.TcCoe
open Cert.RopeV Cert.Rope Finset

abbrev A3 : Shape := ⟨3, ![2, 1024, 512]⟩
abbrev A2 : Shape := ⟨2, ![512, 2048]⟩
abbrev B2 : Shape := ⟨2, ![2048, 512]⟩
abbrev T2 : Shape := ⟨2, ![1024, 256]⟩

theorem blk3 {α : Type} (v : A3.Idx → α) (c : Fin 8) (b : Fin 2) (r : Fin 128) (d : Fin 512) :
    Layout.block ⟨3, ![2, 128, 512]⟩ ⟨3, ![2, 1024, 512]⟩ 1 8 c v (by decide) (ix3 b r d) = v (ix3 b ⟨128 * c.val + r.val, by omega⟩ d) := by
  rw [Layout.block_apply]
  congr 1
  funext a
  match a with
  | 0 => exact Fin.ext (Layout.Tiles.idx_val_of_ne _ c _ 0 (by decide))
  | 1 => exact Fin.ext ((Layout.Tiles.idx_val_self _ c _ 1 rfl).trans (by show c.val * 128 + r.val = 128 * c.val + r.val; ring))
  | 2 => exact Fin.ext (Layout.Tiles.idx_val_of_ne _ c _ 2 (by decide))

theorem blk2 {α : Type} (v : A2.Idx → α) (c : Fin 8) (d : Fin 512) (n : Fin 256) :
    Layout.block ⟨2, ![512, 256]⟩ ⟨2, ![512, 2048]⟩ 1 8 c v (by decide) (ix2 d n) = v (ix2 d ⟨256 * c.val + n.val, by omega⟩) := by
  rw [Layout.block_apply]
  congr 1
  funext a
  match a with
  | 0 => exact Fin.ext (Layout.Tiles.idx_val_of_ne _ c _ 0 (by decide))
  | 1 => exact Fin.ext ((Layout.Tiles.idx_val_self _ c _ 1 rfl).trans (by show c.val * 256 + n.val = 256 * c.val + n.val; ring))

theorem blk2' {α : Type} (v : B2.Idx → α) (c : Fin 8) (n : Fin 256) (e : Fin 512) :
    Layout.block ⟨2, ![256, 512]⟩ ⟨2, ![2048, 512]⟩ 0 8 c v (by decide) (ix2 n e) = v (ix2 ⟨256 * c.val + n.val, by omega⟩ e) := by
  rw [Layout.block_apply]
  congr 1
  funext a
  match a with
  | 0 => exact Fin.ext ((Layout.Tiles.idx_val_self _ c _ 0 rfl).trans (by show c.val * 256 + n.val = 256 * c.val + n.val; ring))
  | 1 => exact Fin.ext (Layout.Tiles.idx_val_of_ne _ c _ 1 (by decide))

/-- An array's elements, under numbers. -/
def rd3 (v : A3.Idx → EReal) (b i d : ℕ) : EReal := v (ix3 (Fin.ofNat 2 b) (Fin.ofNat 1024 i) (Fin.ofNat 512 d))
def rd2 {p q : ℕ} [NeZero p] [NeZero q] (v : (⟨2, ![p, q]⟩ : Shape).Idx → EReal) (i j : ℕ) : EReal := v (ix2 (Fin.ofNat p i) (Fin.ofNat q j))

theorem rd3_val (v : A3.Idx → EReal) (b : Fin 2) (i : Fin 1024) (d : Fin 512) : rd3 v b i d = v (ix3 b i d) := by
  unfold rd3; rw [of_col b.isLt, of_col i.isLt, of_col d.isLt]
theorem rd2_val {p q : ℕ} [NeZero p] [NeZero q] (v : (⟨2, ![p, q]⟩ : Shape).Idx → EReal) (i : Fin p) (j : Fin q) : rd2 v i j = v (ix2 i j) := by
  unfold rd2; rw [of_col i.isLt, of_col j.isLt]

/-- The kernel's result on a device is its block of the reference's. -/
theorem out_eq (I : Ins Ideal) (X : A3.Idx → EReal) (WQ WK WV : A2.Idx → EReal) (WO : B2.Idx → EReal) (CS SN : T2.Idx → EReal)
    (hx : ∀ c b r d, I.x c (ix3 b r d) = Layout.block ⟨3, ![2, 128, 512]⟩ ⟨3, ![2, 1024, 512]⟩ 1 8 c X (by decide) (ix3 b r d))
    (hq : ∀ c d n, I.wq c (ix2 d n) = Layout.block ⟨2, ![512, 256]⟩ ⟨2, ![512, 2048]⟩ 1 8 c WQ (by decide) (ix2 d n))
    (hk : ∀ c d n, I.wk c (ix2 d n) = Layout.block ⟨2, ![512, 256]⟩ ⟨2, ![512, 2048]⟩ 1 8 c WK (by decide) (ix2 d n))
    (hv : ∀ c d n, I.wv c (ix2 d n) = Layout.block ⟨2, ![512, 256]⟩ ⟨2, ![512, 2048]⟩ 1 8 c WV (by decide) (ix2 d n))
    (ho : ∀ c n e, I.wo c (ix2 n e) = Layout.block ⟨2, ![256, 512]⟩ ⟨2, ![2048, 512]⟩ 0 8 c WO (by decide) (ix2 n e))
    (hc : ∀ c i n, I.cs c (ix2 i n) = CS (ix2 i n)) (hs : ∀ c i n, I.sn c (ix2 i n) = SN (ix2 i n))
    (fx : ∀ c b r d, I.x c (ix3 b r d) = ((I.x c (ix3 b r d)).toReal : EReal))
    (fq : ∀ c d n, I.wq c (ix2 d n) = ((I.wq c (ix2 d n)).toReal : EReal))
    (fk : ∀ c d n, I.wk c (ix2 d n) = ((I.wk c (ix2 d n)).toReal : EReal))
    (fc : ∀ c i n, I.cs c (ix2 i n) = ((I.cs c (ix2 i n)).toReal : EReal))
    (fs : ∀ c i n, I.sn c (ix2 i n) = ((I.sn c (ix2 i n)).toReal : EReal))
    (hp : ∀ c i j, I.pm c (ix2 i j) = ((if i.val = j.val + 1 ∧ j.val % 2 = 0 then -1 else if j.val = i.val + 1 ∧ i.val % 2 = 0 then 1 else 0 : ℝ) : EReal))
    (c : Fin 8) : outAll I c = Layout.block ⟨3, ![2, 128, 512]⟩ ⟨3, ![2, 1024, 512]⟩ 1 8 c (Cert.RopeRef.refOut X WQ WK WV WO CS SN) (by decide) := by
  have gx : ∀ (b : Fin 2) (i : Fin 1024) (d : Fin 512), X (ix3 b i d) = ((rd3 X b i d).toReal : EReal) := by
    intro b i d
    have h := fx (⟨i.val / 128, by omega⟩ : Fin 8) b ⟨i.val % 128, by omega⟩ d
    rw [hx, blk3] at h
    have e : (⟨128 * (i.val / 128) + i.val % 128, by omega⟩ : Fin 1024) = i := Fin.ext (by show 128 * (i.val / 128) + i.val % 128 = i.val; omega)
    rw [rd3_val]
    simpa only [e] using h
  have g2 : ∀ (W : A2.Idx → EReal) (w : Fin 8 → (⟨2, ![512, 256]⟩ : Shape).Idx → EReal)
      (hw : ∀ c d n, w c (ix2 d n) = Layout.block ⟨2, ![512, 256]⟩ ⟨2, ![512, 2048]⟩ 1 8 c W (by decide) (ix2 d n))
      (fw : ∀ c d n, w c (ix2 d n) = ((w c (ix2 d n)).toReal : EReal)) (d : Fin 512) (n : Fin 2048), W (ix2 d n) = ((rd2 W d n).toReal : EReal) := by
    intro W w hw fw d n
    have h := fw ⟨n.val / 256, by omega⟩ d ⟨n.val % 256, by omega⟩
    rw [hw, blk2] at h
    have e : (⟨256 * (n.val / 256) + n.val % 256, by omega⟩ : Fin 2048) = n := Fin.ext (by show 256 * (n.val / 256) + n.val % 256 = n.val; omega)
    rw [rd2_val]
    simpa only [e] using h
  have gq := g2 WQ I.wq hq fq
  have gk := g2 WK I.wk hk fk
  have gc : ∀ (i : Fin 1024) (n : Fin 256), CS (ix2 i n) = ((rd2 CS i n).toReal : EReal) := fun i n => by
    have h := fc 0 i n
    rw [hc] at h
    rw [rd2_val]; exact h
  have gs : ∀ (i : Fin 1024) (n : Fin 256), SN (ix2 i n) = ((rd2 SN i n).toReal : EReal) := fun i n => by
    have h := fs 0 i n
    rw [hs] at h
    rw [rd2_val]; exact h
  have W : Whole I (fun b i d => (rd3 X b i d).toReal) (fun d n => (rd2 WQ d n).toReal) (fun d n => (rd2 WK d n).toReal)
      (rd2 WV) (rd2 WO) (fun i n => (rd2 CS i n).toReal) (fun i n => (rd2 SN i n).toReal) :=
    { hx := fun c b r d => by rw [hx, blk3]; exact gx b _ d
      hq := fun c d n => by rw [hq, blk2]; exact gq d _
      hk := fun c d n => by rw [hk, blk2]; exact gk d _
      hv := fun c d n => by rw [hv, blk2]; exact (rd2_val WV d _).symm
      ho := fun c n e => by rw [ho, blk2']; exact (rd2_val WO _ e).symm
      hc := fun c i n => by rw [hc]; exact gc i n
      hs := fun c i n => by rw [hs]; exact gs i n
      hp := hp }
  have key : ∀ (b : Fin 2) (r : Fin 128) (e : Fin 512), outAll I c (ix3 b r e)
      = Layout.block ⟨3, ![2, 128, 512]⟩ ⟨3, ![2, 1024, 512]⟩ 1 8 c (Cert.RopeRef.refOut X WQ WK WV WO CS SN) (by decide) (ix3 b r e) := by
    intro b r e
    rw [blk3]
    refine (out_val W c b r e).trans ?_
    exact (Cert.RopeRef.ref_at (x := fun b i d => (rd3 X b i d).toReal) (wq := fun d n => (rd2 WQ d n).toReal) (wk := fun d n => (rd2 WK d n).toReal)
      (wv := rd2 WV) (wo := rd2 WO) (cs := fun i n => (rd2 CS i n).toReal) (sn := fun i n => (rd2 SN i n).toReal)
      gx gq gk (fun d n => (rd2_val WV d n).symm) (fun n e => (rd2_val WO n e).symm) gc gs b ⟨128 * c.val + r.val, by omega⟩ e).symm
  funext i
  have hi : i = ix3 (i 0 : Fin 2) (i 1 : Fin 128) (i 2 : Fin 512) := by
    funext a; match a with | 0 => rfl | 1 => rfl | 2 => rfl
  exact (congrArg _ hi).trans ((key (i 0) (i 1) (i 2)).trans (congrArg _ hi).symm)

open Cert.KernelIdeal in
/-- From any memory the precondition holds of, the kernel's result is the reference's. -/
theorem algebraic : @Cert.algebraic_KernelIdeal_ReferenceIdeal_pre_rope_inputs_KernelIdeal Cert.KernelIdeal.Gen.facts Cert.ReferenceIdeal.Gen.facts Cert.Pre_rope_inputs_KernelIdeal.facts := by
  intro m g m' g' hP hm
  refine ⟨Cert.ReferenceIdeal.Value.res_main_v70 (F := Ideal) m' 0, ?_, ?_⟩
  · refine (θ_run _ _ _).mono (fun r h c => ⟨(h c).1.trans ?_, (h c).2⟩) (Cert.Rope.run_out m g)
    rw [Cert.RopeRef.res_eq]
    refine out_eq (insOf m) _ _ _ _ _ _ _ (fun c b r d => ?_) (fun c d n => ?_) (fun c d n => ?_) (fun c d n => ?_) (fun c n e => ?_) (fun c i n => ?_) (fun c i n => ?_)
      (fun c b r d => ?_) (fun c d n => ?_) (fun c d n => ?_) (fun c i n => ?_) (fun c i n => ?_) (fun c i j => ?_) c
    · exact (ins_x m c _).trans (congrFun (hm c).1 _)
    · exact (ins_wq m c _).trans (congrFun (hm c).2.1 _)
    · exact (ins_wk m c _).trans (congrFun (hm c).2.2.1 _)
    · exact (ins_wv m c _).trans (congrFun (hm c).2.2.2.1 _)
    · exact (ins_wo m c _).trans (congrFun (hm c).2.2.2.2.1 _)
    · exact (ins_cs m c _).trans (congrFun (hm c).2.2.2.2.2.1 _)
    · exact (ins_sn m c _).trans (congrFun (hm c).2.2.2.2.2.2.1 _)
    · rw [ins_x]
      exact Cert.Pre_rope_inputs_KernelIdeal.fin_of _ ((Cert.Pre_rope_inputs_KernelIdeal.at_x _ _ _ _ _ _ _ _ _).symm.trans (congrFun (hP c).1 _))
    · rw [ins_wq]
      exact Cert.Pre_rope_inputs_KernelIdeal.fin_of _ ((Cert.Pre_rope_inputs_KernelIdeal.at_q _ _ _ _ _ _ _ _ _).symm.trans (congrFun (hP c).2.1 _))
    · rw [ins_wk]
      exact Cert.Pre_rope_inputs_KernelIdeal.fin_of _ ((Cert.Pre_rope_inputs_KernelIdeal.at_k _ _ _ _ _ _ _ _ _).symm.trans (congrFun (hP c).2.2.1 _))
    · rw [ins_cs]
      exact Cert.Pre_rope_inputs_KernelIdeal.fin_of _ ((Cert.Pre_rope_inputs_KernelIdeal.at_c _ _ _ _ _ _ _ _ _).symm.trans (congrFun (hP c).2.2.2.1 _))
    · rw [ins_sn]
      exact Cert.Pre_rope_inputs_KernelIdeal.fin_of _ ((Cert.Pre_rope_inputs_KernelIdeal.at_s _ _ _ _ _ _ _ _ _).symm.trans (congrFun (hP c).2.2.2.2.1 _))
    · rw [ins_pm]
      exact Cert.Pre_rope_inputs_KernelIdeal.pm_of _ _ _ _ _ _ _ _ (hP c).2.2.2.2.2 i j
  · exact (θ_run _ _ _).mono (fun r h => h 0) (Cert.ReferenceIdeal.Value.run (F := Ideal) m' g')

end Cert.RopeMain

end
-- ==== Proof.lean ====
/- The proof of the certificate's claim: the frames of the three programs, that the ideal program is the kernel's own text,
   and that its result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.ValMain
public import Idealize.ShloMosaic.Adequacy
public import Idealize.ShloMosaic.Init

@[expose] public section

noncomputable section

namespace Cert.Proof

open Idealize.ShloMosaic Idealize.SL.Sem

/-- The program read at `Ideal` ends with its arguments as they were and every counter at zero. -/
theorem frame_ideal : Cert.quiescent_KernelIdeal := fun m ρ _ => Cert.Rope.run_args m ρ

/-- So does the program read at `Bits`: it is the same program. -/
theorem frame_kernel : Cert.quiescent_Kernel := fun m ρ _ => by
  rw [Cert.Rope.defs_same]
  exact (θ_run (Cert.KernelIdeal.defs (F := Bits)) _ _).mono (fun _ h => h) (Cert.Rope.run_args (F := Bits) m ρ)

/-- The reference runs and leaves its arguments as they were; it has no counters. -/
theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

theorem claim : Cert.Claim := ⟨Cert.Kernel.Gen.facts, Cert.KernelIdeal.Gen.facts, Cert.ReferenceIdeal.Gen.facts,
  Cert.Pre_rope_inputs_KernelIdeal.facts, Cert.Pre_rope_inputs_ReferenceIdeal.facts,
  frame_kernel, frame_ideal, fun m ρ _ => frame_ideal m ρ trivial, frame_reference, fun m ρ _ => frame_reference m ρ trivial,
  trivial, Cert.RopeMain.algebraic⟩

end Cert.Proof

end
